-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_arguments [hPre_finite_arguments : Cert.Pre_finite_arguments.Facts] (m : (ℓ : Loc Cert.AttnIdeal.nD Cert.AttnIdeal.τ Cert.AttnIdeal.sig) → Buf (Elt Ideal) ℓ) : Prop :=
  ∀ c : Dev Cert.AttnIdeal.nD,
    (Cert.Pre_finite_arguments.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_arguments [hPre_finite_arguments : Cert.Pre_finite_arguments.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_arguments.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15))) = (fun _ => 1#1)

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_finite_proj [hPre_finite_proj : Cert.Pre_finite_proj.Facts] (m : (ℓ : Loc Cert.InpIdeal.nD Cert.InpIdeal.τ Cert.InpIdeal.sig) → Buf (Elt Ideal) ℓ) : Prop :=
  ∀ c : Dev Cert.InpIdeal.nD,
    (Cert.Pre_finite_proj.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7)) (m ((c.tc : Thread Cert.InpIdeal.nD Cert.InpIdeal.τ).loc Cert.InpIdeal.main_arg8)) (m ((c.tc : Thread Cert.InpIdeal.nD Cert.InpIdeal.τ).loc Cert.InpIdeal.main_arg9))) = (fun _ => 1#1)

def Pre_InpRefIdeal (m : (ℓ : Loc Cert.InpRefIdeal.nD Cert.InpRefIdeal.τ Cert.InpRefIdeal.sig) → Buf (Elt Ideal) ℓ) : Prop :=
  True

def Pre_InpRefIdeal_finite_proj [hPre_finite_proj : Cert.Pre_finite_proj.Facts] (m : (ℓ : Loc Cert.InpRefIdeal.nD Cert.InpRefIdeal.τ Cert.InpRefIdeal.sig) → Buf (Elt Ideal) ℓ) : Prop :=
  ∀ c : Dev Cert.InpRefIdeal.nD,
    (Cert.Pre_finite_proj.fn (F := Ideal) (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5)) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7)) (m ((c.tc : Thread Cert.InpRefIdeal.nD Cert.InpRefIdeal.τ).loc Cert.InpRefIdeal.main_arg8)) (m ((c.tc : Thread Cert.InpRefIdeal.nD Cert.InpRefIdeal.τ).loc Cert.InpRefIdeal.main_arg9))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_arguments [hAttnIdeal : Cert.AttnIdeal.Facts] [hPre_finite_arguments : Cert.Pre_finite_arguments.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_arguments m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_arguments [hAttnRefIdeal : Cert.AttnRefIdeal.Facts] [hPre_finite_arguments : Cert.Pre_finite_arguments.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_arguments m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1)
      ∧ r.2.mem ((c.tc : Thread Cert.Mkv.nD Cert.Mkv.τ).loc Cert.Mkv.main_arg2) = m ((c.tc : Thread Cert.Mkv.nD Cert.Mkv.τ).loc Cert.Mkv.main_arg2))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
      ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1)
      ∧ r.2.mem ((c.tc : Thread Cert.MkvRefIdeal.nD Cert.MkvRefIdeal.τ).loc Cert.MkvRefIdeal.main_arg2) = m ((c.tc : Thread Cert.MkvRefIdeal.nD Cert.MkvRefIdeal.τ).loc Cert.MkvRefIdeal.main_arg2))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7)
      ∧ r.2.mem ((c.tc : Thread Cert.Inp.nD Cert.Inp.τ).loc Cert.Inp.main_arg8) = m ((c.tc : Thread Cert.Inp.nD Cert.Inp.τ).loc Cert.Inp.main_arg8)
      ∧ r.2.mem ((c.tc : Thread Cert.Inp.nD Cert.Inp.τ).loc Cert.Inp.main_arg9) = m ((c.tc : Thread Cert.Inp.nD Cert.Inp.τ).loc Cert.Inp.main_arg9))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
      ∧ r.2.mem ((c.tc : Thread Cert.InpIdeal.nD Cert.InpIdeal.τ).loc Cert.InpIdeal.main_arg9) = m ((c.tc : Thread Cert.InpIdeal.nD Cert.InpIdeal.τ).loc Cert.InpIdeal.main_arg9))
      ∧ r.2.sem = fun _ => 0)

def quiescent_InpIdeal_pre_finite_proj [hInpIdeal : Cert.InpIdeal.Facts] [hPre_finite_proj : Cert.Pre_finite_proj.Facts] : Prop :=
  ∀ (m : (ℓ : Loc Cert.InpIdeal.nD Cert.InpIdeal.τ Cert.InpIdeal.sig) → Buf (Elt Ideal) ℓ) (g : Dev Cert.InpIdeal.nD → PrngReg), Pre_InpIdeal_finite_proj m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
      ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
      ∧ r.2.mem ((c.tc : Thread Cert.InpIdeal.nD Cert.InpIdeal.τ).loc Cert.InpIdeal.main_arg9) = m ((c.tc : Thread Cert.InpIdeal.nD Cert.InpIdeal.τ).loc Cert.InpIdeal.main_arg9))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8)
      ∧ r.2.mem ((c.tc : Thread Cert.InpRefIdeal.nD Cert.InpRefIdeal.τ).loc Cert.InpRefIdeal.main_arg9) = m ((c.tc : Thread Cert.InpRefIdeal.nD Cert.InpRefIdeal.τ).loc Cert.InpRefIdeal.main_arg9))
      ∧ r.2.sem = fun _ => 0)

def quiescent_InpRefIdeal_pre_finite_proj [hInpRefIdeal : Cert.InpRefIdeal.Facts] [hPre_finite_proj : Cert.Pre_finite_proj.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal_finite_proj m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7)
      ∧ r.2.mem ((c.tc : Thread Cert.InpRefIdeal.nD Cert.InpRefIdeal.τ).loc Cert.InpRefIdeal.main_arg8) = m ((c.tc : Thread Cert.InpRefIdeal.nD Cert.InpRefIdeal.τ).loc Cert.InpRefIdeal.main_arg8)
      ∧ r.2.mem ((c.tc : Thread Cert.InpRefIdeal.nD Cert.InpRefIdeal.τ).loc Cert.InpRefIdeal.main_arg9) = m ((c.tc : Thread Cert.InpRefIdeal.nD Cert.InpRefIdeal.τ).loc Cert.InpRefIdeal.main_arg9))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_arguments [hAttnIdeal : Cert.AttnIdeal.Facts] [hAttnRefIdeal : Cert.AttnRefIdeal.Facts] [hPre_finite_arguments : Cert.Pre_finite_arguments.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_arguments m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v33) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v18)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v18) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v114) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)
      ∧ m' ((c.tc : Thread Cert.MkvRefIdeal.nD Cert.MkvRefIdeal.τ).loc Cert.MkvRefIdeal.main_arg2) = m ((c.tc : Thread Cert.MkvIdeal.nD Cert.MkvIdeal.τ).loc Cert.MkvIdeal.main_arg2)) →
    ∃ (v0 : (c : Dev Cert.MkvIdeal.nD) → Buf (Elt Ideal) ((c.tc : Thread Cert.MkvIdeal.nD Cert.MkvIdeal.τ).loc Cert.MkvIdeal.main_v4_0)) (v1 : (c : Dev Cert.MkvIdeal.nD) → Buf (Elt Ideal) ((c.tc : Thread Cert.MkvIdeal.nD Cert.MkvIdeal.τ).loc Cert.MkvIdeal.main_v4_1)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v4_0) = v0 c
          ∧ r.2.mem ((c.tc : Thread Cert.MkvIdeal.nD Cert.MkvIdeal.τ).loc Cert.MkvIdeal.main_v4_1) = v1 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
          ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v2) = v0 c
          ∧ r.2.mem ((c.tc : Thread Cert.MkvRefIdeal.nD Cert.MkvRefIdeal.τ).loc Cert.MkvRefIdeal.main_v5) = v1 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1)
          ∧ r.2.mem ((c.tc : Thread Cert.MkvRefIdeal.nD Cert.MkvRefIdeal.τ).loc Cert.MkvRefIdeal.main_arg2) = m' ((c.tc : Thread Cert.MkvRefIdeal.nD Cert.MkvRefIdeal.τ).loc Cert.MkvRefIdeal.main_arg2))

def preserves_Inp_InpIdeal : Prop :=
  True

def algebraic_InpIdeal_InpRefIdeal_pre_finite_proj [hInpIdeal : Cert.InpIdeal.Facts] [hInpRefIdeal : Cert.InpRefIdeal.Facts] [hPre_finite_proj : Cert.Pre_finite_proj.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal_finite_proj m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)
      ∧ m' ((c.tc : Thread Cert.InpRefIdeal.nD Cert.InpRefIdeal.τ).loc Cert.InpRefIdeal.main_arg8) = m ((c.tc : Thread Cert.InpIdeal.nD Cert.InpIdeal.τ).loc Cert.InpIdeal.main_arg8)
      ∧ m' ((c.tc : Thread Cert.InpRefIdeal.nD Cert.InpRefIdeal.τ).loc Cert.InpRefIdeal.main_arg9) = m ((c.tc : Thread Cert.InpIdeal.nD Cert.InpIdeal.τ).loc Cert.InpIdeal.main_arg9)) →
    ∃ (v0 : (c : Dev Cert.InpIdeal.nD) → Buf (Elt Ideal) ((c.tc : Thread Cert.InpIdeal.nD Cert.InpIdeal.τ).loc Cert.InpIdeal.main_v61_0)) (v1 : (c : Dev Cert.InpIdeal.nD) → Buf (Elt Ideal) ((c.tc : Thread Cert.InpIdeal.nD Cert.InpIdeal.τ).loc Cert.InpIdeal.main_v61_1)) (v2 : (c : Dev Cert.InpIdeal.nD) → Buf (Elt Ideal) ((c.tc : Thread Cert.InpIdeal.nD Cert.InpIdeal.τ).loc Cert.InpIdeal.main_v61_2)) (v3 : (c : Dev Cert.InpIdeal.nD) → Buf (Elt Ideal) ((c.tc : Thread Cert.InpIdeal.nD Cert.InpIdeal.τ).loc Cert.InpIdeal.main_v61_3)) (v4 : (c : Dev Cert.InpIdeal.nD) → Buf (Elt Ideal) ((c.tc : Thread Cert.InpIdeal.nD Cert.InpIdeal.τ).loc Cert.InpIdeal.main_v61_4)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v61_0) = v0 c
          ∧ r.2.mem ((c.tc : Thread Cert.InpIdeal.nD Cert.InpIdeal.τ).loc Cert.InpIdeal.main_v61_1) = v1 c
          ∧ r.2.mem ((c.tc : Thread Cert.InpIdeal.nD Cert.InpIdeal.τ).loc Cert.InpIdeal.main_v61_2) = v2 c
          ∧ r.2.mem ((c.tc : Thread Cert.InpIdeal.nD Cert.InpIdeal.τ).loc Cert.InpIdeal.main_v61_3) = v3 c
          ∧ r.2.mem ((c.tc : Thread Cert.InpIdeal.nD Cert.InpIdeal.τ).loc Cert.InpIdeal.main_v61_4) = v4 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7)
          ∧ r.2.mem ((c.tc : Thread Cert.InpIdeal.nD Cert.InpIdeal.τ).loc Cert.InpIdeal.main_arg8) = m ((c.tc : Thread Cert.InpIdeal.nD Cert.InpIdeal.τ).loc Cert.InpIdeal.main_arg8)
          ∧ r.2.mem ((c.tc : Thread Cert.InpIdeal.nD Cert.InpIdeal.τ).loc Cert.InpIdeal.main_arg9) = m ((c.tc : Thread Cert.InpIdeal.nD Cert.InpIdeal.τ).loc Cert.InpIdeal.main_arg9))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v99) = v0 c
          ∧ r.2.mem ((c.tc : Thread Cert.InpRefIdeal.nD Cert.InpRefIdeal.τ).loc Cert.InpRefIdeal.main_v101) = v1 c
          ∧ r.2.mem ((c.tc : Thread Cert.InpRefIdeal.nD Cert.InpRefIdeal.τ).loc Cert.InpRefIdeal.main_v103) = v2 c
          ∧ r.2.mem ((c.tc : Thread Cert.InpRefIdeal.nD Cert.InpRefIdeal.τ).loc Cert.InpRefIdeal.main_v105) = v3 c
          ∧ r.2.mem ((c.tc : Thread Cert.InpRefIdeal.nD Cert.InpRefIdeal.τ).loc Cert.InpRefIdeal.main_v113) = v4 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7)
          ∧ r.2.mem ((c.tc : Thread Cert.InpRefIdeal.nD Cert.InpRefIdeal.τ).loc Cert.InpRefIdeal.main_arg8) = m' ((c.tc : Thread Cert.InpRefIdeal.nD Cert.InpRefIdeal.τ).loc Cert.InpRefIdeal.main_arg8)
          ∧ r.2.mem ((c.tc : Thread Cert.InpRefIdeal.nD Cert.InpRefIdeal.τ).loc Cert.InpRefIdeal.main_arg9) = m' ((c.tc : Thread Cert.InpRefIdeal.nD Cert.InpRefIdeal.τ).loc Cert.InpRefIdeal.main_arg9))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v18_0)) (v1 : (c : Dev Cert.RopeIdeal.nD) → Buf (Elt Ideal) ((c.tc : Thread Cert.RopeIdeal.nD Cert.RopeIdeal.τ).loc Cert.RopeIdeal.main_v18_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v18_0) = v0 c
          ∧ r.2.mem ((c.tc : Thread Cert.RopeIdeal.nD Cert.RopeIdeal.τ).loc Cert.RopeIdeal.main_v18_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v17) = v0 c
          ∧ r.2.mem ((c.tc : Thread Cert.RopeRefIdeal.nD Cert.RopeRefIdeal.τ).loc Cert.RopeRefIdeal.main_v19) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hMix : Cert.Mix.Facts) (hMixIdeal : Cert.MixIdeal.Facts) (hMixRefIdeal : Cert.MixRefIdeal.Facts) (hMkv : Cert.Mkv.Facts) (hMkvIdeal : Cert.MkvIdeal.Facts) (hMkvRefIdeal : Cert.MkvRefIdeal.Facts) (hInp : Cert.Inp.Facts) (hInpIdeal : Cert.InpIdeal.Facts) (hInpRefIdeal : Cert.InpRefIdeal.Facts) (hRope : Cert.Rope.Facts) (hRopeIdeal : Cert.RopeIdeal.Facts) (hRopeRefIdeal : Cert.RopeRefIdeal.Facts) (hPre_finite_arguments : Cert.Pre_finite_arguments.Facts) (hPre_finite_mix : Cert.Pre_finite_mix.Facts) (hPre_finite_proj : Cert.Pre_finite_proj.Facts),
    quiescent_Attn (hAttn := hAttn)
    ∧ quiescent_AttnIdeal (hAttnIdeal := hAttnIdeal)
    ∧ quiescent_AttnIdeal_pre_finite_arguments (hAttnIdeal := hAttnIdeal) (hPre_finite_arguments := hPre_finite_arguments)
    ∧ quiescent_AttnRefIdeal (hAttnRefIdeal := hAttnRefIdeal)
    ∧ quiescent_AttnRefIdeal_pre_finite_arguments (hAttnRefIdeal := hAttnRefIdeal) (hPre_finite_arguments := hPre_finite_arguments)
    ∧ quiescent_Mlp (hMlp := hMlp)
    ∧ quiescent_MlpIdeal (hMlpIdeal := hMlpIdeal)
    ∧ quiescent_MlpRefIdeal (hMlpRefIdeal := hMlpRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Mkv (hMkv := hMkv)
    ∧ quiescent_MkvIdeal (hMkvIdeal := hMkvIdeal)
    ∧ quiescent_MkvRefIdeal (hMkvRefIdeal := hMkvRefIdeal)
    ∧ quiescent_Inp (hInp := hInp)
    ∧ quiescent_InpIdeal (hInpIdeal := hInpIdeal)
    ∧ quiescent_InpIdeal_pre_finite_proj (hInpIdeal := hInpIdeal) (hPre_finite_proj := hPre_finite_proj)
    ∧ quiescent_InpRefIdeal (hInpRefIdeal := hInpRefIdeal)
    ∧ quiescent_InpRefIdeal_pre_finite_proj (hInpRefIdeal := hInpRefIdeal) (hPre_finite_proj := hPre_finite_proj)
    ∧ quiescent_Rope (hRope := hRope)
    ∧ quiescent_RopeIdeal (hRopeIdeal := hRopeIdeal)
    ∧ quiescent_RopeRefIdeal (hRopeRefIdeal := hRopeRefIdeal)
    ∧ preserves_Attn_AttnIdeal
    ∧ algebraic_AttnIdeal_AttnRefIdeal_pre_finite_arguments (hAttnIdeal := hAttnIdeal) (hAttnRefIdeal := hAttnRefIdeal) (hPre_finite_arguments := hPre_finite_arguments)
    ∧ preserves_Mlp_MlpIdeal
    ∧ algebraic_MlpIdeal_MlpRefIdeal (hMlpIdeal := hMlpIdeal) (hMlpRefIdeal := hMlpRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Mkv_MkvIdeal
    ∧ algebraic_MkvIdeal_MkvRefIdeal (hMkvIdeal := hMkvIdeal) (hMkvRefIdeal := hMkvRefIdeal)
    ∧ preserves_Inp_InpIdeal
    ∧ algebraic_InpIdeal_InpRefIdeal_pre_finite_proj (hInpIdeal := hInpIdeal) (hInpRefIdeal := hInpRefIdeal) (hPre_finite_proj := hPre_finite_proj)
    ∧ preserves_Rope_RopeIdeal
    ∧ algebraic_RopeIdeal_RopeRefIdeal (hRopeIdeal := hRopeIdeal) (hRopeRefIdeal := hRopeRefIdeal)
-- ==== Pre_finite_arguments.lean ====
abbrev S8x8192x1024 : Shape := ⟨3, ![8, 8192, 1024]⟩
abbrev S8x8192x512 : Shape := ⟨3, ![8, 8192, 512]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel

variable [Facts]

def fn {F : FTy → Type} [FloatOps F] (main_arg0 : FVec F S8x8192x1024 .bf16) (main_arg1 : FVec F S8x8192x1024 .bf16) (main_arg2 : FVec F S8x8192x512 .bf16) : IVec S_ 1 :=
  let main_v0 : FVec F S8x8192x1024 .f32 := (extf .f32 · bitsLt_bf16_f32) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_c : IVec S_ 1 := constantI S_ 1 1#1
  let main_v4 : IVec S_ 1 := (fun x v => Host.reduce IntOp.andi x v reducesTo_S8x8192x1024_S_d0_1_2 h_S_) main_v3 main_c
  let main_v5 : FVec F S8x8192x1024 .f32 := (extf .f32 · bitsLt_bf16_f32) main_arg1
  let main_v6 : FVec F S8x8192x1024 .f32 := Host.absf main_v5
  let main_cst_0 : FVec F S_ .f32 := constant S_ .f32 0x7F800000#32
  let main_v7 : FVec F S8x8192x1024 .f32 := broadcastInDim S8x8192x1024 ![] bcast_S_S8x8192x1024 main_cst_0
  let main_v8 : IVec S8x8192x1024 1 := cmpf .olt main_v6 main_v7
  let main_c_1 : IVec S_ 1 := constantI S_ 1 1#1
  let main_v9 : IVec S_ 1 := (fun x v => Host.reduce IntOp.andi x v reducesTo_S8x8192x1024_S_d0_1_2 h_S_) main_v8 main_c_1
  let main_v10 : IVec S_ 1 := andi main_v4 main_v9
  main_v10
-- ==== Pre_finite_mix.lean ====
abbrev S8x8192x1024 : Shape := ⟨3, ![8, 8192, 1024]⟩
abbrev S8x8192x512 : Shape := ⟨3, ![8, 8192, 512]⟩
abbrev S8x8192x2048 : Shape := ⟨3, ![8, 8192, 2048]⟩
abbrev S8x256x1024 : Shape := ⟨3, ![8, 256, 1024]⟩
abbrev S1024 : Shape := ⟨1, ![1024]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bitsLt_bf16_f32 : FTy.bits .bf16 < FTy.bits .f32
  bcast_S_S8x8192x512 : S_.BroadcastsInDim S8x8192x512 (![] : Fin 0 → Fin S8x8192x512.rank)
  reducesTo_S8x8192x512_S_d0_1_2 : S8x8192x512.ReducesTo [0, 1, 2] S_
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S1024 : S_.BroadcastsInDim S1024 (![] : Fin 0 → Fin S1024.rank)
  reducesTo_S1024_S_d0 : S1024.ReducesTo [0] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_arg11 : FVec F S1x1024 .f32) (main_arg12 : FVec F S1x1024x1024 .f32) (main_v47 : IVec S_ 1) (main_v51 : IVec S_ 1) : IVec S_ 1 :=
  let main_v52 : IVec S_ 1 := andi main_v47 main_v51
  let main_v53 : FVec F S1x1024 .f32 := Host.absf main_arg11
  let main_cst_18 : FVec F S_ .f32 := constant S_ .f32 0x7F800000#32
  let main_v54 : FVec F S1x1024 .f32 := broadcastInDim S1x1024 ![] bcast_S_S1x1024 main_cst_18
  let main_v55 : IVec S1x1024 1 := cmpf .olt main_v53 main_v54
  let main_c_19 : IVec S_ 1 := constantI S_ 1 1#1
  let main_v56 : IVec S_ 1 := (fun x v => Host.reduce IntOp.andi x v reducesTo_S1x1024_S_d0_1 h_S_) main_v55 main_c_19
  let main_v57 : IVec S_ 1 := andi main_v52 main_v56
  let main_v58 : FVec F S1x1024x1024 .f32 := Host.absf main_arg12
  let main_cst_20 : FVec F S_ .f32 := constant S_ .f32 0x7F800000#32
  let main_v59 : FVec F S1x1024x1024 .f32 := broadcastInDim S1x1024x1024 ![] bcast_S_S1x1024x1024 main_cst_20
  let main_v60 : IVec S1x1024x1024 1 := cmpf .olt main_v58 main_v59
  let main_c_21 : IVec S_ 1 := constantI S_ 1 1#1
  let main_v61 : IVec S_ 1 := (fun x v => Host.reduce IntOp.andi x v reducesTo_S1x1024x1024_S_d0_1_2 h_S_) main_v60 main_c_21
  let main_v62 : IVec S_ 1 := andi main_v57 main_v61
  main_v62

def fn_part2 {F : FTy → Type} [FloatOps F] (main_arg8 : FVec F S1x512x1024 .f32) (main_arg9 : FVec F S1x1024x1024 .f32) (main_arg10 : FVec F S1x1024 .f32) (main_arg11 : FVec F S1x1024 .f32) (main_arg12 : FVec F S1x1024x1024 .f32) (main_v32 : IVec S_ 1) (main_v33 : FVec F S1024 .f32) (main_v34 : FVec F S1024 .f32) : IVec S_ 1 :=
  let main_v35 : IVec S1024 1 := cmpf .olt main_v33 main_v34
  let main_c_11 : IVec S_ 1 := constantI S_ 1 1#1
  let main_v36 : IVec S_ 1 := (fun x v => Host.reduce IntOp.andi x v reducesTo_S1024_S_d0 h_S_) main_v35 main_c_11
  let main_v37 : IVec S_ 1 := andi main_v32 main_v36
  let main_v38 : FVec F S1x512x1024 .f32 := Host.absf main_arg8
  let main_cst_12 : FVec F S_ .f32 := constant S_ .f32 0x7F800000#32
  let main_v39 : FVec F S1x512x1024 .f32 := broadcastInDim S1x512x1024 ![] bcast_S_S1x512x1024 main_cst_12
  let main_v40 : IVec S1x512x1024 1 := cmpf .olt main_v38 main_v39
  let main_c_13 : IVec S_ 1 := constantI S_ 1 1#1
  let main_v41 : IVec S_ 1 := (fun x v => Host.reduce IntOp.andi x v reducesTo_S1x512x1024_S_d0_1_2 h_S_) main_v40 main_c_13
  let main_v42 : IVec S_ 1 := andi main_v37 main_v41
  let main_v43 : FVec F S1x1024x1024 .f32 := Host.absf main_arg9
  let main_cst_14 : FVec F S_ .f32 := constant S_ .f32 0x7F800000#32
  let main_v44 : FVec F S1x1024x1024 .f32 := broadcastInDim S1x1024x1024 ![] bcast_S_S1x1024x1024 main_cst_14
  let main_v45 : IVec S1x1024x1024 1 := cmpf .olt main_v43 main_v44
  let main_c_15 : IVec S_ 1 := constantI S_ 1 1#1
  let main_v46 : IVec S_ 1 := (fun x v => Host.reduce IntOp.andi x v reducesTo_S1x1024x1024_S_d0_1_2 h_S_) main_v45 main_c_15
  let main_v47 : IVec S_ 1 := andi main_v42 main_v46
  let main_v48 : FVec F S1x1024 .f32 := Host.absf main_arg10
  let main_cst_16 : FVec F S_ .f32 := constant S_ .f32 0x7F800000#32
  let main_v49 : FVec F S1x1024 .f32 := broadcastInDim S1x1024 ![] bcast_S_S1x1024 main_cst_16
  let main_v50 : IVec S1x1024 1 := cmpf .olt main_v48 main_v49
  let main_c_17 : IVec S_ 1 := constantI S_ 1 1#1
  let main_v51 : IVec S_ 1 := (fun x v => Host.reduce IntOp.andi x v reducesTo_S1x1024_S_d0_1 h_S_) main_v50 main_c_17
  fn_part3 (F := F) main_arg11 main_arg12 main_v47 main_v51

def fn_part1 {F : FTy → Type} [FloatOps F] (main_arg4 : FVec F S8x256x1024 .bf16) (main_arg6 : FVec F S1024 .f32) (main_arg7 : FVec F S1024 .f32) (main_arg8 : FVec F S1x512x1024 .f32) (main_arg9 : FVec F S1x1024x1024 .f32) (main_arg10 : FVec F S1x1024 .f32) (main_arg11 : FVec F S1x1024 .f32) (main_arg12 : FVec F S1x1024x1024 .f32) (main_v15 : IVec S_ 1) (main_v17 : FVec F S8x8192x2048 .f32) : IVec S_ 1 :=
  let main_cst_4 : FVec F S_ .f32 := constant S_ .f32 0x7F800000#32
  let main_v18 : FVec F S8x8192x2048 .f32 := broadcastInDim S8x8192x2048 ![] bcast_S_S8x8192x2048 main_cst_4
  let main_v19 : IVec S8x8192x2048 1 := cmpf .olt main_v17 main_v18
  let main_c_5 : IVec S_ 1 := constantI S_ 1 1#1
  let main_v20 : IVec S_ 1 := (fun x v => Host.reduce IntOp.andi x v reducesTo_S8x8192x2048_S_d0_1_2 h_S_) main_v19 main_c_5
  let main_v21 : IVec S_ 1 := andi main_v15 main_v20
  let main_v22 : FVec F S8x256x1024 .f32 := (extf .f32 · bitsLt_bf16_f32) main_arg4
  let main_v23 : FVec F S8x256x1024 .f32 := Host.absf main_v22
  let main_cst_6 : FVec F S_ .f32 := constant S_ .f32 0x7F800000#32
  let main_v24 : FVec F S8x256x1024 .f32 := broadcastInDim S8x256x1024 ![] bcast_S_S8x256x1024 main_cst_6
  let main_v25 : IVec S8x256x1024 1 := cmpf .olt main_v23 main_v24
  let main_c_7 : IVec S_ 1 := constantI S_ 1 1#1
  let main_v26 : IVec S_ 1 := (fun x v => Host.reduce IntOp.andi x v reducesTo_S8x256x1024_S_d0_1_2 h_S_) main_v25 main_c_7
  let main_v27 : IVec S_ 1 := andi main_v21 main_v26
  let main_v28 : FVec F S1024 .f32 := Host.absf main_arg6
  let main_cst_8 : FVec F S_ .f32 := constant S_ .f32 0x7F800000#32
  let main_v29 : FVec F S1024 .f32 := broadcastInDim S1024 ![] bcast_S_S1024 main_cst_8
  let main_v30 : IVec S1024 1 := cmpf .olt main_v28 main_v29
  let main_c_9 : IVec S_ 1 := constantI S_ 1 1#1
  let main_v31 : IVec S_ 1 := (fun x v => Host.reduce IntOp.andi x v reducesTo_S1024_S_d0 h_S_) main_v30 main_c_9
  let main_v32 : IVec S_ 1 := andi main_v27 main_v31
  let main_v33 : FVec F S1024 .f32 := Host.absf main_arg7
  let main_cst_10 : FVec F S_ .f32 := constant S_ .f32 0x7F800000#32
  let main_v34 : FVec F S1024 .f32 := broadcastInDim S1024 ![] bcast_S_S1024 main_cst_10
  fn_part2 (F := F) main_arg8 main_arg9 main_arg10 main_arg11 main_arg12 main_v32 main_v33 main_v34

def fn {F : FTy → Type} [FloatOps F] (main_arg0 : FVec F S8x8192x1024 .f32) (main_arg1 : FVec F S8x8192x512 .bf16) (main_arg2 : FVec F S8x8192x1024 .bf16) (main_arg3 : FVec F S8x8192x2048 .bf16) (main_arg4 : FVec F S8x256x1024 .bf16) (main_arg5 : FVec F S8x256x1024 .bf16) (main_arg6 : FVec F S1024 .f32) (main_arg7 : FVec F S1024 .f32) (main_arg8 : FVec F S1x512x1024 .f32) (main_arg9 : FVec F S1x1024x1024 .f32) (main_arg10 : FVec F S1x1024 .f32) (main_arg11 : FVec F S1x1024 .f32) (main_arg12 : FVec F S1x1024x1024 .f32) (main_arg13 : FVec F S1x1024x1024 .f32) (main_arg14 : FVec F S1x1024 .f32) (main_arg15 : FVec F S1x1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x512 .f32 := (extf .f32 · bitsLt_bf16_f32) main_arg1
  let main_v5 : FVec F S8x8192x512 .f32 := Host.absf main_v4
  let main_cst_0 : FVec F S_ .f32 := constant S_ .f32 0x7F800000#32
  let main_v6 : FVec F S8x8192x512 .f32 := broadcastInDim S8x8192x512 ![] bcast_S_S8x8192x512 main_cst_0
  let main_v7 : IVec S8x8192x512 1 := cmpf .olt main_v5 main_v6
  let main_c_1 : IVec S_ 1 := constantI S_ 1 1#1
  let main_v8 : IVec S_ 1 := (fun x v => Host.reduce IntOp.andi x v reducesTo_S8x8192x512_S_d0_1_2 h_S_) main_v7 main_c_1
  let main_v9 : IVec S_ 1 := andi main_v3 main_v8
  let main_v10 : FVec F S8x8192x1024 .f32 := (extf .f32 · bitsLt_bf16_f32) main_arg2
  let main_v11 : FVec F S8x8192x1024 .f32 := Host.absf main_v10
  let main_cst_2 : FVec F S_ .f32 := constant S_ .f32 0x7F800000#32
  let main_v12 : FVec F S8x8192x1024 .f32 := broadcastInDim S8x8192x1024 ![] bcast_S_S8x8192x1024 main_cst_2
  let main_v13 : IVec S8x8192x1024 1 := cmpf .olt main_v11 main_v12
  let main_c_3 : IVec S_ 1 := constantI S_ 1 1#1
  let main_v14 : IVec S_ 1 := (fun x v => Host.reduce IntOp.andi x v reducesTo_S8x8192x1024_S_d0_1_2 h_S_) main_v13 main_c_3
  let main_v15 : IVec S_ 1 := andi main_v9 main_v14
  let main_v16 : FVec F S8x8192x2048 .f32 := (extf .f32 · bitsLt_bf16_f32) main_arg3
  let main_v17 : FVec F S8x8192x2048 .f32 := Host.absf main_v16
  fn_part1 (F := F) main_arg4 main_arg6 main_arg7 main_arg8 main_arg9 main_arg10 main_arg11 main_arg12 main_v15 main_v17
-- ==== Pre_finite_proj.lean ====
abbrev S8x8192x1024 : Shape := ⟨3, ![8, 8192, 1024]⟩
abbrev S8x8192x16 : Shape := ⟨3, ![8, 8192, 16]⟩
abbrev S1024 : Shape := ⟨1, ![1024]⟩
abbrev S1x1024x2848 : Shape := ⟨3, ![1, 1024, 2848]⟩
abbrev S1x256 : Shape := ⟨2, ![1, 256]⟩
abbrev S1x256x768 : Shape := ⟨3, ![1, 256, 768]⟩
abbrev S1x256x1024 : Shape := ⟨3, ![1, 256, 1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1x1024x2848 : S_.BroadcastsInDim S1x1024x2848 (![] : Fin 0 → Fin S1x1024x2848.rank)
  reducesTo_S1x1024x2848_S_d0_1_2 : S1x1024x2848.ReducesTo [0, 1, 2] S_
  bcast_S_S1x256 : S_.BroadcastsInDim S1x256 (![] : Fin 0 → Fin S1x256.rank)
  reducesTo_S1x256_S_d0_1 : S1x256.ReducesTo [0, 1] S_
  bcast_S_S1x256x768 : S_.BroadcastsInDim S1x256x768 (![] : Fin 0 → Fin S1x256x768.rank)
  reducesTo_S1x256x768_S_d0_1_2 : S1x256x768.ReducesTo [0, 1, 2] S_

variable [Facts]

def fn_part1 {F : FTy → Type} [FloatOps F] (main_arg6 : FVec F S1x256 .f32) (main_arg7 : FVec F S1x256x768 .f32) (main_v13 : IVec S_ 1) (main_v16 : IVec S1x1024x2848 1) : IVec S_ 1 :=
  let main_c_5 : IVec S_ 1 := constantI S_ 1 1#1
  let main_v17 : IVec S_ 1 := (fun x v => Host.reduce IntOp.andi x v reducesTo_S1x1024x2848_S_d0_1_2 h_S_) main_v16 main_c_5
  let main_v18 : IVec S_ 1 := andi main_v13 main_v17
  let main_v19 : FVec F S1x256 .f32 := Host.absf main_arg6
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1x256x768 .f32 := Host.absf main_arg7
  let main_cst_8 : FVec F S_ .f32 := constant S_ .f32 0x7F800000#32
  let main_v25 : FVec F S1x256x768 .f32 := broadcastInDim S1x256x768 ![] bcast_S_S1x256x768 main_cst_8
  let main_v26 : IVec S1x256x768 1 := cmpf .olt main_v24 main_v25
  let main_c_9 : IVec S_ 1 := constantI S_ 1 1#1
  let main_v27 : IVec S_ 1 := (fun x v => Host.reduce IntOp.andi x v reducesTo_S1x256x768_S_d0_1_2 h_S_) main_v26 main_c_9
  let main_v28 : IVec S_ 1 := andi main_v23 main_v27
  main_v28

def fn {F : FTy → Type} [FloatOps F] (main_arg0 : FVec F S8x8192x1024 .f32) (main_arg1 : FVec F S8x8192x16 .f32) (main_arg2 : FVec F S8x8192x16 .f32) (main_arg3 : FVec F S1024 .f32) (main_arg4 : FVec F S1024 .f32) (main_arg5 : FVec F S1x1024x2848 .f32) (main_arg6 : FVec F S1x256 .f32) (main_arg7 : FVec F S1x256x768 .f32) (main_arg8 : FVec F S1x256 .f32) (main_arg9 : FVec F S1x256x1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1024x2848 .f32 := Host.absf main_arg5
  let main_cst_4 : FVec F S_ .f32 := constant S_ .f32 0x7F800000#32
  let main_v15 : FVec F S1x1024x2848 .f32 := broadcastInDim S1x1024x2848 ![] bcast_S_S1x1024x2848 main_cst_4
  let main_v16 : IVec S1x1024x2848 1 := cmpf .olt main_v14 main_v15
  fn_part1 (F := F) main_arg6 main_arg7 main_v13 main_v16
-- ==== Attn.lean ====
abbrev S8x8192x1024 : Shape := ⟨3, ![8, 8192, 1024]⟩
abbrev S8x8192x512 : Shape := ⟨3, ![8, 8192, 512]⟩
abbrev S1x512x256 : Shape := ⟨3, ![1, 512, 256]⟩
abbrev S1x8192x256 : Shape := ⟨3, ![1, 8192, 256]⟩
abbrev S1x8192x128 : Shape := ⟨3, ![1, 8192, 128]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x512, .bf16⟩
  | .hbm, ⟨3, _⟩ => ⟨S8x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .bf16⟩
  | .local _ .vmem, ⟨7, _⟩ => ⟨S1x512x128, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32 : BitVec 32 := 0#32
  let arg2 : BitVec 32 := BitVec.ofNat 32 (i 2).val
  let c1_i32 : BitVec 32 := 1#32
  let v0 : BitVec 32 := Scalar.muli arg2 c1_i32
  let v6 : BitVec 32 := Scalar.subi v0 c0_i32
  let c1_i32_4 : BitVec 32 := 1#32
  let v8 : BitVec 32 := Scalar.divsi v6 c1_i32_4
  let v9 : BitVec 32 := Scalar.muli v8 c1_i32_4
  let v10 : BitVec 32 := Scalar.addi c0_i32 v9
  let c1_i32_5 : BitVec 32 := 1#32
  ⟨c0_i32, v10, c1_i32_5⟩
def k0_mult1 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c512_i32_44 : BitVec 32 := 512#32
  let v113 : BitVec 32 := Scalar.muli arg7 c512_i32_44
  v113
def k0_off1 (i : grid0.Coords) (k0_t1 : Fin (k0_t1_loop i).trips) : Fin 3 → Nat :=
  let c0_45 : Index := 0#32
  let c0_i32 : BitVec 32 := 0#32
  let c1_i32_5 : BitVec 32 := 1#32
  let arg7 : BitVec 32 := Scf.iv c0_i32 c1_i32_5 k0_t1
  let c512_i32_44 : BitVec 32 := 512#32
  let v113 : BitVec 32 := Scalar.muli arg7 c512_i32_44
  let v114 : BitVec 32 := v113
  let v115 : Index := Scalar.indexCast v114
  let c0_46 : Index := 0#32
  ![0, v115.toNat, 0]
def k0_off2 (i : grid0.Coords) (k0_t1 : Fin (k0_t1_loop i).trips) : Fin 3 → Nat :=
  let c0_50 : Index := 0#32
  let c0_i32 : BitVec 32 := 0#32
  let c1_i32_5 : BitVec 32 := 1#32
  let arg7 : BitVec 32 := Scf.iv c0_i32 c1_i32_5 k0_t1
  let c512_i32_44 : BitVec 32 := 512#32
  let v113 : BitVec 32 := Scalar.muli arg7 c512_i32_44
  let v114 : BitVec 32 := v113
  let v134 : Index := Scalar.indexCast v114
  let c0_51 : Index := 0#32
  ![0, v134.toNat, 0]
@[reducible] def k0_t2_loop (i : grid0.Coords) : Scf.Loop 32 :=
  let c0_i32 : BitVec 32 := 0#32
  let arg2 : BitVec 32 := BitVec.ofNat 32 (i 2).val
  let c1_i32 : BitVec 32 := 1#32
  let v0 : BitVec 32 := Scalar.muli arg2 c1_i32
  let v6 : BitVec 32 := Scalar.subi v0 c0_i32
  let c1_i32_4 : BitVec 32 := 1#32
  let v8 : BitVec 32 := Scalar.divsi v6 c1_i32_4
  let v9 : BitVec 32 := Scalar.muli v8 c1_i32_4
  let v10 : BitVec 32 := Scalar.addi c0_i32 v9
  let v7 : BitVec 32 := Scalar.addi c0_i32 v6
  let c1_i32_6 : BitVec 32 := 1#32
  ⟨v10, v7, c1_i32_6⟩
def k0_mult2 (i : grid0.Coords) (k0_t2 : Fin (k0_t2_loop i).trips) : BitVec 32 :=
  let c0_i32 : BitVec 32 := 0#32
  let arg2 : BitVec 32 := BitVec.ofNat 32 (i 2).val
  let c1_i32 : BitVec 32 := 1#32
  let v0 : BitVec 32 := Scalar.muli arg2 c1_i32
  let v6 : BitVec 32 := Scalar.subi v0 c0_i32
  let c1_i32_4 : BitVec 32 := 1#32
  let v8 : BitVec 32 := Scalar.divsi v6 c1_i32_4
  let v9 : BitVec 32 := Scalar.muli v8 c1_i32_4
  let v10 : BitVec 32 := Scalar.addi c0_i32 v9
  let c1_i32_6 : BitVec 32 := 1#32
  let arg7 : BitVec 32 := Scf.iv v10 c1_i32_6 k0_t2
  let c512_i32_44 : BitVec 32 := 512#32
  let v113 : BitVec 32 := Scalar.muli arg7 c512_i32_44
  v113
def k0_off3 (i : grid0.Coords) (k0_t2 : Fin (k0_t2_loop i).trips) : Fin 3 → Nat :=
  let c0_45 : Index := 0#32
  let c0_i32 : BitVec 32 := 0#32
  let arg2 : BitVec 32 := BitVec.ofNat 32 (i 2).val
  let c1_i32 : BitVec 32 := 1#32
  let v0 : BitVec 32 := Scalar.muli arg2 c1_i32
  let v6 : BitVec 32 := Scalar.subi v0 c0_i32
  let c1_i32_4 : BitVec 32 := 1#32
  let v8 : BitVec 32 := Scalar.divsi v6 c1_i32_4
  let v9 : BitVec 32 := Scalar.muli v8 c1_i32_4
  let v10 : BitVec 32 := Scalar.addi c0_i32 v9
  let c1_i32_6 : BitVec 32 := 1#32
  let arg7 : BitVec 32 := Scf.iv v10 c1_i32_6 k0_t2
  let c512_i32_44 : BitVec 32 := 512#32
  let v113 : BitVec 32 := Scalar.muli arg7 c512_i32_44
  let v114 : BitVec 32 := v113
  let v115 : Index := Scalar.indexCast v114
  let c0_46 : Index := 0#32
  ![0, v115.toNat, 0]
def k0_off4 (i : grid0.Coords) (k0_t2 : Fin (k0_t2_loop i).trips) : Fin 3 → Nat :=
  let c0_50 : Index := 0#32
  let c0_i32 : BitVec 32 := 0#32
  let arg2 : BitVec 32 := BitVec.ofNat 32 (i 2).val
  let c1_i32 : BitVec 32 := 1#32
  let v0 : BitVec 32 := Scalar.muli arg2 c1_i32
  let v6 : BitVec 32 := Scalar.subi v0 c0_i32
  let c1_i32_4 : BitVec 32 := 1#32
  let v8 : BitVec 32 := Scalar.divsi v6 c1_i32_4
  let v9 : BitVec 32 := Scalar.muli v8 c1_i32_4
  let v10 : BitVec 32 := Scalar.addi c0_i32 v9
  let c1_i32_6 : BitVec 32 := 1#32
  let arg7 : BitVec 32 := Scf.iv v10 c1_i32_6 k0_t2
  let c512_i32_44 : BitVec 32 := 512#32
  let v113 : BitVec 32 := Scalar.muli arg7 c512_i32_44
  let v114 : BitVec 32 := v113
  let v134 : Index := Scalar.indexCast v114
  let c0_51 : Index := 0#32
  ![0, v134.toNat, 0]
def k0_mult3 (i : grid0.Coords) : BitVec 32 :=
  let arg2 : BitVec 32 := BitVec.ofNat 32 (i 2).val
  let c1_i32 : BitVec 32 := 1#32
  let v0 : BitVec 32 := Scalar.muli arg2 c1_i32
  let c0_i32_7 : BitVec 32 := 0#32
  let v13 : BitVec 32 := Scalar.addi v0 c0_i32_7
  let c512_i32 : BitVec 32 := 512#32
  let v14 : BitVec 32 := Scalar.muli v13 c512_i32
  v14
def k0_off5 (i : grid0.Coords) : Fin 3 → Nat :=
  let c0_8 : Index := 0#32
  let arg2 : BitVec 32 := BitVec.ofNat 32 (i 2).val
  let c1_i32 : BitVec 32 := 1#32
  let v0 : BitVec 32 := Scalar.muli arg2 c1_i32
  let c0_i32_7 : BitVec 32 := 0#32
  let v13 : BitVec 32 := Scalar.addi v0 c0_i32_7
  let c512_i32 : BitVec 32 := 512#32
  let v14 : BitVec 32 := Scalar.muli v13 c512_i32
  let v15 : BitVec 32 := v14
  let v16 : Index := Scalar.indexCast v15
  let c0_9 : Index := 0#32
  ![0, v16.toNat, 0]
def k0_off6 (i : grid0.Coords) : Fin 3 → Nat :=
  let c0_16 : Index := 0#32
  let arg2 : BitVec 32 := BitVec.ofNat 32 (i 2).val
  let c1_i32 : BitVec 32 := 1#32
  let v0 : BitVec 32 := Scalar.muli arg2 c1_i32
  let c0_i32_7 : BitVec 32 := 0#32
  let v13 : BitVec 32 := Scalar.addi v0 c0_i32_7
  let c512_i32 : BitVec 32 := 512#32
  let v14 : BitVec 32 := Scalar.muli v13 c512_i32
  let v15 : BitVec 32 := v14
  let v46 : Index := Scalar.indexCast v15
  let c0_17 : Index := 0#32
  ![0, v46.toNat, 0]
@[reducible] def k0_t3_loop (i : grid0.Coords) : Scf.Loop 32 :=
  let c0_i32_24 : BitVec 32 := 0#32
  let arg2 : BitVec 32 := BitVec.ofNat 32 (i 2).val
  let c1_i32 : BitVec 32 := 1#32
  let v0 : BitVec 32 := Scalar.muli arg2 c1_i32
  let v58 : BitVec 32 := Scalar.subi v0 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_26 : BitVec 32 := 1#32
  ⟨c0_i32_24, v62, c1_i32_26⟩
def k0_mult4 (i : grid0.Coords) (k0_t3 : Fin (k0_t3_loop i).trips) : BitVec 32 :=
  let c0_i32_24 : BitVec 32 := 0#32
  let c1_i32_26 : BitVec 32 := 1#32
  let arg7 : BitVec 32 := Scf.iv c0_i32_24 c1_i32_26 k0_t3
  let c512_i32_44 : BitVec 32 := 512#32
  let v113 : BitVec 32 := Scalar.muli arg7 c512_i32_44
  v113
def k0_off7 (i : grid0.Coords) (k0_t3 : Fin (k0_t3_loop i).trips) : Fin 3 → Nat :=
  let c0_45 : Index := 0#32
  let c0_i32_24 : BitVec 32 := 0#32
  let c1_i32_26 : BitVec 32 := 1#32
  let arg7 : BitVec 32 := Scf.iv c0_i32_24 c1_i32_26 k0_t3
  let c512_i32_44 : BitVec 32 := 512#32
  let v113 : BitVec 32 := Scalar.muli arg7 c512_i32_44
  let v114 : BitVec 32 := v113
  let v115 : Index := Scalar.indexCast v114
  let c128_46 : Index := 128#32
  ![0, v115.toNat, 128]
def k0_off8 (i : grid0.Coords) (k0_t3 : Fin (k0_t3_loop i).trips) : Fin 3 → Nat :=
  let c0_50 : Index := 0#32
  let c0_i32_24 : BitVec 32 := 0#32
  let c1_i32_26 : BitVec 32 := 1#32
  let arg7 : BitVec 32 := Scf.iv c0_i32_24 c1_i32_26 k0_t3
  let c512_i32_44 : BitVec 32 := 512#32
  let v113 : BitVec 32 := Scalar.muli arg7 c512_i32_44
  let v114 : BitVec 32 := v113
  let v134 : Index := Scalar.indexCast v114
  let c0_51 : Index := 0#32
  ![0, v134.toNat, 0]
@[reducible] def k0_t4_loop (i : grid0.Coords) : Scf.Loop 32 :=
  let c0_i32_24 : BitVec 32 := 0#32
  let arg2 : BitVec 32 := BitVec.ofNat 32 (i 2).val
  let c1_i32 : BitVec 32 := 1#32
  let v0 : BitVec 32 := Scalar.muli arg2 c1_i32
  let v58 : BitVec 32 := Scalar.subi v0 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let v59 : BitVec 32 := Scalar.addi c0_i32_24 v58
  let c1_i32_27 : BitVec 32 := 1#32
  ⟨v62, v59, c1_i32_27⟩
def k0_mult5 (i : grid0.Coords) (k0_t4 : Fin (k0_t4_loop i).trips) : BitVec 32 :=
  let c0_i32_24 : BitVec 32 := 0#32
  let arg2 : BitVec 32 := BitVec.ofNat 32 (i 2).val
  let c1_i32 : BitVec 32 := 1#32
  let v0 : BitVec 32 := Scalar.muli arg2 c1_i32
  let v58 : BitVec 32 := Scalar.subi v0 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg7 : BitVec 32 := Scf.iv v62 c1_i32_27 k0_t4
  let c512_i32_44 : BitVec 32 := 512#32
  let v113 : BitVec 32 := Scalar.muli arg7 c512_i32_44
  v113
def k0_off9 (i : grid0.Coords) (k0_t4 : Fin (k0_t4_loop i).trips) : Fin 3 → Nat :=
  let c0_45 : Index := 0#32
  let c0_i32_24 : BitVec 32 := 0#32
  let arg2 : BitVec 32 := BitVec.ofNat 32 (i 2).val
  let c1_i32 : BitVec 32 := 1#32
  let v0 : BitVec 32 := Scalar.muli arg2 c1_i32
  let v58 : BitVec 32 := Scalar.subi v0 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg7 : BitVec 32 := Scf.iv v62 c1_i32_27 k0_t4
  let c512_i32_44 : BitVec 32 := 512#32
  let v113 : BitVec 32 := Scalar.muli arg7 c512_i32_44
  let v114 : BitVec 32 := v113
  let v115 : Index := Scalar.indexCast v114
  let c128_46 : Index := 128#32
  ![0, v115.toNat, 128]
def k0_off10 (i : grid0.Coords) (k0_t4 : Fin (k0_t4_loop i).trips) : Fin 3 → Nat :=
  let c0_50 : Index := 0#32
  let c0_i32_24 : BitVec 32 := 0#32
  let arg2 : BitVec 32 := BitVec.ofNat 32 (i 2).val
  let c1_i32 : BitVec 32 := 1#32
  let v0 : BitVec 32 := Scalar.muli arg2 c1_i32
  let v58 : BitVec 32 := Scalar.subi v0 c0_i32_24
  let c1_i32_25 : BitVec 32 := 1#32
  let v60 : BitVec 32 := Scalar.divsi v58 c1_i32_25
  let v61 : BitVec 32 := Scalar.muli v60 c1_i32_25
  let v62 : BitVec 32 := Scalar.addi c0_i32_24 v61
  let c1_i32_27 : BitVec 32 := 1#32
  let arg7 : BitVec 32 := Scf.iv v62 c1_i32_27 k0_t4
  let c512_i32_44 : BitVec 32 := 512#32
  let v113 : BitVec 32 := Scalar.muli arg7 c512_i32_44
  let v114 : BitVec 32 := v113
  let v134 : Index := Scalar.indexCast v114
  let c0_51 : Index := 0#32
  ![0, v134.toNat, 0]
def k0_mult6 (i : grid0.Coords) : BitVec 32 :=
  let arg2 : BitVec 32 := BitVec.ofNat 32 (i 2).val
  let c1_i32 : BitVec 32 := 1#32
  let v0 : BitVec 32 := Scalar.muli arg2 c1_i32
  let c0_i32_28 : BitVec 32 := 0#32
  let v65 : BitVec 32 := Scalar.addi v0 c0_i32_28
  let c512_i32_29 : BitVec 32 := 512#32
  let v66 : BitVec 32 := Scalar.muli v65 c512_i32_29
  v66
def k0_off11 (i : grid0.Coords) : Fin 3 → Nat :=
  let c0_30 : Index := 0#32
  let arg2 : BitVec 32 := BitVec.ofNat 32 (i 2).val
  let c1_i32 : BitVec 32 := 1#32
  let v0 : BitVec 32 := Scalar.muli arg2 c1_i32
  let c0_i32_28 : BitVec 32 := 0#32
  let v65 : BitVec 32 := Scalar.addi v0 c0_i32_28
  let c512_i32_29 : BitVec 32 := 512#32
  let v66 : BitVec 32 := Scalar.muli v65 c512_i32_29
  let v67 : BitVec 32 := v66
  let v68 : Index := Scalar.indexCast v67
  let c128_31 : Index := 128#32
  ![0, v68.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8x8192x1024 : Shape := ⟨3, ![8, 8192, 1024]⟩
abbrev S8x8192x512 : Shape := ⟨3, ![8, 8192, 512]⟩
abbrev S8x8192x8x128 : Shape := ⟨4, ![8, 8192, 8, 128]⟩
abbrev S8x8192x8x64 : Shape := ⟨4, ![8, 8192, 8, 64]⟩
abbrev S8x8x8192x8192 : Shape := ⟨4, ![8, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x8x8192 : Shape := ⟨3, ![8, 8, 8192]⟩
abbrev S8x8x8192x1 : Shape := ⟨4, ![8, 8, 8192, 1]⟩
abbrev S8x8x64x8192 : Shape := ⟨4, ![8, 8, 64, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x512, .bf16⟩
  | .hbm, ⟨3, _⟩ => ⟨S8x8192x8x128, .bf16⟩
  | .hbm, ⟨4, _⟩ => ⟨S8x8192x8x128, .f32⟩
  | .hbm, ⟨5, _⟩ => ⟨S8x8192x8x128, .bf16⟩
  | .hbm, ⟨6, _⟩ => ⟨S8x8192x8x128, .f32⟩
  | .hbm, ⟨7, _⟩ => ⟨S8x8192x8x64, .bf16⟩
  | .hbm, ⟨8, _⟩ => ⟨S8x8192x8x64, .f32⟩
  | .hbm, ⟨9, _⟩ => ⟨S8x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S8x8x8192x8192, .i1⟩
  | .hbm, ⟨19, _⟩ => ⟨S8x8x8192x8192, .f32⟩
  | .hbm, ⟨20, _⟩ => ⟨S8x8x8192x8192, .f32⟩
  | .hbm, ⟨21, _⟩ => ⟨S_, .f32⟩
  | .hbm, ⟨22, _⟩ => ⟨S8x8x8192, .f32⟩
  | .hbm, ⟨23, _⟩ => ⟨S_, .f32⟩
  | .hbm, ⟨24, _⟩ => ⟨S8x8x8192, .f32⟩
  | .hbm, ⟨25, _⟩ => ⟨S8x8x8192, .f32⟩
  | .hbm, ⟨26, _⟩ => ⟨S8x8x8192x1, .f32⟩
  | .hbm, ⟨27, _⟩ => ⟨S8x8x8192x8192, .f32⟩
  | .hbm, ⟨28, _⟩ => ⟨S8x8x8192x8192, .f32⟩
  | .hbm, ⟨29, _⟩ => ⟨S8x8x8192x8192, .f32⟩
  | .hbm, ⟨30, _⟩ => ⟨S_, .f32⟩
  | .hbm, ⟨31, _⟩ => ⟨S8x8x8192, .f32⟩
  | .hbm, ⟨32, _⟩ => ⟨S8x8x8192x1, .f32⟩
  | .hbm, ⟨33, _⟩ => ⟨S8x8x8192x8192, .f32⟩
  | .hbm, ⟨34, _⟩ => ⟨S8x8x8192x8192, .f32⟩
  | .hbm, ⟨35, _⟩ => ⟨S8x8x64x8192, .f32⟩
  | .hbm, ⟨36, _⟩ => ⟨S8x8192x8x64, .f32⟩
  | .hbm, ⟨37, _⟩ => ⟨S8x8192x512, .f32⟩
  | .hbm, ⟨38, _⟩ => ⟨S8x8192x512, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Mlp.lean ====
abbrev S8x8192x1024 : Shape := ⟨3, ![8, 8192, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S65536x1024 : Shape := ⟨2, ![65536, 1024]⟩
abbrev S1024x4096 : Shape := ⟨2, ![1024, 4096]⟩
abbrev S4096x1024 : Shape := ⟨2, ![4096, 1024]⟩
abbrev S1024 : Shape := ⟨1, ![1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S65536x1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S8x8192x1024 : Shape := ⟨3, ![8, 8192, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S65536x1024 : Shape := ⟨2, ![65536, 1024]⟩
abbrev S1024x4096 : Shape := ⟨2, ![1024, 4096]⟩
abbrev S65536x4096 : Shape := ⟨2, ![65536, 4096]⟩
abbrev S_ : Shape := ⟨0, ![]⟩
abbrev S4096x1024 : Shape := ⟨2, ![4096, 1024]⟩
abbrev S1024 : Shape := ⟨1, ![1024]⟩
abbrev S65536 : Shape := ⟨1, ![65536]⟩
abbrev S65536x1 : Shape := ⟨2, ![65536, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4096, .f32⟩
  | .hbm, ⟨2, _⟩ => ⟨S1x4096x1024, .f32⟩
  | .hbm, ⟨3, _⟩ => ⟨S1x1024, .f32⟩
  | .hbm, ⟨4, _⟩ => ⟨S1x1024, .f32⟩
  | .hbm, ⟨5, _⟩ => ⟨S65536x1024, .f32⟩
  | .hbm, ⟨6, _⟩ => ⟨S1024x4096, .f32⟩
  | .hbm, ⟨7, _⟩ => ⟨S65536x4096, .f32⟩
  | .hbm, ⟨8, _⟩ => ⟨S_, .f32⟩
  | .hbm, ⟨9, _⟩ => ⟨S65536x4096, .f32⟩
  | .hbm, ⟨10, _⟩ => ⟨S65536x4096, .f32⟩
  | .hbm, ⟨11, _⟩ => ⟨S65536x4096, .f32⟩
  | .hbm, ⟨12, _⟩ => ⟨S4096x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Mix.lean ====
abbrev S8x8192x1024 : Shape := ⟨3, ![8, 8192, 1024]⟩
abbrev S8x8192x512 : Shape := ⟨3, ![8, 8192, 512]⟩
abbrev S8x8192x2048 : Shape := ⟨3, ![8, 8192, 2048]⟩
abbrev S8x256x1024 : Shape := ⟨3, ![8, 256, 1024]⟩
abbrev S1024 : Shape := ⟨1, ![1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1x512x512 : Shape := ⟨3, ![1, 512, 512]⟩
abbrev S1x512x2048 : Shape := ⟨3, ![1, 512, 2048]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S512x2048 : Shape := ⟨2, ![512, 2048]⟩
abbrev S512x256 : Shape := ⟨2, ![512, 256]⟩
abbrev S1x256x256 : Shape := ⟨3, ![1, 256, 256]⟩
abbrev S256x256 : Shape := ⟨2, ![256, 256]⟩
abbrev S256x1024 : Shape := ⟨2, ![256, 1024]⟩

abbrev nBuf : Space → Nat
  | .hbm => 35
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x1024, .bf16⟩
  | .hbm, ⟨3, _⟩ => ⟨S8x8192x2048, .bf16⟩
  | .hbm, ⟨4, _⟩ => ⟨S8x256x1024, .bf16⟩
  | .hbm, ⟨5, _⟩ => ⟨S8x256x1024, .bf16⟩
  | .hbm, ⟨6, _⟩ => ⟨S1024, .f32⟩
  | .hbm, ⟨7, _⟩ => ⟨S1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024x1024, .f32⟩
  | .hbm, ⟨13, _⟩ => ⟨S1x1024x1024, .f32⟩
  | .hbm, ⟨14, _⟩ => ⟨S1x1024, .f32⟩
  | .hbm, ⟨15, _⟩ => ⟨S1x1024, .f32⟩
  | .hbm, ⟨16, _⟩ => ⟨S512x1024, .f32⟩
  | .hbm, ⟨17, _⟩ => ⟨S1024x1024, .f32⟩
  | .hbm, ⟨18, _⟩ => ⟨S1024, .f32⟩
  | .hbm, ⟨19, _⟩ => ⟨S1024, .f32⟩
  | .hbm, ⟨20, _⟩ => ⟨S1024x1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S1x1024, .f32⟩
  | .hbm, ⟨30, _⟩ => ⟨S1024x1024, .bf16⟩
  | .hbm, ⟨31, _⟩ => ⟨S1024x1024, .bf16⟩
  | .hbm, ⟨32, _⟩ => ⟨S1x1024, .f32⟩
  | .hbm, ⟨33, _⟩ => ⟨S1x1024, .f32⟩
  | .hbm, ⟨34, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixRefIdeal.lean ====
abbrev S8x8192x1024 : Shape := ⟨3, ![8, 8192, 1024]⟩
abbrev S8x8192x512 : Shape := ⟨3, ![8, 8192, 512]⟩
abbrev S8x8192x2048 : Shape := ⟨3, ![8, 8192, 2048]⟩
abbrev S8x256x1024 : Shape := ⟨3, ![8, 256, 1024]⟩
abbrev S1024 : Shape := ⟨1, ![1024]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S512x1024 : Shape := ⟨2, ![512, 1024]⟩
abbrev S1024x1024 : Shape := ⟨2, ![1024, 1024]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩

abbrev nBuf : Space → Nat
  | .hbm => 152
  | .vmem => 0
  | .smem => 0
  | _ => 0

abbrev hbmTy0_0 (i : Nat) : BufTy := match i % 128 with
  | 0 => ⟨S8x8192x1024, .f32⟩
  | 1 => ⟨S8x8192x512, .bf16⟩
  | 2 => ⟨S8x8192x1024, .bf16⟩
  | 3 => ⟨S8x8192x2048, .bf16⟩
  | 4 => ⟨S8x256x1024, .bf16⟩
  | 5 => ⟨S8x256x1024, .bf16⟩
  | 6 => ⟨S1024, .f32⟩
  | 7 => ⟨S1024, .f32⟩
  | 8 => ⟨S1x512x1024, .f32⟩
  | 9 => ⟨S1x1024x1024, .f32⟩
  | 10 => ⟨S1x1024, .f32⟩
  | 11 => ⟨S1x1024, .f32⟩
  | 12 => ⟨S1x1024x1024, .f32⟩
  | 13 => ⟨S1x1024x1024, .f32⟩
  | 14 => ⟨S1x1024, .f32⟩
  | 15 => ⟨S1x1024, .f32⟩
  | 16 => ⟨S_, .f32⟩
  | 17 => ⟨S8x8192, .f32⟩
  | 18 => ⟨S8x8192x1, .f32⟩
  | 19 => ⟨S_, .f32⟩
  | 20 => ⟨S8x8192x1, .f32⟩
  | 21 => ⟨S8x8192x1, .f32⟩
  | 22 => ⟨S8x8192x1024, .f32⟩
  | 23 => ⟨S8x8192x1024, .f32⟩
  | 24 => ⟨S8x8192x1024, .f32⟩
  | 25 => ⟨S_, .f32⟩
  | 26 => ⟨S8x8192, .f32⟩
  | 27 => ⟨S8x8192x1, .f32⟩
  | 28 => ⟨S_, .f32⟩
  | 29 => ⟨S8x8192x1, .f32⟩
  | 30 => ⟨S8x8192x1, .f32⟩
  | 31 => ⟨S_, .f32⟩
  | 32 => ⟨S8x8192x1, .f32⟩
  | 33 => ⟨S8x8192x1, .f32⟩
  | 34 => ⟨S8x8192x1, .f32⟩
  | 35 => ⟨S8x8192x1024, .f32⟩
  | 36 => ⟨S8x8192x1024, .f32⟩
  | 37 => ⟨S1x1x1024, .f32⟩
  | 38 => ⟨S8x8192x1024, .f32⟩
  | 39 => ⟨S8x8192x1024, .f32⟩
  | 40 => ⟨S1x1x1024, .f32⟩
  | 41 => ⟨S8x8192x1024, .f32⟩
  | 42 => ⟨S8x8192x1024, .f32⟩
  | 43 => ⟨S8x8192x512, .f32⟩
  | 44 => ⟨S512x1024, .f32⟩
  | 45 => ⟨S8x8192x1024, .f32⟩
  | 46 => ⟨S8x8192x1024, .bf16⟩
  | 47 => ⟨S8x8192x1024, .f32⟩
  | 48 => ⟨S8x8192x1024, .bf16⟩
  | 49 => ⟨S8x8192x1024, .f32⟩
  | 50 => ⟨S8x8192x1024, .f32⟩
  | 51 => ⟨S8x8192x1024, .f32⟩
  | 52 => ⟨S8x8192x1024, .f32⟩
  | 53 => ⟨S8x8192x1024, .f32⟩
  | 54 => ⟨S1024x1024, .f32⟩
  | 55 => ⟨S8x8192x1024, .f32⟩
  | 56 => ⟨S_, .f32⟩
  | 57 => ⟨S8x8192x1024, .f32⟩
  | 58 => ⟨S8x8192x1024, .f32⟩
  | 59 => ⟨S8x8192x1024, .f32⟩
  | 60 => ⟨S1024, .f32⟩
  | 61 => ⟨S1024, .f32⟩
  | 62 => ⟨S_, .f32⟩
  | 63 => ⟨S8x8192, .f32⟩
  | 64 => ⟨S8x8192x1, .f32⟩
  | 65 => ⟨S_, .f32⟩
  | 66 => ⟨S8x8192x1, .f32⟩
  | 67 => ⟨S8x8192x1, .f32⟩
  | 68 => ⟨S8x8192x1024, .f32⟩
  | 69 => ⟨S8x8192x1024, .f32⟩
  | 70 => ⟨S8x8192x1024, .f32⟩
  | 71 => ⟨S_, .f32⟩
  | 72 => ⟨S8x8192, .f32⟩
  | 73 => ⟨S8x8192x1, .f32⟩
  | 74 => ⟨S_, .f32⟩
  | 75 => ⟨S8x8192x1, .f32⟩
  | 76 => ⟨S8x8192x1, .f32⟩
  | 77 => ⟨S_, .f32⟩
  | 78 => ⟨S8x8192x1, .f32⟩
  | 79 => ⟨S8x8192x1, .f32⟩
  | 80 => ⟨S8x8192x1, .f32⟩
  | 81 => ⟨S8x8192x1024, .f32⟩
  | 82 => ⟨S8x8192x1024, .f32⟩
  | 83 => ⟨S1x1x1024, .f32⟩
  | 84 => ⟨S8x8192x1024, .f32⟩
  | 85 => ⟨S8x8192x1024, .f32⟩
  | 86 => ⟨S1x1x1024, .f32⟩
  | 87 => ⟨S8x8192x1024, .f32⟩
  | 88 => ⟨S8x8192x1024, .f32⟩
  | 89 => ⟨S1024x1024, .f32⟩
  | 90 => ⟨S8x8192x1024, .f32⟩
  | 91 => ⟨S8x8192x4x256, .f32⟩
  | 92 => ⟨S8x256x1024, .f32⟩
  | 93 => ⟨S8x256x4x256, .f32⟩
  | 94 => ⟨S8x256x1024, .f32⟩
  | 95 => ⟨S8x256x4x256, .f32⟩
  | 96 => ⟨S8x4x8192x256, .f32⟩
  | 97 => ⟨S_, .f32⟩
  | 98 => ⟨S8x4x8192x256, .f32⟩
  | 99 => ⟨S8x4x8192x256, .f32⟩
  | 100 => ⟨S_, .f32⟩
  | 101 => ⟨S8x4x8192, .f32⟩
  | 102 => ⟨S_, .f32⟩
  | 103 => ⟨S8x4x8192, .f32⟩
  | 104 => ⟨S8x4x8192, .f32⟩
  | 105 => ⟨S8x4x8192x1, .f32⟩
  | 106 => ⟨S8x4x8192x256, .f32⟩
  | 107 => ⟨S8x4x8192x256, .f32⟩
  | 108 => ⟨S8x4x8192x256, .f32⟩
  | 109 => ⟨S_, .f32⟩
  | 110 => ⟨S8x4x8192, .f32⟩
  | 111 => ⟨S8x4x8192x1, .f32⟩
  | 112 => ⟨S8x4x8192x256, .f32⟩
  | 113 => ⟨S8x4x8192x256, .f32⟩
  | 114 => ⟨S8x4x256x8192, .f32⟩
  | 115 => ⟨S8x8192x4x256, .f32⟩
  | 116 => ⟨S8x8192x1024, .f32⟩
  | 117 => ⟨S_, .f32⟩
  | 118 => ⟨S8x8192x1024, .f32⟩
  | 119 => ⟨S8x8192x1024, .f32⟩
  | 120 => ⟨S1024x1024, .f32⟩
  | 121 => ⟨S8x8192x1024, .f32⟩
  | 122 => ⟨S8x8192x1024, .f32⟩
  | 123 => ⟨S1024, .f32⟩
  | 124 => ⟨S1024, .f32⟩
  | 125 => ⟨S_, .f32⟩
  | 126 => ⟨S8x8192, .f32⟩
  | 127 => ⟨S8x8192x1, .f32⟩
  | _ => ⟨S8x8192x1024, .f32⟩

abbrev hbmTy0_1 (i : Nat) : BufTy := match i % 128 with
  | 0 => ⟨S_, .f32⟩
  | 1 => ⟨S8x8192x1, .f32⟩
  | 2 => ⟨S8x8192x1, .f32⟩
  | 3 => ⟨S8x8192x1024, .f32⟩
  | 4 => ⟨S8x8192x1024, .f32⟩
  | 5 => ⟨S8x8192x1024, .f32⟩
  | 6 => ⟨S_, .f32⟩
  | 7 => ⟨S8x8192, .f32⟩
  | 8 => ⟨S8x8192x1, .f32⟩
  | 9 => ⟨S_, .f32⟩
  | 10 => ⟨S8x8192x1, .f32⟩
  | 11 => ⟨S8x8192x1, .f32⟩
  | 12 => ⟨S_, .f32⟩
  | 13 => ⟨S8x8192x1, .f32⟩
  | 14 => ⟨S8x8192x1, .f32⟩
  | 15 => ⟨S8x8192x1, .f32⟩
  | 16 => ⟨S8x8192x1024, .f32⟩
  | 17 => ⟨S8x8192x1024, .f32⟩
  | 18 => ⟨S1x1x1024, .f32⟩
  | 19 => ⟨S8x8192x1024, .f32⟩
  | 20 => ⟨S8x8192x1024, .f32⟩
  | 21 => ⟨S1x1x1024, .f32⟩
  | 22 => ⟨S8x8192x1024, .f32⟩
  | 23 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_cst_12 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_13 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_15 : Ref sig .tc := ⟨.hbm, 125, rfl⟩
abbrev main_v93 : Ref sig .tc := ⟨.hbm, 126, rfl⟩
abbrev main_v94 : Ref sig .tc := ⟨.hbm, 127, rfl⟩
abbrev main_cst_16 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_17 : Ref sig .tc := ⟨.hbm, 134, rfl⟩
abbrev main_v100 : Ref sig .tc := ⟨.hbm, 135, rfl⟩
abbrev main_v101 : Ref sig .tc := ⟨.hbm, 136, rfl⟩
abbrev main_cst_18 : Ref sig .tc := ⟨.hbm, 137, rfl⟩
abbrev main_v102 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]
-- ==== Mkv.lean ====
abbrev S8x256x1024 : Shape := ⟨3, ![8, 256, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S8x256x1024, .bf16⟩
  | .hbm, ⟨8, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MkvRefIdeal.lean ====
abbrev S8x256x1024 : Shape := ⟨3, ![8, 256, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S8x256x1024, .f32⟩
  | .hbm, ⟨5, _⟩ => ⟨S8x256x1024, .bf16⟩
  | .hbm, ⟨6, _⟩ => ⟨S1024x1024, .f32⟩
  | .hbm, ⟨7, _⟩ => ⟨S8x256x1024, .f32⟩
  | .hbm, ⟨8, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Inp.lean ====
abbrev S8x8192x1024 : Shape := ⟨3, ![8, 8192, 1024]⟩
abbrev S8x8192x16 : Shape := ⟨3, ![8, 8192, 16]⟩
abbrev S1024 : Shape := ⟨1, ![1024]⟩
abbrev S1x1024x2848 : Shape := ⟨3, ![1, 1024, 2848]⟩
abbrev S1x256 : Shape := ⟨2, ![1, 256]⟩
abbrev S1x256x768 : Shape := ⟨3, ![1, 256, 768]⟩
abbrev S1x256x1024 : Shape := ⟨3, ![1, 256, 1024]⟩
abbrev S_ : Shape := ⟨0, ![]⟩
abbrev S8x8192x64 : Shape := ⟨3, ![8, 8192, 64]⟩
abbrev S8x8192x32 : Shape := ⟨3, ![8, 8192, 32]⟩
abbrev S8x8192x128 : Shape := ⟨3, ![8, 8192, 128]⟩
abbrev S65536x128 : Shape := ⟨2, ![65536, 128]⟩
abbrev S65536x1024 : Shape := ⟨2, ![65536, 1024]⟩
abbrev S1024x2848 : Shape := ⟨2, ![1024, 2848]⟩
abbrev S256 : Shape := ⟨1, ![256]⟩
abbrev S256x768 : Shape := ⟨2, ![256, 768]⟩
abbrev S256x1024 : Shape := ⟨2, ![256, 1024]⟩
abbrev S1024x256 : Shape := ⟨2, ![1024, 256]⟩
abbrev S1024x32 : Shape := ⟨2, ![1024, 32]⟩
abbrev S1024x64 : Shape := ⟨2, ![1024, 64]⟩
abbrev S1024x16 : Shape := ⟨2, ![1024, 16]⟩
abbrev S1024x2048 : Shape := ⟨2, ![1024, 2048]⟩
abbrev S256x8x96 : Shape := ⟨3, ![256, 8, 96]⟩
abbrev S256x8x64 : Shape := ⟨3, ![256, 8, 64]⟩
abbrev S256x8x32 : Shape := ⟨3, ![256, 8, 32]⟩
abbrev S256x8x128 : Shape := ⟨3, ![256, 8, 128]⟩
abbrev S256x8x16 : Shape := ⟨3, ![256, 8, 16]⟩
abbrev S256x512 : Shape := ⟨2, ![256, 512]⟩
abbrev S1x1024 : Shape := ⟨2, ![1, 1024]⟩
abbrev S65536x256 : Shape := ⟨2, ![65536, 256]⟩
abbrev S65536x512 : Shape := ⟨2, ![65536, 512]⟩
abbrev S65536x2048 : Shape := ⟨2, ![65536, 2048]⟩
abbrev S512x1024 : Shape := ⟨2, ![512, 1024]⟩
abbrev S512x128 : Shape := ⟨2, ![512, 128]⟩
abbrev S512x256 : Shape := ⟨2, ![512, 256]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 86
  | .vmem => 29
  | .smem => 0
  | _ => 0

abbrev bufTy : (tb : Table) → Fin (tcTables nBuf tb) → BufTy
  | .hbm, ⟨0, _⟩ => ⟨S8x8192x1024, .f32⟩
  | .hbm, ⟨1, _⟩ => ⟨S8x8192x16, .f32⟩
  | .hbm, ⟨2, _⟩ => ⟨S8x8192x16, .f32⟩
  | .hbm, ⟨3, _⟩ => ⟨S1024, .f32⟩
  | .hbm, ⟨4, _⟩ => ⟨S1024, .f32⟩
  | .hbm, ⟨5, _⟩ => ⟨S1x1024x2848, .f32⟩
  | .hbm, ⟨6, _⟩ => ⟨S1x256, .f32⟩
  | .hbm, ⟨7, _⟩ => ⟨S1x256x768, .f32⟩
  | .hbm, ⟨8, _⟩ => ⟨S1x256, .f32⟩
  | .hbm, ⟨9, _⟩ => ⟨S1x256x1024, .f32⟩
  | .hbm, ⟨10, _⟩ => ⟨S_, .f32⟩
  | .hbm, ⟨11, _⟩ => ⟨S8x8192x64, .f32⟩
  | .hbm, ⟨12, _⟩ => ⟨S_, .f32⟩
  | .hbm, ⟨13, _⟩ => ⟨S8x8192x32, .f32⟩
  | .hbm, ⟨14, _⟩ => ⟨S8x8192x128, .f32⟩
  | .hbm, ⟨15, _⟩ => ⟨S65536x128, .f32⟩
  | .hbm, ⟨16, _⟩ => ⟨S_, .f32⟩
  | .hbm, ⟨17, _⟩ => ⟨S8x8192x64, .f32⟩
  | .hbm, ⟨18, _⟩ => ⟨S8x8192x64, .f32⟩
  | .hbm, ⟨19, _⟩ => ⟨S8x8192x128, .f32⟩
  | .hbm, ⟨20, _⟩ => ⟨S65536x128, .f32⟩
  | .hbm, ⟨21, _⟩ => ⟨S65536x1024, .f32⟩
  | .hbm, ⟨22, _⟩ => ⟨S1024x2848, .f32⟩
  | .hbm, ⟨23, _⟩ => ⟨S256, .f32⟩
  | .hbm, ⟨24, _⟩ => ⟨S256x768, .f32⟩
  | .hbm, ⟨25, _⟩ => ⟨S256, .f32⟩
  | .hbm, ⟨26, _⟩ => ⟨S256x1024, .f32⟩
  | .hbm, ⟨27, _⟩ => ⟨S1024x256, .f32⟩
  | .hbm, ⟨28, _⟩ => ⟨S1024x256, .bf16⟩
  | .hbm, ⟨29, _⟩ => ⟨S1024x256, .f32⟩
  | .hbm, ⟨30, _⟩ => ⟨S1024x256, .bf16⟩
  | .hbm, ⟨31, _⟩ => ⟨S1024x256, .f32⟩
  | .hbm, ⟨32, _⟩ => ⟨S1024x256, .bf16⟩
  | .hbm, ⟨33, _⟩ => ⟨S1024x32, .f32⟩
  | .hbm, ⟨34, _⟩ => ⟨S_, .f32⟩
  | .hbm, ⟨35, _⟩ => ⟨S1024x64, .f32⟩
  | .hbm, ⟨36, _⟩ => ⟨S_, .f32⟩
  | .hbm, ⟨37, _⟩ => ⟨S1024x32, .f32⟩
  | .hbm, ⟨38, _⟩ => ⟨S1024x16, .f32⟩
  | .hbm, ⟨39, _⟩ => ⟨S1024x16, .f32⟩
  | .hbm, ⟨40, _⟩ => ⟨S1024x16, .f32⟩
  | .hbm, ⟨41, _⟩ => ⟨S1024x32, .f32⟩
  | .hbm, ⟨42, _⟩ => ⟨S1024x256, .f32⟩
  | .hbm, ⟨43, _⟩ => ⟨S1024x256, .bf16⟩
  | .hbm, ⟨44, _⟩ => ⟨S1024x2048, .f32⟩
  | .hbm, ⟨45, _⟩ => ⟨S1024x2048, .bf16⟩
  | .hbm, ⟨46, _⟩ => ⟨S256x8x96, .f32⟩
  | .hbm, ⟨47, _⟩ => ⟨S256x8x64, .f32⟩
  | .hbm, ⟨48, _⟩ => ⟨S256x8x32, .f32⟩
  | .hbm, ⟨49, _⟩ => ⟨S_, .f32⟩
  | .hbm, ⟨50, _⟩ => ⟨S256x8x32, .f32⟩
  | .hbm, ⟨51, _⟩ => ⟨S256x8x128, .f32⟩
  | .hbm, ⟨52, _⟩ => ⟨S256x1024, .f32⟩
  | .hbm, ⟨53, _⟩ => ⟨S256x1024, .bf16⟩
  | .hbm, ⟨54, _⟩ => ⟨S_, .f32⟩
  | .hbm, ⟨55, _⟩ => ⟨S256x8x64, .f32⟩
  | .hbm, ⟨56, _⟩ => ⟨S256x8x16, .f32⟩
  | .hbm, ⟨57, _⟩ => ⟨S256x8x16, .f32⟩
  | .hbm, ⟨58, _⟩ => ⟨S256x8x16, .f32⟩
  | .hbm, ⟨59, _⟩ => ⟨S256x8x32, .f32⟩
  | .hbm, ⟨60, _⟩ => ⟨S_, .f32⟩
  | .hbm, ⟨61, _⟩ => ⟨S256x8x32, .f32⟩
  | .hbm, ⟨62, _⟩ => ⟨S256x8x128, .f32⟩
  | .hbm, ⟨63, _⟩ => ⟨S256x1024, .f32⟩
  | .hbm, ⟨64, _⟩ => ⟨S256x1024, .bf16⟩
  | .hbm, ⟨65, _⟩ => ⟨S256x8x128, .f32⟩
  | .hbm, ⟨66, _⟩ => ⟨S256x8x64, .f32⟩
  | .hbm, ⟨67, _⟩ => ⟨S_, .f32⟩
  | .hbm, ⟨68, _⟩ => ⟨S256x8x32, .f32⟩
  | .hbm, ⟨69, _⟩ => ⟨S_, .f32⟩
  | .hbm, ⟨70, _⟩ => ⟨S256x8x32, .f32⟩
  | .hbm, ⟨71, _⟩ => ⟨S256x8x128, .f32⟩
  | .hbm, ⟨72, _⟩ => ⟨S256x1024, .f32⟩
  | .hbm, ⟨73, _⟩ => ⟨S256x1024, .bf16⟩
  | .hbm, ⟨74, _⟩ => ⟨S256x8x64, .f32⟩
  | .hbm, ⟨75, _⟩ => ⟨S256x512, .f32⟩
  | .hbm, ⟨76, _⟩ => ⟨S256x512, .bf16⟩
  | .hbm, ⟨77, _⟩ => ⟨S1x1024, .f32⟩
  | .hbm, ⟨78, _⟩ => ⟨S1x1024, .f32⟩
  | .hbm, ⟨79, _⟩ => ⟨S1x256, .f32⟩
  | .hbm, ⟨80, _⟩ => ⟨S1x256, .f32⟩
  | .hbm, ⟨81, _⟩ => ⟨S65536x256, .f32⟩
  | .hbm, ⟨82, _⟩ => ⟨S65536x1024, .bf16⟩
  | .hbm, ⟨83, _⟩ => ⟨S65536x1024, .bf16⟩
  | .hbm, ⟨84, _⟩ => ⟨S65536x512, .bf16⟩
  | .hbm, ⟨85, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1x1024, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x2048, .bf16⟩
  | .local _ .vmem, ⟨13, _⟩ => ⟨S1x256, .f32⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x512, .bf16⟩
  | .local _ .vmem, ⟨19, _⟩ => ⟨S512x256, .f32⟩
  | .local _ .vmem, ⟨20, _⟩ => ⟨S512x256, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x512, .bf16⟩
  | .local _ .vmem, ⟨26, _⟩ => ⟨S512x512, .bf16⟩
  | .local _ .vmem, ⟨27, _⟩ => ⟨S512x2048, .bf16⟩
  | .local _ .vmem, ⟨28, _⟩ => ⟨S512x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61_0 : Ref sig .tc := ⟨.hbm, 81, rfl⟩
abbrev main_v61_1 : Ref sig .tc := ⟨.hbm, 82, rfl⟩
abbrev main_v61_2 : Ref sig .tc := ⟨.hbm, 83, rfl⟩
abbrev main_v61_3 : Ref sig .tc := ⟨.hbm, 84, rfl⟩
abbrev main_v61_4 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InpRefIdeal.lean ====
abbrev S8x8192x1024 : Shape := ⟨3, ![8, 8192, 1024]⟩
abbrev S8x8192x16 : Shape := ⟨3, ![8, 8192, 16]⟩
abbrev S1024 : Shape := ⟨1, ![1024]⟩
abbrev S1x1024x2848 : Shape := ⟨3, ![1, 1024, 2848]⟩
abbrev S1x256 : Shape := ⟨2, ![1, 256]⟩
abbrev S1x256x768 : Shape := ⟨3, ![1, 256, 768]⟩
abbrev S1x256x1024 : Shape := ⟨3, ![1, 256, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x2848 : Shape := ⟨2, ![1024, 2848]⟩
abbrev S8x8192x2848 : Shape := ⟨3, ![8, 8192, 2848]⟩
abbrev S8x8192x256 : Shape := ⟨3, ![8, 8192, 256]⟩
abbrev S8x8192x32 : Shape := ⟨3, ![8, 8192, 32]⟩
abbrev S8x8192x2048 : Shape := ⟨3, ![8, 8192, 2048]⟩
abbrev S8x8192x1x16 : Shape := ⟨4, ![8, 8192, 1, 16]⟩
abbrev S256 : Shape := ⟨1, ![256]⟩
abbrev S1x1x256 : Shape := ⟨3, ![1, 1, 256]⟩
abbrev S256x768 : Shape := ⟨2, ![256, 768]⟩
abbrev S8x8192x768 : Shape := ⟨3, ![8, 8192, 768]⟩
abbrev S8x8192x8x96 : Shape := ⟨4, ![8, 8192, 8, 96]⟩
abbrev S8x8192x8x32 : Shape := ⟨4, ![8, 8192, 8, 32]⟩
abbrev S8x8192x8x64 : Shape := ⟨4, ![8, 8192, 8, 64]⟩
abbrev S8x8192x8x16 : Shape := ⟨4, ![8, 8192, 8, 16]⟩
abbrev S8x8192x8x128 : Shape := ⟨4, ![8, 8192, 8, 128]⟩
abbrev S256x1024 : Shape := ⟨2, ![256, 1024]⟩
abbrev S8x8192x1x32 : Shape := ⟨4, ![8, 8192, 1, 32]⟩
abbrev S65536x256 : Shape := ⟨2, ![65536, 256]⟩
abbrev S65536x1024 : Shape := ⟨2, ![65536, 1024]⟩
abbrev S65536x512 : Shape := ⟨2, ![65536, 512]⟩
abbrev S65536x2048 : Shape := ⟨2, ![65536, 2048]⟩

abbrev nBuf : Space → Nat
  | .hbm => 139
  | .vmem => 0
  | .smem => 0
  | _ => 0

abbrev hbmTy0_0 (i : Nat) : BufTy := match i % 128 with
  | 0 => ⟨S8x8192x1024, .f32⟩
  | 1 => ⟨S8x8192x16, .f32⟩
  | 2 => ⟨S8x8192x16, .f32⟩
  | 3 => ⟨S1024, .f32⟩
  | 4 => ⟨S1024, .f32⟩
  | 5 => ⟨S1x1024x2848, .f32⟩
  | 6 => ⟨S1x256, .f32⟩
  | 7 => ⟨S1x256x768, .f32⟩
  | 8 => ⟨S1x256, .f32⟩
  | 9 => ⟨S1x256x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S8x8192x1024, .f32⟩
  | 17 => ⟨S8x8192x1024, .f32⟩
  | 18 => ⟨S8x8192x1024, .f32⟩
  | 19 => ⟨S_, .f32⟩
  | 20 => ⟨S8x8192, .f32⟩
  | 21 => ⟨S8x8192x1, .f32⟩
  | 22 => ⟨S_, .f32⟩
  | 23 => ⟨S8x8192x1, .f32⟩
  | 24 => ⟨S8x8192x1, .f32⟩
  | 25 => ⟨S_, .f32⟩
  | 26 => ⟨S8x8192x1, .f32⟩
  | 27 => ⟨S8x8192x1, .f32⟩
  | 28 => ⟨S8x8192x1, .f32⟩
  | 29 => ⟨S8x8192x1024, .f32⟩
  | 30 => ⟨S8x8192x1024, .f32⟩
  | 31 => ⟨S1x1x1024, .f32⟩
  | 32 => ⟨S8x8192x1024, .f32⟩
  | 33 => ⟨S8x8192x1024, .f32⟩
  | 34 => ⟨S1x1x1024, .f32⟩
  | 35 => ⟨S8x8192x1024, .f32⟩
  | 36 => ⟨S8x8192x1024, .f32⟩
  | 37 => ⟨S1024x2848, .f32⟩
  | 38 => ⟨S8x8192x2848, .f32⟩
  | 39 => ⟨S8x8192x256, .f32⟩
  | 40 => ⟨S8x8192x256, .f32⟩
  | 41 => ⟨S8x8192x256, .f32⟩
  | 42 => ⟨S8x8192x32, .f32⟩
  | 43 => ⟨S8x8192x2048, .f32⟩
  | 44 => ⟨S8x8192x1x16, .f32⟩
  | 45 => ⟨S8x8192x1x16, .f32⟩
  | 46 => ⟨S256, .f32⟩
  | 47 => ⟨S8x8192x256, .f32⟩
  | 48 => ⟨S_, .f32⟩
  | 49 => ⟨S8x8192, .f32⟩
  | 50 => ⟨S8x8192x1, .f32⟩
  | 51 => ⟨S_, .f32⟩
  | 52 => ⟨S8x8192x1, .f32⟩
  | 53 => ⟨S8x8192x1, .f32⟩
  | 54 => ⟨S_, .f32⟩
  | 55 => ⟨S8x8192x1, .f32⟩
  | 56 => ⟨S8x8192x1, .f32⟩
  | 57 => ⟨S8x8192x1, .f32⟩
  | 58 => ⟨S8x8192x256, .f32⟩
  | 59 => ⟨S8x8192x256, .f32⟩
  | 60 => ⟨S1x1x256, .f32⟩
  | 61 => ⟨S8x8192x256, .f32⟩
  | 62 => ⟨S8x8192x256, .f32⟩
  | 63 => ⟨S256x768, .f32⟩
  | 64 => ⟨S8x8192x768, .f32⟩
  | 65 => ⟨S8x8192x8x96, .f32⟩
  | 66 => ⟨S_, .f32⟩
  | 67 => ⟨S8x8192x8x32, .f32⟩
  | 68 => ⟨S8x8192x8x64, .f32⟩
  | 69 => ⟨S8x8192x8x32, .f32⟩
  | 70 => ⟨S8x8192x8x16, .f32⟩
  | 71 => ⟨S8x8192x8x16, .f32⟩
  | 72 => ⟨S8x8192x8x16, .f32⟩
  | 73 => ⟨S8x8192x8x16, .f32⟩
  | 74 => ⟨S8x8192x8x16, .f32⟩
  | 75 => ⟨S8x8192x8x16, .f32⟩
  | 76 => ⟨S8x8192x8x16, .f32⟩
  | 77 => ⟨S8x8192x8x16, .f32⟩
  | 78 => ⟨S8x8192x8x16, .f32⟩
  | 79 => ⟨S8x8192x8x16, .f32⟩
  | 80 => ⟨S8x8192x8x16, .f32⟩
  | 81 => ⟨S8x8192x8x16, .f32⟩
  | 82 => ⟨S8x8192x8x32, .f32⟩
  | 83 => ⟨S8x8192x8x96, .f32⟩
  | 84 => ⟨S_, .f32⟩
  | 85 => ⟨S8x8192x8x96, .f32⟩
  | 86 => ⟨S8x8192x8x96, .f32⟩
  | 87 => ⟨S8x8192x8x128, .f32⟩
  | 88 => ⟨S256, .f32⟩
  | 89 => ⟨S8x8192x256, .f32⟩
  | 90 => ⟨S_, .f32⟩
  | 91 => ⟨S8x8192, .f32⟩
  | 92 => ⟨S8x8192x1, .f32⟩
  | 93 => ⟨S_, .f32⟩
  | 94 => ⟨S8x8192x1, .f32⟩
  | 95 => ⟨S8x8192x1, .f32⟩
  | 96 => ⟨S_, .f32⟩
  | 97 => ⟨S8x8192x1, .f32⟩
  | 98 => ⟨S8x8192x1, .f32⟩
  | 99 => ⟨S8x8192x1, .f32⟩
  | 100 => ⟨S8x8192x256, .f32⟩
  | 101 => ⟨S8x8192x256, .f32⟩
  | 102 => ⟨S1x1x256, .f32⟩
  | 103 => ⟨S8x8192x256, .f32⟩
  | 104 => ⟨S8x8192x256, .f32⟩
  | 105 => ⟨S256x1024, .f32⟩
  | 106 => ⟨S8x8192x1024, .f32⟩
  | 107 => ⟨S8x8192x8x128, .f32⟩
  | 108 => ⟨S8x8192x1x32, .f32⟩
  | 109 => ⟨S8x8192x1x16, .f32⟩
  | 110 => ⟨S8x8192x1x16, .f32⟩
  | 111 => ⟨S8x8192x1x16, .f32⟩
  | 112 => ⟨S8x8192x1x16, .f32⟩
  | 113 => ⟨S8x8192x1x16, .f32⟩
  | 114 => ⟨S8x8192x1x16, .f32⟩
  | 115 => ⟨S8x8192x1x16, .f32⟩
  | 116 => ⟨S8x8192x1x16, .f32⟩
  | 117 => ⟨S8x8192x1x32, .f32⟩
  | 118 => ⟨S8x8192x8x32, .f32⟩
  | 119 => ⟨S8x8192x8x64, .f32⟩
  | 120 => ⟨S8x8192x8x128, .f32⟩
  | 121 => ⟨S8x8192x8x64, .f32⟩
  | 122 => ⟨S65536x256, .f32⟩
  | 123 => ⟨S65536x1024, .f32⟩
  | 124 => ⟨S65536x1024, .bf16⟩
  | 125 => ⟨S65536x1024, .f32⟩
  | 126 => ⟨S65536x1024, .bf16⟩
  | 127 => ⟨S65536x512, .f32⟩
  | _ => ⟨S8x8192x1024, .f32⟩

abbrev hbmTy0_1 (i : Nat) : BufTy := match i % 128 with
  | 0 => ⟨S65536x512, .bf16⟩
  | 1 => ⟨S8x8192x2048, .f32⟩
  | 2 => ⟨S8x8192x2048, .f32⟩
  | 3 => ⟨S_, .f32⟩
  | 4 => ⟨S8x8192x2048, .f32⟩
  | 5 => ⟨S8x8192x2048, .f32⟩
  | 6 => ⟨S_, .f32⟩
  | 7 => ⟨S8x8192x2048, .f32⟩
  | 8 => ⟨S8x8192x2048, .f32⟩
  | 9 => ⟨S65536x2048, .f32⟩
  | 10 => ⟨S65536x2048, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_12 : Ref sig .tc := ⟨.hbm, 131, rfl⟩
abbrev main_v108 : Ref sig .tc := ⟨.hbm, 132, rfl⟩
abbrev main_v109 : Ref sig .tc := ⟨.hbm, 133, rfl⟩
abbrev main_cst_13 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩

abbrev nD : Nat := 1
abbrev τ : Topo := Topo.v7x

variable {F : FTy → Type} [FloatOps F]
-- ==== Rope.lean ====
abbrev S8x8192 : Shape := ⟨2, ![8, 8192]⟩
abbrev S16 : Shape := ⟨1, ![16]⟩
abbrev S_ : Shape := ⟨0, ![]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S65536 : Shape := ⟨1, ![65536]⟩
abbrev S65536x16 : Shape := ⟨2, ![65536, 16]⟩
abbrev S1048576 : Shape := ⟨1, ![1048576]⟩
abbrev S8192x128 : Shape := ⟨2, ![8192, 128]⟩
abbrev S1024x128 : Shape := ⟨2, ![1024, 128]⟩

abbrev nBuf : Space → Nat
  | .hbm => 25
  | .vmem => 7
  | .smem => 0
  | _ => 0

abbrev bufTy : (tb : Table) → Fin (tcTables nBuf tb) → BufTy
  | .hbm, ⟨0, _⟩ => ⟨S8x8192, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S1x16, .f32⟩
  | .hbm, ⟨16, _⟩ => ⟨S8x16, .f32⟩
  | .hbm, ⟨17, _⟩ => ⟨S128, .f32⟩
  | .hbm, ⟨18, _⟩ => ⟨S1x128, .f32⟩
  | .hbm, ⟨19, _⟩ => ⟨S65536, .i32⟩
  | .hbm, ⟨20, _⟩ => ⟨S65536x16, .i32⟩
  | .hbm, ⟨21, _⟩ => ⟨S1048576, .i32⟩
  | .hbm, ⟨22, _⟩ => ⟨S8192x128, .i32⟩
  | .hbm, ⟨23, _⟩ => ⟨S8192x128, .f32⟩
  | .hbm, ⟨24, _⟩ => ⟨S8192x128, .f32⟩
  | .local _ .vmem, ⟨0, _⟩ => ⟨S1024x128, .i32⟩
  | .local _ .vmem, ⟨1, _⟩ => ⟨S1024x128, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S8x8192 : Shape := ⟨2, ![8, 8192]⟩
abbrev S16 : Shape := ⟨1, ![16]⟩
abbrev S_ : Shape := ⟨0, ![]⟩
abbrev S8x8192x1 : Shape := ⟨3, ![8, 8192, 1]⟩
abbrev S1x1x16 : Shape := ⟨3, ![1, 1, 16]⟩
abbrev S8x8192x16 : Shape := ⟨3, ![8, 8192, 16]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8x8192, .i32⟩
  | .hbm, ⟨1, _⟩ => ⟨S16, .f32⟩
  | .hbm, ⟨2, _⟩ => ⟨S_, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8x8192, .f32⟩
  | .hbm, ⟨16, _⟩ => ⟨S8x8192x1, .f32⟩
  | .hbm, ⟨17, _⟩ => ⟨S1x1x16, .f32⟩
  | .hbm, ⟨18, _⟩ => ⟨S8x8192x16, .f32⟩
  | .hbm, ⟨19, _⟩ => ⟨S8x8192x16, .f32⟩
  | .hbm, ⟨20, _⟩ => ⟨S8x8192x16, .f32⟩
  | .hbm, ⟨21, _⟩ => ⟨S8x8192x16, .f32⟩
  | .hbm, ⟨22, _⟩ => ⟨S8192x128, .f32⟩
  | .hbm, ⟨23, _⟩ => ⟨S8x8192x16, .f32⟩
  | .hbm, ⟨24, _⟩ => ⟨S8192x128, .f32⟩
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proof.MlpValue.lean ====
module

public import proofs.«01_k».proof.Proof.Gen.MlpIdeal.Value
public import proofs.«01_k».proof.Proof.Gen.MlpRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpIdeal.RefValue

open Cert.MlpIdeal Cert.MlpIdeal.Gen

variable (m : (ℓ : Loc nD τ sig) → Buf (Elt Ideal) ℓ)

/-- Every window's block index: the token block is the grid point, the weights and the norm's two rows are whole. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

open Cert.MlpRefIdeal.Gen in
/-- What the reference normalises: `DN_ALPHA * h + relu(h W_up)² W_down`, of the flattened arrays. -/
def REFpre (X : FVec Ideal Cert.MlpRefIdeal.S65536x1024 .f32) (U : FVec Ideal Cert.MlpRefIdeal.S1024x4096 .f32) (W : FVec Ideal Cert.MlpRefIdeal.S4096x1024 .f32) :
    FVec Ideal Cert.MlpRefIdeal.S65536x1024 .f32 :=
  addf (mulf (broadcastInDim Cert.MlpRefIdeal.S65536x1024 ![] bcast_S_S65536x1024 (constant Cert.MlpRefIdeal.S_ .f32 0x3F9837F0#32)) X)
    (Host.dotGeneral Cert.MlpRefIdeal.dot_S65536x4096_S4096x1024_S65536x1024_1_0_0_1_n_n none
      (mulf (maximumf (Host.dotGeneral Cert.MlpRefIdeal.dot_S65536x1024_S1024x4096_S65536x4096_1_0_0_1_n_n none X U)
          (broadcastInDim Cert.MlpRefIdeal.S65536x4096 ![] bcast_S_S65536x4096 (constant Cert.MlpRefIdeal.S_ .f32 0x00000000#32)))
        (maximumf (Host.dotGeneral Cert.MlpRefIdeal.dot_S65536x1024_S1024x4096_S65536x4096_1_0_0_1_n_n none X U)
          (broadcastInDim Cert.MlpRefIdeal.S65536x4096 ![] bcast_S_S65536x4096 (constant Cert.MlpRefIdeal.S_ .f32 0x00000000#32)))) W)

open Cert.MlpRefIdeal.Gen in
/-- The reference's layer norm of the rows of `z`. -/
def REFnorm (z : FVec Ideal Cert.MlpRefIdeal.S65536x1024 .f32) (g b : FVec Ideal Cert.MlpRefIdeal.S1024 .f32) : FVec Ideal Cert.MlpRefIdeal.S65536x1024 .f32 :=
  have mu : FVec Ideal Cert.MlpRefIdeal.S65536x1 .f32 := Host.divf (broadcastInDim Cert.MlpRefIdeal.S65536x1 ![0] bcast_S65536_S65536x1_0 (Host.reduceAdd z (constant Cert.MlpRefIdeal.S_ .f32 0x00000000#32) reducesTo_S65536x1024_S65536_d1 h_S_))
    (broadcastInDim Cert.MlpRefIdeal.S65536x1 ![] bcast_S_S65536x1 (constant Cert.MlpRefIdeal.S_ .f32 0x44800000#32))
  have d : FVec Ideal Cert.MlpRefIdeal.S65536x1024 .f32 := subf z (broadcastInDim Cert.MlpRefIdeal.S65536x1024 ![0, 1] bcast_S65536x1_S65536x1024_0_1 mu)
  have v : FVec Ideal Cert.MlpRefIdeal.S65536x1 .f32 := Host.divf (broadcastInDim Cert.MlpRefIdeal.S65536x1 ![0] bcast_S65536_S65536x1_0 (Host.reduceAdd (mulf d d) (constant Cert.MlpRefIdeal.S_ .f32 0x00000000#32) reducesTo_S65536x1024_S65536_d1 h_S_))
    (broadcastInDim Cert.MlpRefIdeal.S65536x1 ![] bcast_S_S65536x1 (constant Cert.MlpRefIdeal.S_ .f32 0x44800000#32))
  have i : FVec Ideal Cert.MlpRefIdeal.S65536x1 .f32 := Host.rsqrt (addf v (broadcastInDim Cert.MlpRefIdeal.S65536x1 ![] bcast_S_S65536x1 (constant Cert.MlpRefIdeal.S_ .f32 0x3727C5AC#32)))
  addf (mulf (mulf d (broadcastInDim Cert.MlpRefIdeal.S65536x1024 ![0, 1] bcast_S65536x1_S65536x1024_0_1 i))
      (broadcastInDim Cert.MlpRefIdeal.S65536x1024 ![0, 1] bcast_S1x1024_S65536x1024_0_1 (broadcastInDim Cert.MlpRefIdeal.S1x1024 ![1] bcast_S1024_S1x1024_1 g)))
    (broadcastInDim Cert.MlpRefIdeal.S65536x1024 ![0, 1] bcast_S1x1024_S65536x1024_0_1 (broadcastInDim Cert.MlpRefIdeal.S1x1024 ![1] bcast_S1024_S1x1024_1 b))

open Cert.MlpRefIdeal.Gen in
/-- The reference's result of its arguments: the norm of what it normalises, the batch and the tokens one axis. -/
def REF (H : FVec Ideal Cert.MlpRefIdeal.S8x8192x1024 .f32) (U : FVec Ideal Cert.MlpRefIdeal.S1x1024x4096 .f32) (W : FVec Ideal Cert.MlpRefIdeal.S1x4096x1024 .f32)
    (g b : FVec Ideal Cert.MlpRefIdeal.S1x1024 .f32) : FVec Ideal Cert.MlpRefIdeal.S65536x1024 .f32 :=
  REFnorm (REFpre (shapeCast _ H Cert.MlpRefIdeal.Gen.shapeCasts_S8x8192x1024_S65536x1024) (shapeCast _ U Cert.MlpRefIdeal.Gen.shapeCasts_S1x1024x4096_S1024x4096) (shapeCast _ W Cert.MlpRefIdeal.Gen.shapeCasts_S1x4096x1024_S4096x1024))
    (shapeCast _ g Cert.MlpRefIdeal.Gen.shapeCasts_S1x1024_S1024) (shapeCast _ b Cert.MlpRefIdeal.Gen.shapeCasts_S1x1024_S1024)

/-- The run's term of the reference is `REF` of its arguments. -/
theorem ref_eq (m : (ℓ : Loc Cert.MlpRefIdeal.nD Cert.MlpRefIdeal.τ Cert.MlpRefIdeal.sig) → Buf (Elt Ideal) ℓ) (c : Dev Cert.MlpRefIdeal.nD) :
    Cert.MlpRefIdeal.Value.res_out0 m c = REF (m ((c.tc : Thread _ _).loc Cert.MlpRefIdeal.main_arg0)) (m ((c.tc : Thread _ _).loc Cert.MlpRefIdeal.main_arg1))
      (m ((c.tc : Thread _ _).loc Cert.MlpRefIdeal.main_arg2)) (m ((c.tc : Thread _ _).loc Cert.MlpRefIdeal.main_arg3)) (m ((c.tc : Thread _ _).loc Cert.MlpRefIdeal.main_arg4)) := by
  unfold Cert.MlpRefIdeal.Value.res_out0 Cert.MlpRefIdeal.Value.res_main_v33; rfl

/-- What the kernel normalises: the residual and the four chunks' products. -/
def kpre (x0 : Vec Ideal S512x1024 .f32) (x1 : Vec Ideal S1024x4096 .bf16) (x2 : Vec Ideal S4096x1024 .bf16) : FVec Ideal S512x1024 .f32 :=
  have v43 : FVec Ideal S512x1024 .bf16 := k0_pay4 (View.ld x0 r0_0) (View.ld x1 r0_7)
  addf (mulf (broadcast S512x1024 (Scalar.ofBits .f32 0x3F9837F0#32)) (k0_pay1 (View.ld x0 r0_0)))
    (addf (addf (k0_pay3 (View.ld x0 r0_0) (View.ld x1 r0_1) (View.ld x2 r0_2) (View.ld x1 r0_3) (View.ld x2 r0_4))
      (matmul dot_S512x1024_S1024x1024_S512x1024_1_0_0_1_n_n none (k0_pay4 (View.ld x0 r0_0) (View.ld x1 r0_5)) (k0_pay5 (View.ld x2 r0_6)) (constant S512x1024 .f32 0x00000000#32)))
      (matmul dot_S512x1024_S1024x1024_S512x1024_1_0_0_1_n_n none v43 (k0_pay5 (View.ld x2 r0_8)) (constant S512x1024 .f32 0x00000000#32)))

/-- The kernel's layer norm of a block's rows. -/
def knorm (v50 : FVec Ideal S512x1024 .f32) (v51 v53 : Vec Ideal S1x1024 .f32) : FVec Ideal S512x1024 .f32 :=
  have mu : FVec Ideal S512x1 .f32 := divf (shapeCast S512x1 (multiReduction .add [1] S512 v50 0x00000000#32 reduces_S512x1024_S512 (.inl rfl) rfl : FVec Ideal S512 .f32) shapeCasts_S512_S512x1) (broadcast S512x1 (Scalar.ofBits .f32 0x44800000#32))
  have d : FVec Ideal S512x1024 .f32 := subf v50 (broadcastTo S512x1024 mu broadcasts_S512x1_S512x1024)
  have v : FVec Ideal S512x1 .f32 := divf (shapeCast S512x1 (multiReduction .add [1] S512 (mulf d d) 0x00000000#32 reduces_S512x1024_S512 (.inl rfl) rfl : FVec Ideal S512 .f32) shapeCasts_S512_S512x1) (broadcast S512x1 (Scalar.ofBits .f32 0x44800000#32))
  have i : FVec Ideal S512x1 .f32 := rsqrt (addf v (broadcast S512x1 (Scalar.ofBits .f32 0x3727C5AC#32)))
  addf (mulf (mulf d (broadcastTo S512x1024 i broadcasts_S512x1_S512x1024)) (broadcastTo S512x1024 (shapeCast S1x1024 v51 shapeCasts_S1x1024_S1x1024) broadcasts_S1x1024_S512x1024))
    (broadcastTo S512x1024 (shapeCast S1x1024 v53 shapeCasts_S1x1024_S1x1024) broadcasts_S1x1024_S512x1024)

/-- A row's layer norm at one lane, from the row's numbers. -/
def norm (z : Fin 1024 → EReal) (g b : EReal) (l : Fin 1024) : EReal :=
  (z l - Ideal.div (∑ x, z x) (Ideal.ofBits .f32 0x44800000#32))
    * Ideal.rsqrt (Ideal.div (∑ x, (z x - Ideal.div (∑ y, z y) (Ideal.ofBits .f32 0x44800000#32)) * (z x - Ideal.div (∑ y, z y) (Ideal.ofBits .f32 0x44800000#32))) (Ideal.ofBits .f32 0x44800000#32) + Ideal.ofBits .f32 0x3727C5AC#32)
    * g + b

theorem REFnorm_at (z : FVec Ideal Cert.MlpRefIdeal.S65536x1024 .f32) (g b : FVec Ideal Cert.MlpRefIdeal.S1024 .f32) (r : Fin 65536) (l : Fin 1024) :
    REFnorm z g b (ix2 r l) = norm (fun x => z (ix2 r x)) (g (ix1 l)) (b (ix1 l)) l := by
  pointwise [REFnorm, norm]

theorem knorm_at (z : FVec Ideal S512x1024 .f32) (g b : Vec Ideal S1x1024 .f32) (r : Fin 512) (l : Fin 1024) :
    knorm z g b (ix2 r l) = norm (fun x => z (ix2 r x)) (g (ix2 0 l)) (b (ix2 0 l)) l := by
  pointwise [knorm, norm]

/-- What the kernel normalises is, row for row, what the reference normalises: the four chunks of the hidden axis are one sum. -/
theorem kpre_at (x0 : Vec Ideal S512x1024 .f32) (x1 : Vec Ideal S1024x4096 .bf16) (x2 : Vec Ideal S4096x1024 .bf16)
    (X : FVec Ideal Cert.MlpRefIdeal.S65536x1024 .f32) (U : FVec Ideal Cert.MlpRefIdeal.S1024x4096 .f32) (W : FVec Ideal Cert.MlpRefIdeal.S4096x1024 .f32)
    (r : Fin 512) (R : Fin 65536) (h0 : ∀ k : Fin 1024, x0 (ix2 r k) = X (ix2 R k)) (h1 : ∀ (i : Fin 1024) (j : Fin 4096), x1 (ix2 i j) = U (ix2 i j))
    (h2 : ∀ (i : Fin 4096) (j : Fin 1024), x2 (ix2 i j) = W (ix2 i j)) (l : Fin 1024) :
    kpre x0 x1 x2 (ix2 r l) = REFpre X U W (ix2 R l) := by
  pointwise [kpre, k0_pay1, k0_pay2, k0_pay3, k0_pay4, k0_pay5, REFpre]
  simp only [h0, h1, h2]
  rw [Fin.sum_univ_tiles 4 1024 rfl]
  simp only [Fin.sum_univ_four]
  blk_point []

/-- One point: what the body leaves at row `r` of block `t` is the reference's row `512 t + r`. -/
theorem point (H : FVec Ideal Cert.MlpRefIdeal.S8x8192x1024 .f32) (U : FVec Ideal Cert.MlpRefIdeal.S1x1024x4096 .f32) (W : FVec Ideal Cert.MlpRefIdeal.S1x4096x1024 .f32)
    (g b : FVec Ideal Cert.MlpRefIdeal.S1x1024 .f32)
    (x0 : Vec Ideal S512x1024 .f32) (x1 : Vec Ideal S1024x4096 .bf16) (x2 : Vec Ideal S4096x1024 .bf16) (x3 x4 : Vec Ideal S1x1024 .f32)
    (r : Fin 512) (R : Fin 65536) (l : Fin 1024)
    (h0 : ∀ k : Fin 1024, x0 (ix2 r k) = shapeCast Cert.MlpRefIdeal.S65536x1024 H Cert.MlpRefIdeal.Gen.shapeCasts_S8x8192x1024_S65536x1024 (ix2 R k))
    (h1 : ∀ (i : Fin 1024) (j : Fin 4096), x1 (ix2 i j) = shapeCast Cert.MlpRefIdeal.S1024x4096 U Cert.MlpRefIdeal.Gen.shapeCasts_S1x1024x4096_S1024x4096 (ix2 i j))
    (h2 : ∀ (i : Fin 4096) (j : Fin 1024), x2 (ix2 i j) = shapeCast Cert.MlpRefIdeal.S4096x1024 W Cert.MlpRefIdeal.Gen.shapeCasts_S1x4096x1024_S4096x1024 (ix2 i j))
    (h3 : ∀ k : Fin 1024, x3 (ix2 0 k) = shapeCast Cert.MlpRefIdeal.S1024 g Cert.MlpRefIdeal.Gen.shapeCasts_S1x1024_S1024 (ix1 k))
    (h4 : ∀ k : Fin 1024, x4 (ix2 0 k) = shapeCast Cert.MlpRefIdeal.S1024 b Cert.MlpRefIdeal.Gen.shapeCasts_S1x1024_S1024 (ix1 k)) :
    knorm (kpre x0 x1 x2) x3 x4 (ix2 r l) = REF H U W g b (ix2 R l) := by
  unfold REF
  rw [knorm_at, REFnorm_at, ← h3, ← h4]
  simp only [kpre_at x0 x1 x2 _ _ _ r R h0 h1 h2]

/-- The block the body leaves is the norm of what it normalises. -/
theorem out_eq (x0 : Vec Ideal S512x1024 .f32) (x1 : Vec Ideal S1024x4096 .bf16) (x2 : Vec Ideal S4096x1024 .bf16) (x3 x4 : Vec Ideal S1x1024 .f32) :
    out0_5 x0 x1 x2 x3 x4 = knorm (kpre x0 x1 x2) x3 x4 := by
  have e0 : View.ld x0 r0_0 = x0 := by frame_out
  have e3 : View.ld x3 r0_9 = x3 := by frame_out
  have e4 : View.ld x4 r0_9 = x4 := by frame_out
  frame_out
  unfold kpre; rw [e0]; rfl

/-- The result array after the run is the reference's term of the arguments. -/
theorem final (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5, out_eq]
  have hN : t.val < 128 := t.isLt
  have hr : (y 0).val < 512 := (y 0).isLt
  have hl : (y 1).val < 1024 := (y 1).isLt
  have hy : y = (ix2 ⟨(y 0).val, hr⟩ ⟨(y 1).val, hl⟩ : S512x1024.Idx) := by blk_ext []
  have hR : 512 * t.val + (y 0).val < 65536 := by omega
  have he : (win0_5.blk t).view.emb y = (ix2 ⟨512 * t.val + (y 0).val, hR⟩ ⟨(y 1).val, hl⟩ : S65536x1024.Idx) := by blk_ext [idx t]
  rw [he]
  refine (congrArg _ hy).trans ?_
  refine point _ _ _ _ _ _ _ _ _ _ _ _ _ (fun k => ?_) (fun i j => ?_) (fun i j => ?_) (fun k => ?_) (fun k => ?_)
  · blk_simp [iblk, idx t]; entry_read; pointwise; blk_ext [idx t]
  · blk_simp [iblk, idx t]; entry_read; pointwise; blk_ext [idx t]
  · blk_simp [iblk, idx t]; entry_read; pointwise; blk_ext [idx t]
  · blk_simp [iblk, idx t]; entry_read; pointwise; blk_ext [idx t]
  · blk_simp [iblk, idx t]; entry_read; pointwise; blk_ext [idx t]

end Cert.MlpIdeal.RefValue
end
-- ==== Proof.MkvValue.lean ====
module

public import proofs.«01_k».proof.Proof.Gen.MkvIdeal.Value
public import proofs.«01_k».proof.Proof.Gen.MkvRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MkvIdeal.RefValue

open Cert.MkvIdeal Cert.MkvIdeal.Gen

variable (m : (ℓ : Loc nD τ sig) → Buf (Elt Ideal) ℓ)

/-- Every window's block index: the memory's and the results' block is the batch, the weights are whole. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

open Cert.MkvRefIdeal.Gen in
/-- The reference's result of the memory and one weight matrix: their product, batch by batch. -/
def REF (M : FVec Ideal Cert.MkvRefIdeal.S8x256x1024 .f32) (W : FVec Ideal Cert.MkvRefIdeal.S1x1024x1024 .f32) : FVec Ideal Cert.MkvRefIdeal.S8x256x1024 .bf16 :=
  truncf .bf16 (Host.dotGeneral Cert.MkvRefIdeal.dot_S8x256x1024_S1024x1024_S8x256x1024_2_0_01_1_n_n none M
    (shapeCast Cert.MkvRefIdeal.S1024x1024 W Cert.MkvRefIdeal.Gen.shapeCasts_S1x1024x1024_S1024x1024) : FVec Ideal Cert.MkvRefIdeal.S8x256x1024 .f32) Cert.MkvRefIdeal.Gen.bitsLt_bf16_f32

/-- The keys' block at one point. -/
theorem point3 (M : FVec Ideal Cert.MkvRefIdeal.S8x256x1024 .f32) (W : FVec Ideal Cert.MkvRefIdeal.S1x1024x1024 .f32)
    (x0 : Vec Ideal S1x256x1024 .f32) (x1 x2 : Vec Ideal S1024x1024 .bf16) (b : Fin 8) (r : Fin 256) (l : Fin 1024)
    (h0 : ∀ k : Fin 1024, x0 (ix3 0 r k) = M (ix3 b r k))
    (h1 : ∀ i j : Fin 1024, x1 (ix2 i j) = shapeCast Cert.MkvRefIdeal.S1024x1024 W Cert.MkvRefIdeal.Gen.shapeCasts_S1x1024x1024_S1024x1024 (ix2 i j)) :
    out0_3 x0 x1 x2 (ix3 0 r l) = REF M W (ix3 b r l) := by
  frame_out
  pointwise [k0_pay1, k0_pay2, REF]
  simp only [h0, h1]
  pointwise

/-- The values' block at one point. -/
theorem point4 (M : FVec Ideal Cert.MkvRefIdeal.S8x256x1024 .f32) (W : FVec Ideal Cert.MkvRefIdeal.S1x1024x1024 .f32)
    (x0 : Vec Ideal S1x256x1024 .f32) (x1 x2 : Vec Ideal S1024x1024 .bf16) (b : Fin 8) (r : Fin 256) (l : Fin 1024)
    (h0 : ∀ k : Fin 1024, x0 (ix3 0 r k) = M (ix3 b r k))
    (h2 : ∀ i j : Fin 1024, x2 (ix2 i j) = shapeCast Cert.MkvRefIdeal.S1024x1024 W Cert.MkvRefIdeal.Gen.shapeCasts_S1x1024x1024_S1024x1024 (ix2 i j)) :
    out0_4 x0 x1 x2 (ix3 0 r l) = REF M W (ix3 b r l) := by
  frame_out
  pointwise [k0_pay1, k0_pay3, REF]
  simp only [h0, h2]
  pointwise

/-- The keys' array after the run is the reference's term of the arguments. -/
theorem final3 (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]
  have hN : t.val < 8 := t.isLt
  have hz : (y 0).val < 1 := (y 0).isLt
  have hr : (y 1).val < 256 := (y 1).isLt
  have hl : (y 2).val < 1024 := (y 2).isLt
  have hy : y = (ix3 0 ⟨(y 1).val, hr⟩ ⟨(y 2).val, hl⟩ : S1x256x1024.Idx) := by blk_ext []
  have he : (win0_3.blk t).view.emb y = (ix3 ⟨t.val, hN⟩ ⟨(y 1).val, hr⟩ ⟨(y 2).val, hl⟩ : S8x256x1024.Idx) := by blk_ext [idx t]
  rw [he]
  refine (congrArg _ hy).trans ?_
  refine point3 _ _ _ _ _ _ _ _ (fun k => ?_) (fun i j => ?_)
  · blk_simp [iblk, idx t]; entry_read; pointwise; blk_ext [idx t]
  · blk_simp [iblk, idx t]; entry_read; pointwise; blk_ext [idx t]

/-- The values' array after the run is the reference's term of the arguments. -/
theorem final4 (c : Dev nD) : (dats m 0 c).arrAt 4 (cfgs 0).N
    = REF (m ((c : Thread nD τ).loc main_arg0)) (m ((c : Thread nD τ).loc main_arg2)) := by
  refine (dats m 0 c).arrAt_eq_of_covers 4 _ (by decide +kernel) fun t _ y => ?_
  blk_simp
  rw [after0_4]
  have hN : t.val < 8 := t.isLt
  have hz : (y 0).val < 1 := (y 0).isLt
  have hr : (y 1).val < 256 := (y 1).isLt
  have hl : (y 2).val < 1024 := (y 2).isLt
  have hy : y = (ix3 0 ⟨(y 1).val, hr⟩ ⟨(y 2).val, hl⟩ : S1x256x1024.Idx) := by blk_ext []
  have he : (win0_4.blk t).view.emb y = (ix3 ⟨t.val, hN⟩ ⟨(y 1).val, hr⟩ ⟨(y 2).val, hl⟩ : S8x256x1024.Idx) := by blk_ext [idx t]
  rw [he]
  refine (congrArg _ hy).trans ?_
  refine point4 _ _ _ _ _ _ _ _ (fun k => ?_) (fun i j => ?_)
  · blk_simp [iblk, idx t]; entry_read; pointwise; blk_ext [idx t]
  · blk_simp [iblk, idx t]; entry_read; pointwise; blk_ext [idx t]

end Cert.MkvIdeal.RefValue
end
-- ==== Proof.Flash.lean ====
module

public import Idealize.ShloMosaic.Lib.IdealHost
public import Idealize.ShloMosaic.Lib.Pointwise

@[expose] public section

noncomputable section

open Idealize.ShloMosaic

namespace Cert.Flash

/-- The weight of a score: its exponential as a real number, 0 for a masked (`⊥`) score. -/
def wt (g : EReal) : ℝ := (Ideal.exp g).toReal

/-- A weight is not negative. -/
theorem wt_nonneg (g : EReal) : 0 ≤ wt g := by
  induction g using EReal.rec with
  | bot => simp [wt]
  | top => simp [wt]
  | coe r => simp [wt, Real.exp_nonneg]

/-- A score that is a real number has a positive weight. -/
theorem wt_pos {g : EReal} (ht : g ≠ ⊤) (hb : g ≠ ⊥) : 0 < wt g := by
  induction g using EReal.rec with
  | bot => exact absurd rfl hb
  | top => exact absurd rfl ht
  | coe r => simp [wt, Real.exp_pos]

/-- A masked score has weight 0. -/
@[simp] theorem wt_bot : wt ⊥ = 0 := by simp [wt]

/-- The exponential of a score less a real number is the score's weight times a positive real. -/
theorem exp_sub {g : EReal} (ht : g ≠ ⊤) (μ : ℝ) : Ideal.exp (g - (μ : EReal)) = ((Real.exp (-μ) * wt g : ℝ) : EReal) := by
  induction g using EReal.rec with
  | bot => simp [wt]
  | top => exact absurd rfl ht
  | coe r =>
    rw [← EReal.coe_sub, Ideal.exp_coe]
    simp only [wt, Ideal.exp_coe, EReal.toReal_coe]
    rw [← Real.exp_add]; congr 2; ring

/-- A sum of real numbers, read in the extended reals. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A real number that is not negative distributes over a sum of extended reals. -/
theorem mul_sum {ι : Type*} (s : Finset ι) (f : ι → EReal) {c : ℝ} (hc : 0 ≤ c) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The same over a sum of products whose first factors are real. -/
theorem mul_sum_mul {ι : Type*} (s : Finset ι) (e : ι → ℝ) (w : ι → EReal) {c : ℝ} (hc : 0 ≤ c) :
    (c : EReal) * ∑ k ∈ s, (e k : EReal) * w k = ∑ k ∈ s, ((c * e k : ℝ) : EReal) * w k := by
  rw [mul_sum s _ hc]
  exact Finset.sum_congr rfl fun k _ => by rw [EReal.coe_mul, mul_assoc]

/-- The maximum of finitely many scores, none `⊤` and one of them real, is real. -/
theorem fold_real {n : Nat} (f : Fin n → EReal) (ht : ∀ t, f t ≠ ⊤) (hb : ∃ t, f t ≠ ⊥) :
    ∃ μ : ℝ, Finset.fold max ⊥ f Finset.univ = (μ : EReal) := by
  have hs : Finset.fold max ⊥ f Finset.univ = Finset.univ.sup f := rfl
  have h1 : Finset.univ.sup f ≠ ⊤ :=
    ne_of_lt ((Finset.sup_lt_iff bot_lt_top).2 fun t _ => lt_top_iff_ne_top.2 (ht t))
  have h2 : Finset.univ.sup f ≠ ⊥ := by
    obtain ⟨t, h⟩ := hb
    exact ne_of_gt (lt_of_lt_of_le (bot_lt_iff_ne_bot.2 h) (Finset.le_sup (Finset.mem_univ t)))
  exact ⟨(Finset.univ.sup f).toReal, by rw [hs, EReal.coe_toReal h1 h2]⟩

/-- What one query row's running maximum, denominator and one lane of its accumulator hold after the first `n` keys, of
scores `g` and values `w`: nothing yet, or sums of the weights scaled by one real factor. -/
def Inv (g w : ℕ → EReal) (n : ℕ) (m l a : EReal) : Prop :=
  (n = 0 ∧ m = ⊥ ∧ l = 0 ∧ a = 0) ∨ ∃ μ : ℝ, m = (μ : EReal) ∧ l = ((Real.exp (-μ) * ∑ k ∈ Finset.range n, wt (g k) : ℝ) : EReal)
    ∧ a = ∑ k ∈ Finset.range n, ((Real.exp (-μ) * wt (g k) : ℝ) : EReal) * w k

/-- The state before any key. -/
theorem Inv.zero (g w : ℕ → EReal) : Inv g w 0 ⊥ 0 0 := .inl ⟨rfl, rfl, rfl, rfl⟩

/-- The sum over the first `n + J` keys, the last `J` of them one block. -/
theorem range_block {M : Type*} [AddCommMonoid M] (n J : ℕ) (f : ℕ → M) :
    ∑ k ∈ Finset.range (n + J), f k = ∑ k ∈ Finset.range n, f k + ∑ t : Fin J, f (n + t.val) := by
  rw [Finset.sum_range_add, Finset.sum_range (fun t => f (n + t))]

/-- One block of `J` keys: the rescaled state with the block's exponentials added describes the keys up to the block's end. -/
theorem Inv.step {g w : ℕ → EReal} {n J : ℕ} {m l a : EReal} (h : Inv g w n m l a) (ht : ∀ k, g k ≠ ⊤)
    (hb : ∃ t : Fin J, g (n + t.val) ≠ ⊥) (B W : Fin J → EReal) (hB : ∀ t, B t = g (n + t.val)) (hW : ∀ t, W t = w (n + t.val)) :
    Inv g w (n + J) (max m (Finset.fold max ⊥ B Finset.univ))
      (Ideal.exp (m - max m (Finset.fold max ⊥ B Finset.univ)) * l
        + ∑ t, Ideal.exp (B t - max m (Finset.fold max ⊥ B Finset.univ)))
      (Ideal.exp (m - max m (Finset.fold max ⊥ B Finset.univ)) * a
        + ∑ t, Ideal.exp (B t - max m (Finset.fold max ⊥ B Finset.univ)) * W t) := by
  obtain ⟨β, hβ⟩ := fold_real B (fun t => by rw [hB]; exact ht _) (by obtain ⟨t, h⟩ := hb; exact ⟨t, by rw [hB]; exact h⟩)
  rw [hβ]
  have hsum : ∀ ν : ℝ, ∑ t, Ideal.exp (B t - (ν : EReal)) = ((Real.exp (-ν) * ∑ t : Fin J, wt (g (n + t.val)) : ℝ) : EReal) := fun ν => by
    rw [Finset.mul_sum, ← coe_sum]
    exact Finset.sum_congr rfl fun t _ => by rw [hB, exp_sub (ht _)]
  have hacc : ∀ ν : ℝ, ∑ t, Ideal.exp (B t - (ν : EReal)) * W t
      = ∑ t : Fin J, ((Real.exp (-ν) * wt (g (n + t.val)) : ℝ) : EReal) * w (n + t.val) := fun ν =>
    Finset.sum_congr rfl fun t _ => by rw [hB, exp_sub (ht _), hW]
  rcases h with ⟨rfl, rfl, rfl, rfl⟩ | ⟨μ, rfl, rfl, rfl⟩
  · refine .inr ⟨β, max_eq_right bot_le, ?_, ?_⟩
    · rw [max_eq_right bot_le, hsum, range_block]; simp
    · rw [max_eq_right bot_le, hacc, range_block]; simp
  · have hm : max (μ : EReal) (β : EReal) = ((max μ β : ℝ) : EReal) := (EReal.coe_strictMono.monotone.map_max).symm
    refine .inr ⟨max μ β, hm, ?_, ?_⟩
    · rw [hm, hsum, range_block, ← EReal.coe_sub, Ideal.exp_coe, ← EReal.coe_mul, ← EReal.coe_add]
      congr 1
      rw [← mul_assoc, ← Real.exp_add, mul_add, show μ - max μ β + -μ = -max μ β by ring]
    · rw [hm, hacc, range_block, ← EReal.coe_sub, Ideal.exp_coe, mul_sum_mul _ _ _ (Real.exp_nonneg _)]
      congr 1
      exact Finset.sum_congr rfl fun k _ => by
        rw [← mul_assoc, ← Real.exp_add, show μ - max μ β + -μ = -max μ β by ring]

/-- Softmax attention of one row and lane over the first `n` keys, as a sum of weights over their total. -/
def out (g w : ℕ → EReal) (n : ℕ) : EReal :=
  ∑ k ∈ Finset.range n, ((wt (g k) / ∑ j ∈ Finset.range n, wt (g j) : ℝ) : EReal) * w k

/-- The total weight of keys of which one is not masked is positive. -/
theorem total_pos {g : ℕ → EReal} {n : ℕ} (ht : ∀ k, g k ≠ ⊤) (hb : ∃ k < n, g k ≠ ⊥) : 0 < ∑ j ∈ Finset.range n, wt (g j) := by
  obtain ⟨k, hk, h⟩ := hb
  exact Finset.sum_pos' (fun j _ => wt_nonneg _) ⟨k, Finset.mem_range.2 hk, wt_pos (ht k) h⟩

/-- The accumulator over the denominator, after `n` keys of which one is not masked, is the attention over these keys. -/
theorem Inv.div {g w : ℕ → EReal} {n : ℕ} {m l a : EReal} (h : Inv g w n m l a) (ht : ∀ k, g k ≠ ⊤) (hb : ∃ k < n, g k ≠ ⊥) :
    Ideal.div a l = out g w n := by
  have hE := total_pos ht hb
  rcases h with ⟨rfl, -, -, -⟩ | ⟨μ, -, rfl, rfl⟩
  · obtain ⟨k, hk, -⟩ := hb; omega
  · have hp : 0 < Real.exp (-μ) * ∑ k ∈ Finset.range n, wt (g k) := mul_pos (Real.exp_pos _) hE
    rw [Ideal.div_coe hp.ne', mul_comm, mul_sum_mul _ _ _ (one_div_nonneg.2 hp.le)]
    refine Finset.sum_congr rfl fun k _ => ?_
    congr 2
    have := (Real.exp_pos (-μ)).ne'
    field_simp

/-- Masked keys at the end change nothing. -/
theorem out_extend (g w : ℕ → EReal) {n N : ℕ} (hn : n ≤ N) (hm : ∀ k, n ≤ k → g k = ⊥) : out g w N = out g w n := by
  have hs : ∑ j ∈ Finset.range N, wt (g j) = ∑ j ∈ Finset.range n, wt (g j) := by
    refine (Finset.sum_subset (Finset.range_subset_range.2 hn) fun k _ hk => ?_).symm
    rw [hm k (by simpa using hk), wt_bot]
  unfold out; rw [hs]
  refine (Finset.sum_subset (Finset.range_subset_range.2 hn) fun k _ hk => ?_).symm
  rw [hm k (by simpa using hk), wt_bot]; simp

/-- The plain softmax: values weighed by the exponentials of the scores less their maximum, each over the sum of all. -/
theorem softmax {N : ℕ} (g w : ℕ → EReal) (B W : Fin N → EReal) (hB : ∀ t, B t = g t.val) (hW : ∀ t, W t = w t.val)
    (ht : ∀ k, g k ≠ ⊤) (hb : ∃ k < N, g k ≠ ⊥) :
    ∑ x : Fin N, W x * Ideal.div (Ideal.exp (B x - max ⊥ (Finset.fold max ⊥ B Finset.univ)))
      (∑ y : Fin N, Ideal.exp (B y - max ⊥ (Finset.fold max ⊥ B Finset.univ))) = out g w N := by
  have hE := total_pos ht hb
  obtain ⟨β, hβ⟩ := fold_real B (fun t => by rw [hB]; exact ht _) (by obtain ⟨k, hk, h⟩ := hb; exact ⟨⟨k, hk⟩, by rw [hB]; exact h⟩)
  rw [hβ, max_eq_right bot_le]
  have hsum : ∑ t, Ideal.exp (B t - (β : EReal)) = ((Real.exp (-β) * ∑ k ∈ Finset.range N, wt (g k) : ℝ) : EReal) := by
    rw [Finset.mul_sum, ← coe_sum, Finset.sum_range (fun k => ((Real.exp (-β) * wt (g k) : ℝ) : EReal))]
    exact Finset.sum_congr rfl fun t _ => by rw [hB, exp_sub (ht _)]
  have hp : 0 < Real.exp (-β) * ∑ k ∈ Finset.range N, wt (g k) := mul_pos (Real.exp_pos _) hE
  unfold out
  rw [hsum, Finset.sum_range (fun k => ((wt (g k) / ∑ j ∈ Finset.range N, wt (g j) : ℝ) : EReal) * w k)]
  refine Finset.sum_congr rfl fun t _ => ?_
  rw [Ideal.div_coe hp.ne', hB, exp_sub (ht _), hW, mul_comm, ← EReal.coe_mul]
  congr 2
  have := (Real.exp_pos (-β)).ne'
  field_simp

end Cert.Flash

end
-- ==== Proof.AttnBlock.lean ====
module

public import proofs.«01_k».proof.Proof.Gen.AttnIdeal.Value
public import proofs.«01_k».proof.Proof.Flash
public import Idealize.ShloMosaic.Lib.Pointwise
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Cert.Flash

namespace Cert.AttnIdeal.RefValue

open Cert.AttnIdeal Cert.AttnIdeal.Gen

/-- The word of the running maximum's start and of a masked score, `-∞`. -/
theorem negInf : Ideal.ofBits .f32 0xFF800000#32 = ⊥ := by simp [Ideal.ofBits, Ideal.ieee]

/-- The named mask is `-∞`. -/
theorem mask_eq : (Named.named κ "mask" 0xF149F2CA#32 : Ideal .f32) = ⊥ := rfl

/-- A running state: the maximum and the denominator of every row, the accumulator of every row and lane. -/
abbrev St := FVec Ideal S512x1 .f32 × FVec Ideal S512x1 .f32 × FVec Ideal S512x128 .f32

/-- Every row and lane of the state `S` describes the first `n` keys of its row's scores and its lane's values. -/
def Holds (g : Fin 512 → ℕ → EReal) (w : Fin 128 → ℕ → EReal) (n : ℕ) (S : St) : Prop :=
  ∀ (r : Fin 512) (d : Fin 128), Inv (g r) (w d) n (S.1 (ix2 r 0)) (S.2.1 (ix2 r 0)) (S.2.2 (ix2 r d))

/-- A trip's new maximum of a row. -/
theorem pay7_at (v1 KB : Vec Ideal S1x512x128 .bf16) (m : FVec Ideal S512x1 .f32) (r : Fin 512) :
    k0_pay7 v1 m KB (ix2 r 0) = max (m (ix2 r 0)) (Finset.fold max ⊥ (fun t : Fin 512 => ∑ x : Fin 128, v1 (ix3 0 r x) * KB (ix3 0 t x)) Finset.univ) := by
  pointwise [k0_pay7, k0_pay6, k0_pay2]
  rw [negInf]

/-- A trip's new denominator of a row. -/
theorem pay10_at (v1 KB : Vec Ideal S1x512x128 .bf16) (m l : FVec Ideal S512x1 .f32) (r : Fin 512) :
    k0_pay10 v1 m l KB (ix2 r 0) = Ideal.exp (m (ix2 r 0) - k0_pay7 v1 m KB (ix2 r 0)) * l (ix2 r 0)
      + ∑ t : Fin 512, Ideal.exp ((∑ x : Fin 128, v1 (ix3 0 r x) * KB (ix3 0 t x)) - k0_pay7 v1 m KB (ix2 r 0)) := by
  pointwise [k0_pay10, k0_pay8, k0_pay9, k0_pay6, k0_pay2]

/-- A trip's new accumulator at a row and lane. -/
theorem pay11_at (v1 KB VB : Vec Ideal S1x512x128 .bf16) (m : FVec Ideal S512x1 .f32) (a : FVec Ideal S512x128 .f32) (r : Fin 512) (d : Fin 128) :
    k0_pay11 v1 m a KB VB (ix2 r d) = Ideal.exp (m (ix2 r 0) - k0_pay7 v1 m KB (ix2 r 0)) * a (ix2 r d)
      + ∑ t : Fin 512, Ideal.exp ((∑ x : Fin 128, v1 (ix3 0 r x) * KB (ix3 0 t x)) - k0_pay7 v1 m KB (ix2 r 0)) * VB (ix3 0 t d) := by
  pointwise [k0_pay11, k0_pay8, k0_pay9, k0_pay6, k0_pay2]

/-- One trip over a block of 512 keys none of which is masked. -/
theorem Holds.trip {g : Fin 512 → ℕ → EReal} {w : Fin 128 → ℕ → EReal} {n : ℕ} {S : St} (h : Holds g w n S)
    (v1 KB VB : Vec Ideal S1x512x128 .bf16) (ht : ∀ r k, g r k ≠ ⊤) (hb : ∀ r (t : Fin 512), g r (n + t.val) ≠ ⊥)
    (hB : ∀ (r t : Fin 512), ∑ x : Fin 128, v1 (ix3 0 r x) * KB (ix3 0 t x) = g r (n + t.val)) (hW : ∀ (t : Fin 512) (d : Fin 128), VB (ix3 0 t d) = w d (n + t.val)) :
    Holds g w (n + 512) (k0_pay7 v1 S.1 KB, k0_pay10 v1 S.1 S.2.1 KB, k0_pay11 v1 S.1 S.2.2 KB VB) := by
  intro r d
  dsimp only
  rw [pay10_at, pay11_at, pay7_at]
  exact (h r d).step (ht r) ⟨0, hb r 0⟩ _ (fun t => VB (ix3 0 t d)) (hB r) fun t => hW t d

/-- The first inner loop of a head runs over the key blocks before the query block's own. -/
theorem trips1 (i : grid0.Coords) : (k0_t1_loop i).trips = (i 2).val := by
  have r_i2 : (i 2).val < 16 := (i 2).isLt
  have h2 : Affine.IsInt (BitVec.ofNat 32 (i 2).val) (((i 2).val : Int)) := Affine.ofNat _ (by omega)
  have h0 : Affine.IsInt 0#32 (0) := Affine.ofNat _ (by omega)
  have h1 : Affine.IsInt 1#32 (1) := Affine.ofNat _ (by omega)
  have a0 : Affine.IsInt _ (((i 2).val : Int)) := Affine.muli h2 h1 (by omega)
  have a : Affine.IsInt _ (((i 2).val : Int)) := Affine.subi a0 h0 (by omega)
  have b0 : Affine.IsInt _ (((i 2).val : Int)) := Affine.divsi a h1 (by omega)
  have b1 : Affine.IsInt _ (((i 2).val : Int)) := Affine.muli b0 h1 (by omega)
  have b : Affine.IsInt _ (((i 2).val : Int)) := Affine.addi h0 b1 (by omega)
  exact Affine.trips_eq h0 b h1 _ (by omega)

section Loops

variable (c : Dev nD) (i : grid0.Coords) (arg3 : Memref sig .tc .vmem S1x512x256 .bf16) (harg3 : arg3.IsWhole)
  (arg4 : Memref sig .tc .vmem S1x8192x256 .bf16) (harg4 : arg4.IsWhole) (arg5 : Memref sig .tc .vmem S1x8192x128 .bf16) (harg5 : arg5.IsWhole)
  (arg6 : Memref sig .tc .vmem S1x512x128 .bf16) (harg6 : arg6.IsWhole) (x1 : Vec Ideal S1x8192x256 .bf16) (x2 : Vec Ideal S1x8192x128 .bf16)
  {g : Fin 512 → ℕ → EReal} {w : Fin 128 → ℕ → EReal} (v1 : Vec Ideal S1x512x128 .bf16) (S : St) (h : Holds g w 0 S)
  (ht : ∀ r k, g r k ≠ ⊤) (hb : ∀ (r : Fin 512) (k : ℕ), k < 512 * (i 2).val → g r k ≠ ⊥)
  (hW : ∀ (k : ℕ) (hk : k < 8192) (d : Fin 128), x2 (ix3 0 ⟨k, hk⟩ d) = w d k)

include h ht hb hW in
/-- After `k` trips of the first head's loop its state describes the first `512 k` keys. -/
theorem loop1 (hB : ∀ (r : Fin 512) (k : ℕ) (hk : k < 512 * (i 2).val) (hk' : k < 8192),
      ∑ x : Fin 128, v1 (ix3 0 r x) * x1 (ix3 0 ⟨k, hk'⟩ ⟨x.val, by omega⟩) = g r k) :
    ∀ k, k ≤ (i 2).val → Holds g w (512 * k)
      (st_k0_t1 (F := Ideal) Variants.none c none i arg3 harg3 arg4 harg4 arg5 harg5 arg6 harg6 v1 (harg4.unread x1) (harg5.unread x2) S k) := by
  have r_i2 : (i 2).val < 16 := (i 2).isLt
  intro k
  induction k with
  | zero => intro _; exact h
  | succ k ih =>
    intro hk
    have e := st_k0_t1_succ (F := Ideal) Variants.none c none i arg3 harg3 arg4 harg4 arg5 harg5 arg6 harg6 v1 (harg4.unread x1) (harg5.unread x2) S
      ⟨k, by rw [trips1]; omega⟩
    refine e ▸ ?_
    unfold tripR_k0_t1 trip_k0_t1
    frame_out
    refine (ih (by omega)).trip v1 _ _ ht (fun r t => hb r _ (by omega)) (fun r t => ?_) fun t d => ?_
    · rw [← hB r (512 * k + t.val) (by omega) (by omega)]
      refine Finset.sum_congr rfl fun x _ => congrArg _ (View.ld_unit_apply_of _ _ _ _ _ _ fun a => ?_)
      refine Eq.trans ?_ (congrArg (· + _) (congrFun (k0_off1_eq i ⟨k, by rw [show (k0_t1_loop i).trips = (k0_t1_loop i).trips from rfl, trips1]; omega⟩) a).symm)
      fin_cases a <;> simp
    · rw [← hW (512 * k + t.val) (by omega)]
      refine View.ld_unit_apply_of _ _ _ _ _ _ fun a => ?_
      refine Eq.trans ?_ (congrArg (· + _) (congrFun (k0_off2_eq i ⟨k, by rw [show (k0_t1_loop i).trips = (k0_t1_loop i).trips from rfl, trips1]; omega⟩) a).symm)
      fin_cases a <;> simp

include h ht hb hW in
/-- After `k` trips of the second head's loop its state describes the first `512 k` keys. -/
theorem loop3 (hB : ∀ (r : Fin 512) (k : ℕ) (hk : k < 512 * (i 2).val) (hk' : k < 8192),
      ∑ x : Fin 128, v1 (ix3 0 r x) * x1 (ix3 0 ⟨k, hk'⟩ ⟨128 + x.val, by omega⟩) = g r k) (arg2 v0 : BitVec 32) (v12_1 : FVec Ideal S512x1 .f32) (v12_2 : FVec Ideal S512x128 .f32)
      (v15 : BitVec 32) (v30 : FVec Ideal S512x512 .f32) (v35 : FVec Ideal S512x1 .f32) (v36 : FVec Ideal S512x512 .f32) :
    ∀ k, k ≤ (i 2).val → Holds g w (512 * k)
      (st_k0_t3 (F := Ideal) Variants.none c none i arg3 harg3 arg4 harg4 arg5 harg5 arg6 harg6 arg2 v0 v12_1 v12_2 v15 v30 v35 v36 v1 (harg4.unread x1) (harg5.unread x2) S k) := by
  have r_i2 : (i 2).val < 16 := (i 2).isLt
  intro k
  induction k with
  | zero => intro _; exact h
  | succ k ih =>
    intro hk
    have e := st_k0_t3_succ (F := Ideal) Variants.none c none i arg3 harg3 arg4 harg4 arg5 harg5 arg6 harg6 arg2 v0 v12_1 v12_2 v15 v30 v35 v36 v1 (harg4.unread x1) (harg5.unread x2) S
      ⟨k, by rw [show (k0_t3_loop i).trips = (k0_t1_loop i).trips from rfl, trips1]; omega⟩
    refine e ▸ ?_
    unfold tripR_k0_t3 trip_k0_t3
    frame_out
    refine (ih (by omega)).trip v1 _ _ ht (fun r t => hb r _ (by omega)) (fun r t => ?_) fun t d => ?_
    · rw [← hB r (512 * k + t.val) (by omega) (by omega)]
      refine Finset.sum_congr rfl fun x _ => congrArg _ (View.ld_unit_apply_of _ _ _ _ _ _ fun a => ?_)
      refine Eq.trans ?_ (congrArg (· + _) (congrFun (k0_off7_eq i ⟨k, by rw [show (k0_t3_loop i).trips = (k0_t1_loop i).trips from rfl, trips1]; omega⟩) a).symm)
      fin_cases a <;> simp
    · rw [← hW (512 * k + t.val) (by omega)]
      refine View.ld_unit_apply_of _ _ _ _ _ _ fun a => ?_
      refine Eq.trans ?_ (congrArg (· + _) (congrFun (k0_off8_eq i ⟨k, by rw [show (k0_t3_loop i).trips = (k0_t1_loop i).trips from rfl, trips1]; omega⟩) a).symm)
      fin_cases a <;> simp

include h ht hb hW in
/-- At the end of the second head's loop its state describes every key before the query block's own. -/
theorem loop3_end (hB : ∀ (r : Fin 512) (k : ℕ) (hk : k < 512 * (i 2).val) (hk' : k < 8192),
      ∑ x : Fin 128, v1 (ix3 0 r x) * x1 (ix3 0 ⟨k, hk'⟩ ⟨128 + x.val, by omega⟩) = g r k) (arg2 v0 : BitVec 32) (v12_1 : FVec Ideal S512x1 .f32) (v12_2 : FVec Ideal S512x128 .f32)
      (v15 : BitVec 32) (v30 : FVec Ideal S512x512 .f32) (v35 : FVec Ideal S512x1 .f32) (v36 : FVec Ideal S512x512 .f32) :
    Holds g w (512 * (i 2).val) (st_k0_t3 (F := Ideal) Variants.none c none i arg3 harg3 arg4 harg4 arg5 harg5 arg6 harg6 arg2 v0 v12_1 v12_2 v15 v30 v35 v36 v1
      (harg4.unread x1) (harg5.unread x2) S (k0_t1_loop i).trips) := by
  have e := loop3 c i arg3 harg3 arg4 harg4 arg5 harg5 arg6 harg6 x1 x2 v1 S h ht hb hW hB arg2 v0 v12_1 v12_2 v15 v30 v35 v36 (k0_t1_loop i).trips (trips1 i).le
  rwa [show 512 * (k0_t1_loop i).trips = 512 * (i 2).val by rw [trips1]] at e

end Loops

/-- The mask's comparison in block `n`: key column `t` is at most query row `r`. -/
theorem sel_at (n : Fin 16) (r t : Fin 512) (a b : EReal) :
    Scalar.select (IntOp.cmpi CmpIPredicate.sle
      (IntOp.addi (Scalar.muli (Scalar.addi (Scalar.muli (BitVec.ofNat 32 n.val) 1#32) 0#32) 512#32) (BitVec.ofNat 32 t.val))
      (IntOp.addi (Scalar.muli (BitVec.ofNat 32 n.val) 512#32) (BitVec.ofNat 32 r.val))) a b = if t.val ≤ r.val then a else b := by
  have e1 : IntOp.addi (Scalar.muli (Scalar.addi (Scalar.muli (BitVec.ofNat 32 n.val) 1#32) 0#32) 512#32) (BitVec.ofNat 32 t.val)
      = BitVec.ofNat 32 (n.val * 512 + t.val) := by
    show (BitVec.ofNat 32 n.val * 1#32 + 0#32) * 512#32 + BitVec.ofNat 32 t.val = _
    rw [BitVec.mul_one, BitVec.add_zero, BitVec.ofNat_add, BitVec.ofNat_mul]
  have e2 : IntOp.addi (Scalar.muli (BitVec.ofNat 32 n.val) 512#32) (BitVec.ofNat 32 r.val) = BitVec.ofNat 32 (n.val * 512 + r.val) := by
    show BitVec.ofNat 32 n.val * 512#32 + BitVec.ofNat 32 r.val = _
    rw [BitVec.ofNat_add, BitVec.ofNat_mul]
  rw [e1, e2, WordCmp.cmpi_sle_ofNat (by norm_num; omega) (by norm_num; omega), WordCmp.select_decide]
  simp only [Nat.add_le_add_iff_left]

/-- The first head's scores of the diagonal block, those of later keys masked. -/
theorem pay18_at (i : grid0.Coords) (v1 KB : Vec Ideal S1x512x128 .bf16) (r t : Fin 512) :
    k0_pay18 i v1 KB (ix2 r t) = if t.val ≤ r.val then ∑ x : Fin 128, v1 (ix3 0 r x) * KB (ix3 0 t x) else ⊥ := by
  pointwise [k0_pay18, k0_pay2]
  rw [mask_eq]; exact sel_at (i 2) r t _ _

/-- The first head's maximum of a row after the diagonal block. -/
theorem pay19_at (i : grid0.Coords) (v1 KB : Vec Ideal S1x512x128 .bf16) (m : FVec Ideal S512x1 .f32) (r : Fin 512) :
    k0_pay19 i v1 m KB (ix2 r 0) = max (m (ix2 r 0)) (Finset.fold max ⊥ (fun t : Fin 512 => k0_pay18 i v1 KB (ix2 r t)) Finset.univ) := by
  pointwise [k0_pay19]
  rw [negInf]

/-- The first head's output at a row and lane: the accumulator over the denominator, the diagonal block taken in. -/
theorem pay22_at (i : grid0.Coords) (v1 KB VB : Vec Ideal S1x512x128 .bf16) (S : St) (r : Fin 512) (d : Fin 128) :
    k0_pay22 S.2.1 S.2.2 (k0_pay18 i v1 KB) (k0_pay20 i v1 S.1 KB) (k0_pay21 i v1 S.1 KB) VB (ix2 r d)
      = Ideal.div (Ideal.exp (S.1 (ix2 r 0) - k0_pay19 i v1 S.1 KB (ix2 r 0)) * S.2.2 (ix2 r d)
          + ∑ t : Fin 512, Ideal.exp (k0_pay18 i v1 KB (ix2 r t) - k0_pay19 i v1 S.1 KB (ix2 r 0)) * VB (ix3 0 t d))
        (Ideal.exp (S.1 (ix2 r 0) - k0_pay19 i v1 S.1 KB (ix2 r 0)) * S.2.1 (ix2 r 0)
          + ∑ t : Fin 512, Ideal.exp (k0_pay18 i v1 KB (ix2 r t) - k0_pay19 i v1 S.1 KB (ix2 r 0))) := by
  pointwise [k0_pay22, k0_pay20, k0_pay21]

/-- The first head's output is the attention over the keys up to the diagonal block's end. -/
theorem head_out {g : Fin 512 → ℕ → EReal} {w : Fin 128 → ℕ → EReal} {n : ℕ} {S : St} (h : Holds g w n S) (i : grid0.Coords)
    (v1 KB VB : Vec Ideal S1x512x128 .bf16) (ht : ∀ r k, g r k ≠ ⊤) (hb : ∀ r : Fin 512, g r (n + r.val) ≠ ⊥)
    (hB : ∀ (r t : Fin 512), k0_pay18 i v1 KB (ix2 r t) = g r (n + t.val)) (hW : ∀ (t : Fin 512) (d : Fin 128), VB (ix3 0 t d) = w d (n + t.val))
    (r : Fin 512) (d : Fin 128) :
    k0_pay22 S.2.1 S.2.2 (k0_pay18 i v1 KB) (k0_pay20 i v1 S.1 KB) (k0_pay21 i v1 S.1 KB) VB (ix2 r d) = out (g r) (w d) (n + 512) := by
  rw [pay22_at, pay19_at]
  exact Inv.div ((h r d).step (ht r) ⟨r, hb r⟩ _ (fun t => VB (ix3 0 t d)) (hB r) fun t => hW t d) (ht r) ⟨n + r.val, by omega, hb r⟩

/-- What is stored: the first head's output in the lower 64 lanes, the second head's in the upper 64. -/
theorem pay1_at (i : grid0.Coords) (v1 KB VB : Vec Ideal S1x512x128 .bf16) (o : FVec Ideal S512x128 .f32) (S : St) (r : Fin 512) (d : Fin 128) :
    k0_pay1 o S.1 S.2.1 S.2.2 (Scalar.addi (Scalar.muli (BitVec.ofNat 32 (i 2).val) 1#32) 0#32) (k0_pay39 v1 KB) (k0_pay40 (BitVec.ofNat 32 (i 2).val)) 512#32 VB (ix3 0 r d)
      = if d.val < 64 then o (ix2 r d) else
        k0_pay22 S.2.1 S.2.2 (k0_pay18 i v1 KB) (k0_pay20 i v1 S.1 KB) (k0_pay21 i v1 S.1 KB) VB (ix2 r d) := by
  have e : k0_pay1 o S.1 S.2.1 S.2.2 (Scalar.addi (Scalar.muli (BitVec.ofNat 32 (i 2).val) 1#32) 0#32) (k0_pay39 v1 KB) (k0_pay40 (BitVec.ofNat 32 (i 2).val)) 512#32 VB
      = shapeCast S1x512x128 (truncf .bf16 (select (cmpi .slt (iota .tc S512x128 32 [1] iota_S512x128_d1_w32) (broadcast S512x128 64#32)) o
          (k0_pay22 S.2.1 S.2.2 (k0_pay18 i v1 KB) (k0_pay20 i v1 S.1 KB) (k0_pay21 i v1 S.1 KB) VB)) bitsLt_bf16_f32) shapeCasts_S512x128_S1x512x128 := rfl
  rw [e]
  pointwise []
  rw [show (64#32 : BitVec 32) = BitVec.ofNat 32 64 from rfl, WordCmp.cmpi_slt_ofNat (by norm_num; omega) (by norm_num), WordCmp.select_decide]

/-- A score of the head whose 128 lanes start at `o`: the product of a query row and a key. -/
def sc (x0 : Vec Ideal S1x512x256 .bf16) (x1 : Vec Ideal S1x8192x256 .bf16) (o : ℕ) (ho : o ≤ 128) (r : Fin 512) (k : Fin 8192) : EReal :=
  ∑ x : Fin 128, x0 (ix3 0 r ⟨o + x.val, by omega⟩) * x1 (ix3 0 k ⟨o + x.val, by omega⟩)

/-- The masked scores of query block `n`'s row `r`: `-∞` beyond the row's own position. -/
def G (n : ℕ) (x0 : Vec Ideal S1x512x256 .bf16) (x1 : Vec Ideal S1x8192x256 .bf16) (o : ℕ) (ho : o ≤ 128) (r : Fin 512) (k : ℕ) : EReal :=
  if h : k < 8192 ∧ k ≤ 512 * n + r.val then sc x0 x1 o ho r ⟨k, h.1⟩ else ⊥

/-- A lane's values along the keys. -/
def Wv (x2 : Vec Ideal S1x8192x128 .bf16) (d : Fin 128) (k : ℕ) : EReal := if h : k < 8192 then x2 (ix3 0 ⟨k, h⟩ d) else 0

/-- A sum of products of real numbers is real. -/
theorem sum_real {J : ℕ} (a b : Fin J → EReal) (ha : ∀ x, ∃ y : ℝ, a x = y) (hb : ∀ x, ∃ y : ℝ, b x = y) : ∃ y : ℝ, ∑ x, a x * b x = y := by
  choose f hf using ha
  choose g hg using hb
  exact ⟨∑ x, f x * g x, by rw [← coe_sum]; exact Finset.sum_congr rfl fun x _ => by rw [hf, hg, EReal.coe_mul]⟩

section Out

variable (c : Dev nD) (i : grid0.Coords) (arg3 : Memref sig .tc .vmem S1x512x256 .bf16) (harg3 : arg3.IsWhole)
  (arg4 : Memref sig .tc .vmem S1x8192x256 .bf16) (harg4 : arg4.IsWhole) (arg5 : Memref sig .tc .vmem S1x8192x128 .bf16) (harg5 : arg5.IsWhole)
  (arg6 : Memref sig .tc .vmem S1x512x128 .bf16) (harg6 : arg6.IsWhole) (x0 : Vec Ideal S1x512x256 .bf16) (x1 : Vec Ideal S1x8192x256 .bf16) (x2 : Vec Ideal S1x8192x128 .bf16)

/-- The state before a head's loop holds before any key. -/
theorem holds_init (g : Fin 512 → ℕ → EReal) (w : Fin 128 → ℕ → EReal) : Holds g w 0 (k0_pay3, k0_pay4, k0_pay5) := by
  intro r d
  have e3 : (k0_pay3 (F := Ideal)) (ix2 r 0) = ⊥ := rfl
  have e4 : (k0_pay4 (F := Ideal)) (ix2 r 0) = 0 := by pointwise [k0_pay4]
  have e5 : (k0_pay5 (F := Ideal)) (ix2 r d) = 0 := by pointwise [k0_pay5]
  dsimp only
  rw [e3, e4, e5]; exact Inv.zero _ _

/-- The first head's second loop makes no trip. -/
theorem loop2 (v1 : Vec Ideal S1x512x128 .bf16) (S : St) :
    st_k0_t2 (F := Ideal) Variants.none c none i arg3 harg3 arg4 harg4 arg5 harg5 arg6 harg6 v1 (harg4.unread x1) (harg5.unread x2) S (k0_t2_loop i).trips = S := by
  rw [Nat.le_zero.1 (k0_t2_abs i).2.1]; rfl

/-- The second head's second loop makes no trip. -/
theorem loop4 (v1 : Vec Ideal S1x512x128 .bf16) (S : St) (arg2 v0 : BitVec 32) (v12_1 : FVec Ideal S512x1 .f32) (v12_2 : FVec Ideal S512x128 .f32)
      (v15 : BitVec 32) (v30 : FVec Ideal S512x512 .f32) (v35 : FVec Ideal S512x1 .f32) (v36 : FVec Ideal S512x512 .f32) :
    st_k0_t4 (F := Ideal) Variants.none c none i arg3 harg3 arg4 harg4 arg5 harg5 arg6 harg6 arg2 v0 v12_1 v12_2 v15 v30 v35 v36 v1 (harg4.unread x1) (harg5.unread x2) S (k0_t4_loop i).trips = S := by
  rw [Nat.le_zero.1 (k0_t4_abs i).2.1]; rfl

/-- What a grid point leaves in its output block: the causal attention of each head, two heads to the block. -/
theorem out_at (hq : ∀ j, ∃ y : ℝ, x0 j = y) (hk : ∀ j, ∃ y : ℝ, x1 j = y) (r : Fin 512) (d : Fin 128) :
    out0_A_3 c i arg3 harg3 arg4 harg4 arg5 harg5 arg6 harg6 x0 x1 x2 (ix3 0 r d)
      = if d.val < 64 then out (G (i 2).val x0 x1 0 (by omega) r) (Wv x2 d) (512 * (i 2).val + 512)
        else out (G (i 2).val x0 x1 128 (by omega) r) (Wv x2 d) (512 * (i 2).val + 512) := by
  have r_i2 : (i 2).val < 16 := (i 2).isLt
  have hsc : ∀ o ho r k, ∃ y : ℝ, sc x0 x1 o ho r k = y := fun o ho r k => sum_real _ _ (fun _ => hq _) fun _ => hk _
  have ht : ∀ o ho r k, G (i 2).val x0 x1 o ho r k ≠ ⊤ := fun o ho r k => by
    unfold G; split
    · obtain ⟨y, hy⟩ := hsc o ho r ⟨k, by omega⟩; rw [hy]; exact EReal.coe_ne_top _
    · exact bot_ne_top
  have hG : ∀ o ho (r : Fin 512) k (hk : k < 8192), k ≤ 512 * (i 2).val + r.val → G (i 2).val x0 x1 o ho r k = sc x0 x1 o ho r ⟨k, hk⟩ := fun o ho r k hk h => by
    unfold G; exact dif_pos ⟨hk, h⟩
  have hnb : ∀ o ho (r : Fin 512) k, k ≤ 512 * (i 2).val + r.val → G (i 2).val x0 x1 o ho r k ≠ ⊥ := fun o ho r k h => by
    rw [hG o ho r k (by omega) h]; obtain ⟨y, hy⟩ := hsc o ho r ⟨k, by omega⟩; rw [hy]; exact EReal.coe_ne_bot _
  have hW : ∀ (k : ℕ) (hk : k < 8192) (d : Fin 128), x2 (ix3 0 ⟨k, hk⟩ d) = Wv x2 d k := fun k hk d => by unfold Wv; rw [dif_pos hk]
  have hWb : ∀ (t : Fin 512) (d : Fin 128), View.ld x2 (Rect.unit (k0_off6 i) ![1, 512, 128] (k0_off6_inb i)) (ix3 0 t d) = Wv x2 d (512 * (i 2).val + t.val) := fun t d => by
    rw [← hW (512 * (i 2).val + t.val) (by omega)]
    refine View.ld_unit_apply_of _ _ _ _ _ _ fun a => ?_
    refine Eq.trans ?_ (congrArg (· + _) (congrFun (k0_off6_eq i) a).symm)
    fin_cases a <;> simp
  have hQ : ∀ o (ho : o ≤ 128) (inb) (KB : Vec Ideal S1x512x128 .bf16)
      (hKB : ∀ t x, KB (ix3 0 t x) = x1 (ix3 0 ⟨512 * (i 2).val + t.val, by omega⟩ ⟨o + x.val, by omega⟩)) (r t : Fin 512),
      k0_pay18 i (View.ld x0 (Rect.unit ![0, 0, o] ![1, 512, 128] inb)) KB (ix2 r t) = G (i 2).val x0 x1 o ho r (512 * (i 2).val + t.val) := by
    intro o ho inb KB hKB r t
    rw [pay18_at]; unfold G
    by_cases h : t.val ≤ r.val
    · rw [if_pos h, dif_pos ⟨by omega, by omega⟩]
      refine Finset.sum_congr rfl fun x _ => ?_
      rw [hKB]; refine congrArg (· * _) (View.ld_unit_apply_of _ _ _ _ _ _ fun a => ?_)
      fin_cases a <;> simp
    · rw [if_neg h, dif_neg (by omega)]
  have hS : ∀ o (ho : o ≤ 128) (inb) (r : Fin 512) (k : ℕ) (hk : k < 512 * (i 2).val) (hk' : k < 8192),
      ∑ x : Fin 128, View.ld x0 (Rect.unit ![0, 0, o] ![1, 512, 128] inb) (ix3 0 r x) * x1 (ix3 0 ⟨k, hk'⟩ ⟨o + x.val, by omega⟩) = G (i 2).val x0 x1 o ho r k := by
    intro o ho inb r k hk hk'
    rw [hG o ho r k hk' (by omega)]
    refine Finset.sum_congr rfl fun x _ => ?_
    refine congrArg (· * _) (View.ld_unit_apply_of _ _ _ _ _ _ fun a => ?_)
    fin_cases a <;> simp
  have h1 := loop1 c i arg3 harg3 arg4 harg4 arg5 harg5 arg6 harg6 x1 x2 (View.ld x0 (Rect.unit ![0, 0, 0] ![1, 512, 128] inb_S1x512x256_S1x512x128_0_0_0))
    (k0_pay3, k0_pay4, k0_pay5) (holds_init _ _) (ht 0 (by omega)) (fun r k h => hnb 0 (by omega) r k (by omega)) hW
    (fun r k hk hk' => by rw [← hS 0 (by omega) inb_S1x512x256_S1x512x128_0_0_0 r k hk hk']; refine Finset.sum_congr rfl fun x _ => ?_; simp only [Nat.zero_add])
    (k0_t1_loop i).trips (trips1 i).le
  rw [show 512 * (k0_t1_loop i).trips = 512 * (i 2).val by rw [trips1]] at h1
  have h3 := loop3_end c i arg3 harg3 arg4 harg4 arg5 harg5 arg6 harg6 x1 x2 (View.ld x0 (Rect.unit ![0, 0, 128] ![1, 512, 128] inb_S1x512x256_S1x512x128_0_0_128))
    (k0_pay24, k0_pay25, k0_pay26) (holds_init _ _) (ht 128 (by omega)) (fun r k h => hnb 128 (by omega) r k (by omega)) hW (hS 128 (by omega) _)
  frame_out
  refine (pay1_at i _ _ _ _ _ r d).trans (if_congr Iff.rfl ?_ ?_)
  · refine head_out ?_ i _ _ _ (ht 0 (by omega)) (fun r => hnb 0 (by omega) r _ le_rfl) (hQ 0 (by omega) _ _ fun t x => ?_) hWb r d
    · exact (loop2 c i arg3 harg3 arg4 harg4 arg5 harg5 arg6 harg6 x1 x2 _ _).symm ▸ h1
    · refine View.ld_unit_apply_of _ _ _ _ _ _ fun a => ?_
      refine Eq.trans ?_ (congrArg (· + _) (congrFun (k0_off5_eq i) a).symm)
      fin_cases a <;> simp
  · refine head_out ?_ i _ _ _ (ht 128 (by omega)) (fun r => hnb 128 (by omega) r _ le_rfl) (hQ 128 (by omega) _ _ fun t x => ?_) hWb r d
    · refine (loop4 c i arg3 harg3 arg4 harg4 arg5 harg5 arg6 harg6 x1 x2 _ _ _ _ _ _ _ _ _ _).symm ▸ ?_
      exact h3 _ _ _ _ _ _ _ _
    · refine View.ld_unit_apply_of _ _ _ _ _ _ fun a => ?_
      refine Eq.trans ?_ (congrArg (· + _) (congrFun (k0_off11_eq i) a).symm)
      fin_cases a <;> simp

end Out

end Cert.AttnIdeal.RefValue
end
-- ==== Proof.AttnRef.lean ====
module

public import proofs.«01_k».proof.Proof.Gen.AttnRefIdeal.Run
public import proofs.«01_k».proof.Proof.Flash
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.Flash

namespace Cert.AttnRefIdeal.RefValue

open Cert.AttnRefIdeal Cert.AttnRefIdeal.Gen

/-- The reference's masked scores of every batch, head, query and key. -/
def scores (Q K : FVec Ideal S8x8192x1024 .bf16) : FVec Ideal S8x8x8192x8192 .f32 :=
  select (broadcastInDim S8x8x8192x8192 ![2, 3] bcast_S8192x8192_S8x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (Host.dotGeneral dot_S8x8192x8x128_S8x8192x8x128_S8x8x8192x8192_3_3_1_1_02_02 none (extf .f32 (shapeCast _ Q shapeCasts_S8x8192x1024_S8x8192x8x128) bitsLt_bf16_f32) (extf .f32 (shapeCast _ K shapeCasts_S8x8192x1024_S8x8192x8x128) bitsLt_bf16_f32))
    (broadcastInDim S8x8x8192x8192 ![] bcast_S_S8x8x8192x8192 (id (constant S_ .f32 0xFF800000#32)))

/-- The maximum score of every row. -/
def top (S : FVec Ideal S8x8x8192x8192 .f32) : FVec Ideal S8x8x8192 .f32 :=
  maximumf (broadcastInDim S8x8x8192 ![] bcast_S_S8x8x8192 (constant S_ .f32 0xFF800000#32)) (Host.reduce FloatOps.maximumf S (constant S_ .f32 0xFF800000#32) reducesTo_S8x8x8192x8192_S8x8x8192_d3 h_S_)

/-- The exponentials of the scores less their row's maximum. -/
def expo (S : FVec Ideal S8x8x8192x8192 .f32) (M : FVec Ideal S8x8x8192 .f32) : FVec Ideal S8x8x8192x8192 .f32 :=
  Host.exp (subf S (broadcastInDim S8x8x8192x8192 ![0, 1, 2, 3] bcast_S8x8x8192x1_S8x8x8192x8192_0_1_2_3 (broadcastInDim S8x8x8192x1 ![0, 1, 2] bcast_S8x8x8192_S8x8x8192x1_0_1_2 M)))

/-- The weights: the exponentials over their row's sum. -/
def prob (P : FVec Ideal S8x8x8192x8192 .f32) : FVec Ideal S8x8x8192x8192 .f32 :=
  Host.divf P (broadcastInDim S8x8x8192x8192 ![0, 1, 2, 3] bcast_S8x8x8192x1_S8x8x8192x8192_0_1_2_3 (broadcastInDim S8x8x8192x1 ![0, 1, 2] bcast_S8x8x8192_S8x8x8192x1_0_1_2 (Host.reduceAdd P (constant S_ .f32 0x00000000#32) reducesTo_S8x8x8192x8192_S8x8x8192_d3 h_S_)))

/-- The values weighed and summed, the heads side by side on the lanes. -/
def mix (V : FVec Ideal S8x8192x512 .bf16) (P : FVec Ideal S8x8x8192x8192 .f32) : FVec Ideal S8x8192x512 .bf16 :=
  truncf .bf16 (shapeCast _ (transpose S8x8192x8x64 [0, 3, 1, 2] (Host.dotGeneral dot_S8x8192x8x64_S8x8x8192x8192_S8x8x64x8192_1_3_3_2_02_01 none (extf .f32 (shapeCast _ V shapeCasts_S8x8192x512_S8x8192x8x64) bitsLt_bf16_f32) P) transposes_S8x8x64x8192_S8x8192x8x64_0_3_1_2) shapeCasts_S8x8192x8x64_S8x8192x512) bitsLt_bf16_f32

/-- The reference's result of its arguments. -/
def REF (Q K : FVec Ideal S8x8192x1024 .bf16) (V : FVec Ideal S8x8192x512 .bf16) : FVec Ideal S8x8192x512 .bf16 :=
  mix V (prob (expo (scores Q K) (top (scores Q K))))

/-- The run's term of the reference is `REF` of its arguments. -/
theorem ref_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) := by
  unfold Value.res_out0 Value.res_main_v28; rfl

/-- The word of the reference's mask stands for `-∞`. -/
theorem neg_inf : Ideal.ofBits .f32 0xFF800000#32 = ⊥ := by
  simp [Ideal.ofBits, Ideal.ieee]

/-- A row's score against a key, `-∞` where the key is later than the query. -/
theorem scores_at (Q K : FVec Ideal S8x8192x1024 .bf16) (b h : Fin 8) (R k : Fin 8192) :
    scores Q K (ix4 b h R k) = if k.val ≤ R.val then ∑ x : Fin 128, Q (ix3 b R ⟨h.val * 128 + x.val, by omega⟩) * K (ix3 b k ⟨h.val * 128 + x.val, by omega⟩) else ⊥ := by
  pointwise [scores]
  rw [WordCmp.cmpi_sle_ofNat (by norm_num; omega) (by norm_num; omega), WordCmp.select_decide]
  exact congrArg (fun e => if k.val ≤ R.val then _ else e) neg_inf

/-- A row's maximum over the last axis of a rank-4 array of any sizes: the fold of `max` over that axis. -/
theorem reduce_last {n0 n1 n2 n3 : ℕ} (S : FVec Ideal ⟨4, ![n0, n1, n2, n3]⟩ .f32) (hb : S_.BroadcastsInDim ⟨3, ![n0, n1, n2]⟩ ![])
    (h : (⟨4, ![n0, n1, n2, n3]⟩ : Shape).ReducesTo [3] ⟨3, ![n0, n1, n2]⟩) (hu : 0 < S_.numel) (a : Fin n0) (b : Fin n1) (r : Fin n2) :
    maximumf (broadcastInDim ⟨3, ![n0, n1, n2]⟩ ![] hb (constant S_ .f32 0xFF800000#32)) (Host.reduce FloatOps.maximumf S (constant S_ .f32 0xFF800000#32) h hu) (ix3 a b r)
      = max ⊥ (Finset.univ.fold max ⊥ fun k : Fin n3 => S (ix4 a b r k)) := by
  simp only [pointwise, constant]
  rw [neg_inf]

/-- The maximum of a row. -/
theorem top_at (S : FVec Ideal S8x8x8192x8192 .f32) (b h : Fin 8) (R : Fin 8192) :
    top S (ix3 b h R) = max ⊥ (Finset.fold max ⊥ (fun k : Fin 8192 => S (ix4 b h R k)) Finset.univ) := by
  unfold top
  exact reduce_last S bcast_S_S8x8x8192 reducesTo_S8x8x8192x8192_S8x8x8192_d3 h_S_ b h R

/-- An exponential of a score less its row's maximum. -/
theorem expo_at (S : FVec Ideal S8x8x8192x8192 .f32) (M : FVec Ideal S8x8x8192 .f32) (b h : Fin 8) (R k : Fin 8192) :
    expo S M (ix4 b h R k) = Ideal.exp (S (ix4 b h R k) - M (ix3 b h R)) := by
  pointwise [expo]

/-- A weight. -/
theorem prob_at (P : FVec Ideal S8x8x8192x8192 .f32) (b h : Fin 8) (R k : Fin 8192) :
    prob P (ix4 b h R k) = Ideal.div (P (ix4 b h R k)) (∑ y : Fin 8192, P (ix4 b h R y)) := by
  pointwise [prob]

/-- An output lane `l` of head `l / 64`: the weighed sum of that lane of the values. -/
theorem mix_at (V : FVec Ideal S8x8192x512 .bf16) (P : FVec Ideal S8x8x8192x8192 .f32) (b : Fin 8) (R : Fin 8192) (l : Fin 512) :
    mix V P (ix3 b R l) = ∑ k : Fin 8192, V (ix3 b k l) * P (ix4 b ⟨l.val / 64, by omega⟩ R k) := by
  pointwise [mix]

/-- The scores of one row as a function of the key's number. -/
def row (Q K : FVec Ideal S8x8192x1024 .bf16) (b : Fin 8) (R : Fin 8192) (h : Fin 8) (k : ℕ) : EReal :=
  if hk : k < 8192 ∧ k ≤ R.val then ∑ x : Fin 128, Q (ix3 b R ⟨h.val * 128 + x.val, by omega⟩) * K (ix3 b ⟨k, hk.1⟩ ⟨h.val * 128 + x.val, by omega⟩) else ⊥

/-- One lane of the values as a function of the key's number. -/
def lane (V : FVec Ideal S8x8192x512 .bf16) (b : Fin 8) (l : Fin 512) (k : ℕ) : EReal :=
  if hk : k < 8192 then V (ix3 b ⟨k, hk⟩ l) else 0

/-- The reference at a point: the weighed mean `out` of the row's scores and the lane's values, over all keys. -/
theorem REF_at (Q K : FVec Ideal S8x8192x1024 .bf16) (V : FVec Ideal S8x8192x512 .bf16) (b : Fin 8) (R : Fin 8192) (l : Fin 512)
    (ht : ∀ k, row Q K b R ⟨l.val / 64, by omega⟩ k ≠ ⊤) (hb : row Q K b R ⟨l.val / 64, by omega⟩ 0 ≠ ⊥) :
    REF Q K V (ix3 b R l) = out (row Q K b R ⟨l.val / 64, by omega⟩) (lane V b l) 8192 := by
  rw [REF, mix_at, ← softmax (N := 8192) _ _ (fun x : Fin 8192 => scores Q K (ix4 b ⟨l.val / 64, by omega⟩ R x)) (fun x : Fin 8192 => V (ix3 b x l))
    (fun k => ?_) (fun k => ?_) ht ⟨0, by norm_num, hb⟩]
  · refine Finset.sum_congr rfl fun x _ => ?_
    rw [prob_at, expo_at, top_at]
    refine congrArg (V (ix3 b x l) * Ideal.div _ ·) (Finset.sum_congr rfl fun y _ => ?_)
    rw [expo_at, top_at]
  · rw [scores_at, row]
    by_cases h : k.val ≤ R.val
    · rw [if_pos h, dif_pos ⟨k.isLt, h⟩]
    · rw [if_neg h, dif_neg fun e => h e.2]
  · rw [lane, dif_pos k.isLt]

end Cert.AttnRefIdeal.RefValue
end
-- ==== Proof.AttnValue.lean ====
module

public import proofs.«01_k».proof.Defs
public import proofs.«01_k».proof.Proof.AttnBlock
public import proofs.«01_k».proof.Proof.AttnRef
public import proofs.«01_k».proof.Proof.Gen.AttnIdeal.Value
public import Idealize.ShloMosaic.Lib.ReduceAll
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Flash

namespace Cert.AttnIdeal.RefValue

open Cert.AttnIdeal Cert.AttnIdeal.Gen
open Cert.AttnRefIdeal.RefValue (row lane REF REF_at)

/-- The precondition of one array: every element less than `∞` in absolute value is a real number. -/
theorem real_of_all {s t u : Shape} {axes : List (Fin s.rank)} [Subsingleton t.Idx] (x : s.Idx → EReal) (y : IVec s 1) (v : u.Idx → BitVec 1)
    (h : s.ReducesTo axes t) (hu : 0 < u.numel) (hy : ∀ j, y j = Ideal.cmp .olt (max (x j) (-x j)) ⊤)
    (j : t.Idx) (e : Host.reduce IntOp.andi y v h hu j = 1#1) (i : s.Idx) : ∃ r : ℝ, x i = r := by
  have h1 := Host.reduce_andi_all _ _ _ _ j e i
  rw [hy] at h1
  induction h2 : x i using EReal.rec with
  | bot => rw [h2] at h1; simp [Ideal.cmp] at h1
  | coe r => exact ⟨r, rfl⟩
  | top => rw [h2] at h1; simp [Ideal.cmp] at h1

variable (m : (ℓ : Loc nD τ sig) → Buf (Elt Ideal) ℓ)

/-- Under the precondition every element of the queries and of the keys is a real number. -/
theorem real_args [Cert.Pre_finite_arguments.Facts] (h : Pre_AttnIdeal_finite_arguments m) (c : Dev nD) :
    (∀ j : S8x8192x1024.Idx, ∃ r : ℝ, m ((c : Thread nD τ).loc main_arg0) j = (r : EReal)) ∧ ∀ j : S8x8192x1024.Idx, ∃ r : ℝ, m ((c : Thread nD τ).loc main_arg1) j = (r : EReal) := by
  have h0 := congrFun (h c) ix0
  have : Subsingleton Cert.Pre_finite_arguments.S_.Idx := ⟨fun a b => funext fun i => i.elim0⟩
  have h1 := IntOp.andi_eq_one.1 h0
  have inf : Ideal.ofBits .f32 0x7F800000#32 = ⊤ := by simp [Ideal.ofBits, Ideal.ieee]
  exact ⟨fun j => real_of_all _ _ _ _ _ (fun j => congrArg (Ideal.cmp .olt _) inf) _ h1.1 j,
    fun j => real_of_all _ _ _ _ _ (fun j => congrArg (Ideal.cmp .olt _) inf) _ h1.2 j⟩

section Point

variable (Q K : FVec Ideal Cert.AttnRefIdeal.S8x8192x1024 .bf16) (V : FVec Ideal Cert.AttnRefIdeal.S8x8192x512 .bf16)
variable (b : Fin 8) (hp : Fin 4) (n : ℕ) (hn : n < 16)
variable (x0 : (⟨S1x512x256, .bf16⟩ : BufTy).Contents (Elt Ideal)) (x1 : (⟨S1x8192x256, .bf16⟩ : BufTy).Contents (Elt Ideal)) (x2 : (⟨S1x8192x128, .bf16⟩ : BufTy).Contents (Elt Ideal))

/-- The block's scores are those of the reference's row. -/
theorem G_row (h0 : ∀ (r : Fin 512) (l : Fin 256), x0 (ix3 0 r l) = Q (ix3 b ⟨512 * n + r.val, by omega⟩ ⟨256 * hp.val + l.val, by omega⟩))
    (h1 : ∀ (r : Fin 8192) (l : Fin 256), x1 (ix3 0 r l) = K (ix3 b r ⟨256 * hp.val + l.val, by omega⟩))
    (o : ℕ) (ho : o ≤ 128) (r : Fin 512) (h : Fin 8) (e : h.val * 128 = 256 * hp.val + o) :
    G n x0 x1 o ho r = row Q K b ⟨512 * n + r.val, by omega⟩ h := by
  funext k
  unfold G row
  refine dite_congr rfl (fun hk => ?_) fun _ => rfl
  unfold sc
  refine Finset.sum_congr rfl fun x _ => ?_
  rw [h0, h1]
  refine congrArg₂ (· * ·) (congrArg (fun l => Q (ix3 b _ l)) (Fin.ext ?_)) (congrArg (fun l => K (ix3 b _ l)) (Fin.ext ?_)) <;> simp only <;> omega

/-- The block's values are those of the reference's lane. -/
theorem Wv_lane (h2 : ∀ (r : Fin 8192) (d : Fin 128), x2 (ix3 0 r d) = V (ix3 b r ⟨128 * hp.val + d.val, by omega⟩)) (d : Fin 128) :
    Wv x2 d = lane V b ⟨128 * hp.val + d.val, by omega⟩ := by
  funext k
  unfold Wv lane
  exact dite_congr rfl (fun hk => h2 _ _) fun _ => rfl

/-- The reference at a point needs only the keys up to the end of the query's block. -/
theorem REF_block (hq : ∀ j, ∃ y : ℝ, Q j = y) (hk : ∀ j, ∃ y : ℝ, K j = y) (r : Fin 512) (l : Fin 512) :
    REF Q K V (ix3 b ⟨512 * n + r.val, by omega⟩ l) = out (row Q K b ⟨512 * n + r.val, by omega⟩ ⟨l.val / 64, by omega⟩) (lane V b l) (512 * n + 512) := by
  have hs : ∀ (R k : Fin 8192) (h : Fin 8), ∃ y : ℝ, ∑ x : Fin 128, Q (ix3 b R ⟨h.val * 128 + x.val, by omega⟩) * K (ix3 b k ⟨h.val * 128 + x.val, by omega⟩) = y :=
    fun R k h => sum_real _ _ (fun _ => hq _) fun _ => hk _
  rw [REF_at]
  · refine out_extend _ _ (by omega) fun k hk => ?_
    unfold row
    exact dif_neg fun e => by have := e.2; simp only at this; omega
  · intro k
    unfold row; split
    · obtain ⟨y, hy⟩ := hs ⟨512 * n + r.val, by omega⟩ ⟨k, by omega⟩ ⟨l.val / 64, by omega⟩
      exact hy ▸ EReal.coe_ne_top _
    · exact bot_ne_top
  · unfold row
    rw [dif_pos ⟨by omega, by omega⟩]
    obtain ⟨y, hy⟩ := hs ⟨512 * n + r.val, by omega⟩ ⟨0, by omega⟩ ⟨l.val / 64, by omega⟩
    exact hy ▸ EReal.coe_ne_bot _

end Point

/-- What a block of the output holds at a point is the reference's value there. -/
theorem point (Q K : FVec Ideal Cert.AttnRefIdeal.S8x8192x1024 .bf16) (V : FVec Ideal Cert.AttnRefIdeal.S8x8192x512 .bf16) (b : Fin 8) (hp : Fin 4)
    (c : Dev nD) (i : grid0.Coords) (hn : (i 2).val < 16) (arg3) (harg3) (arg4) (harg4) (arg5) (harg5) (arg6) (harg6) (x0 : (⟨S1x512x256, .bf16⟩ : BufTy).Contents (Elt Ideal)) (x1 : (⟨S1x8192x256, .bf16⟩ : BufTy).Contents (Elt Ideal)) (x2 : (⟨S1x8192x128, .bf16⟩ : BufTy).Contents (Elt Ideal))
    (hq : ∀ j, ∃ y : ℝ, Q j = y) (hk : ∀ j, ∃ y : ℝ, K j = y)
    (h0 : ∀ (r : Fin 512) (l : Fin 256), x0 (ix3 0 r l) = Q (ix3 b ⟨512 * (i 2).val + r.val, by omega⟩ ⟨256 * hp.val + l.val, by omega⟩))
    (h1 : ∀ (r : Fin 8192) (l : Fin 256), x1 (ix3 0 r l) = K (ix3 b r ⟨256 * hp.val + l.val, by omega⟩))
    (h2 : ∀ (r : Fin 8192) (d : Fin 128), x2 (ix3 0 r d) = V (ix3 b r ⟨128 * hp.val + d.val, by omega⟩)) (r : Fin 512) (d : Fin 128) :
    out0_A_3 c i arg3 harg3 arg4 harg4 arg5 harg5 arg6 harg6 x0 x1 x2 (ix3 0 r d)
      = REF Q K V (ix3 b ⟨512 * (i 2).val + r.val, by omega⟩ ⟨128 * hp.val + d.val, by omega⟩) := by
  have e0 : ∀ j : S1x512x256.Idx, ∃ y : ℝ, x0 j = y := fun j => by
    have ej : j = ix3 0 ⟨(j 1).val, (j 1).isLt⟩ ⟨(j 2).val, (j 2).isLt⟩ := by blk_ext []
    exact ej ▸ (h0 ⟨(j 1).val, (j 1).isLt⟩ ⟨(j 2).val, (j 2).isLt⟩) ▸ hq _
  have e1 : ∀ j : S1x8192x256.Idx, ∃ y : ℝ, x1 j = y := fun j => by
    have ej : j = ix3 0 ⟨(j 1).val, (j 1).isLt⟩ ⟨(j 2).val, (j 2).isLt⟩ := by blk_ext []
    exact ej ▸ (h1 ⟨(j 1).val, (j 1).isLt⟩ ⟨(j 2).val, (j 2).isLt⟩) ▸ hk _
  rw [out_at c i arg3 harg3 arg4 harg4 arg5 harg5 arg6 harg6 x0 x1 x2 e0 e1, REF_block Q K V b _ hn hq hk, Wv_lane V b hp (i 2).val x2 h2]
  split
  · rw [G_row Q K b hp _ hn x0 x1 h0 h1 0 _ r ⟨(128 * hp.val + d.val) / 64, by omega⟩ (by simp only; omega)]
  · rw [G_row Q K b hp _ hn x0 x1 h0 h1 128 _ r ⟨(128 * hp.val + d.val) / 64, by omega⟩ (by simp only; omega)]

/-- Every window's block index: batch, query block, head pair; the keys and the values are whole along the sequence. -/
theorem idx : ∀ t : Fin cfg0.N, win0_0.index t = ![(grid0.coords t 0).val, (grid0.coords t 2).val, (grid0.coords t 1).val]
    ∧ win0_1.index t = ![(grid0.coords t 0).val, 0, (grid0.coords t 1).val] ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

/-- The kernel's output array is the reference's value of the arguments. -/
theorem final (c : Dev nD) (hq : ∀ j : S8x8192x1024.Idx, ∃ r : ℝ, m ((c : Thread nD τ).loc main_arg0) j = (r : EReal))
    (hk : ∀ j : S8x8192x1024.Idx, ∃ r : ℝ, m ((c : Thread nD τ).loc main_arg1) j = (r : EReal)) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  have hr : (y 1).val < 512 := (y 1).isLt
  have hl : (y 2).val < 128 := (y 2).isLt
  have h0 : (y 0).val < 1 := (y 0).isLt
  have c0 : (grid0.coords t 0).val < 8 := (grid0.coords t 0).isLt
  have c1 : (grid0.coords t 1).val < 4 := (grid0.coords t 1).isLt
  have c2 : (grid0.coords t 2).val < 16 := (grid0.coords t 2).isLt
  have hy : y = (ix3 0 ⟨(y 1).val, hr⟩ ⟨(y 2).val, hl⟩ : S1x512x128.Idx) := by blk_ext []
  have he : (win0_3.blk t).view.emb y = (ix3 ⟨(grid0.coords t 0).val, c0⟩ ⟨512 * (grid0.coords t 2).val + (y 1).val, by omega⟩
      ⟨128 * (grid0.coords t 1).val + (y 2).val, by omega⟩ : S8x8192x512.Idx) := by blk_ext [idx t]
  rw [he]
  refine (congrArg _ hy).trans ?_
  refine point _ _ _ ⟨(grid0.coords t 0).val, c0⟩ ⟨(grid0.coords t 1).val, c1⟩ c (grid0.coords t) c2 _ _ _ _ _ _ _ _ _ _ _ hq hk
    (fun r l => ?_) (fun r l => ?_) (fun r d => ?_) ⟨(y 1).val, hr⟩ ⟨(y 2).val, hl⟩
  · blk_simp [iblk, idx t]; entry_read; pointwise; blk_ext [idx t]
  · blk_simp [iblk, idx t]; entry_read; pointwise; blk_ext [idx t]
  · blk_simp [iblk, idx t]; entry_read; pointwise; blk_ext [idx t]

end Cert.AttnIdeal.RefValue
end
-- ==== Proof.Row.lean ====
module

public import proofs.«01_k».proof.Proof.MlpValue
public import proofs.«01_k».proof.Proof.Flash

@[expose] public section

noncomputable section

open Idealize.ShloMosaic
open Cert.Flash
open Cert.MlpIdeal.RefValue (norm)

namespace Cert.Row

/-- A number is real: neither `∞` nor `-∞`. -/
def Real' (x : EReal) : Prop := ∃ r : ℝ, x = r

theorem Real'.coe (r : ℝ) : Real' (r : EReal) := ⟨r, rfl⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.sum {n : ℕ} {f : Fin n → EReal} (h : ∀ k, Real' (f k)) : Real' (∑ k, f k) := by
  choose g hg using h
  exact ⟨∑ k, g k, by rw [← coe_sum]; exact Finset.sum_congr rfl fun k _ => hg k⟩

/-- A word whose exponent is neither all ones nor 0 stands for a real number. -/
theorem bits1024 : Ideal.ofBits .f32 0x44800000#32 = ((1024 : ℝ) : EReal) := by
  simp [Ideal.ofBits, Ideal.ieee, ← EReal.coe_mul]; norm_num
theorem bits16 : Ideal.ofBits .f32 0x3D800000#32 = ((1 / 16 : ℝ) : EReal) := by
  simp [Ideal.ofBits, Ideal.ieee, ← EReal.coe_mul]; norm_num
theorem bitsEps : ∃ e : ℝ, 0 < e ∧ Ideal.ofBits .f32 0x3727C5AC#32 = (e : EReal) := by
  refine ⟨10995116 * 2 ^ (-40 : ℤ), by positivity, ?_⟩
  simp [Ideal.ofBits, Ideal.ieee]
theorem bitsAlpha : Real' (Ideal.ofBits .f32 0x3F9837F0#32) := by
  refine ⟨9975792 * 2 ^ (-23 : ℤ), ?_⟩
  simp [Ideal.ofBits, Ideal.ieee]

/-- The reciprocal root of a mean of squares plus a positive number is real. -/
theorem rsqrt_mean {n : ℕ} (f : Fin n → ℝ) {c : ℝ} (hc : 0 < c) {e : ℝ} (he : 0 < e) :
    Real' (Ideal.rsqrt (Ideal.div (∑ k, (f k : EReal) * (f k : EReal)) (c : EReal) + (e : EReal))) := by
  simp only [← EReal.coe_mul]
  rw [coe_sum, Ideal.div_coe hc.ne', ← EReal.coe_mul, ← EReal.coe_add, Ideal.rsqrt_coe]
  have h : 0 < (∑ k, f k * f k) * (1 / c) + e :=
    add_pos_of_nonneg_of_pos (mul_nonneg (Finset.sum_nonneg fun k _ => mul_self_nonneg _) (by positivity)) he
  rw [if_neg (not_lt.2 h.le), if_neg h.ne']
  exact ⟨_, rfl⟩

/-- The layer norm of a row of real numbers is real. -/
theorem norm_real {z : Fin 1024 → EReal} {g b : EReal} (l : Fin 1024) (hz : ∀ k, Real' (z k)) (hg : Real' g) (hb : Real' b) :
    Real' (norm z g b l) := by
  have hmu : Real' (Ideal.div (∑ x, z x) (Ideal.ofBits .f32 0x44800000#32)) := by
    rw [bits1024, Ideal.div_coe (by norm_num)]
    exact (Real'.sum hz).mul ⟨_, rfl⟩
  have hd : ∀ k, Real' (z k - Ideal.div (∑ x, z x) (Ideal.ofBits .f32 0x44800000#32)) := fun k => (hz k).sub hmu
  choose d hd' using hd
  obtain ⟨e, he, he'⟩ := bitsEps
  unfold Cert.MlpIdeal.RefValue.norm
  simp only [hd', he']
  refine (((Real'.coe _).mul ?_).mul hg).add hb
  rw [bits1024]
  exact rsqrt_mean d (by norm_num) he

/-- A real number that is not negative moves out of a sum of products. -/
theorem sum_mul_scale {n : ℕ} (q k : Fin n → EReal) {c : ℝ} (hc : 0 ≤ c) :
    ∑ x, (q x * (c : EReal)) * k x = (∑ x, q x * k x) * (c : EReal) := by
  rw [mul_comm (∑ x, q x * k x), mul_sum _ _ hc]
  exact Finset.sum_congr rfl fun x _ => by rw [mul_comm (q x), mul_assoc]

/-- The exponential of a row's score less the row's maximum. -/
def ex {n : ℕ} (s : Fin n → EReal) (t : Fin n) : EReal := Ideal.exp (s t - Finset.univ.fold max ⊥ s)

/-- The weighed mean of a lane of the values: weights first, each divided by their sum. -/
def mean {n : ℕ} (s v : Fin n → EReal) : EReal := ∑ t, v t * Ideal.div (ex s t) (∑ u, ex s u)

/-- The division by the weights' sum may as well come after the sum, the scores being real. -/
theorem mean_eq {n : ℕ} (s v : Fin (n + 1) → EReal) (hs : ∀ t, Real' (s t)) : Ideal.div (∑ t, ex s t * v t) (∑ u, ex s u) = mean s v := by
  obtain ⟨μ, hμ⟩ := fold_real s (fun t => by obtain ⟨r, h⟩ := hs t; rw [h]; exact EReal.coe_ne_top r)
    ⟨0, by obtain ⟨r, h⟩ := hs 0; rw [h]; exact EReal.coe_ne_bot r⟩
  choose f hf using hs
  have he : ∀ t, ex s t = ((Real.exp (f t - μ) : ℝ) : EReal) := fun t => by
    unfold ex; rw [hμ, hf, ← EReal.coe_sub, Ideal.exp_coe]
  have hp : 0 < ∑ u, Real.exp (f u - μ) := Finset.sum_pos (fun u _ => Real.exp_pos _) ⟨0, Finset.mem_univ _⟩
  unfold mean
  simp only [he]
  rw [coe_sum, Ideal.div_coe hp.ne', mul_comm, mul_sum _ _ (by positivity)]
  refine Finset.sum_congr rfl fun t _ => ?_
  rw [Ideal.div_coe hp.ne']
  ac_rfl

end Cert.Row
end
-- ==== Proof.MixRef.lean ====
module

public import proofs.«01_k».proof.Proof.Gen.MixRefIdeal.Run
public import proofs.«01_k».proof.Proof.AttnRef
public import proofs.«01_k».proof.Proof.Row
public import Idealize.ShloMosaic.Lib.Pointwise

@[expose] public section

set_option maxRecDepth 16384

noncomputable section

open Idealize.ShloMosaic Idealize.ShloMosaic.TcCoe Idealize.SL.Sem
open Cert.Row

namespace Cert.Row

/-- What the first norm of a row reads: the scaled norm of the layer's input and the two gated branches' projection. -/
def pre1 (x so gs ga : Fin 1024 → EReal) (ao : Fin 512 → EReal) (gi bi : Fin 1024 → EReal) (woa : Fin 512 → Fin 1024 → EReal)
    (wo : Fin 1024 → Fin 1024 → EReal) (l : Fin 1024) : EReal :=
  Ideal.ofBits .f32 0x3F9837F0#32 * Cert.MlpIdeal.RefValue.norm x (gi l) (bi l) l
    + ∑ k, (gs k * so k + ga k * ∑ j, ao j * woa j k) * wo k l

/-- A row's layer norm, all lanes. -/
def norms (z g b : Fin 1024 → EReal) (l : Fin 1024) : EReal := Cert.MlpIdeal.RefValue.norm z (g l) (b l) l

/-- A row's score against a token of the memory, in one head of 256 lanes. -/
def score (h : Fin 1024 → EReal) (wq : Fin 1024 → Fin 1024 → EReal) (K : Fin 256 → Fin 1024 → EReal) (a : Fin 4) (t : Fin 256) : EReal :=
  (∑ d : Fin 256, (∑ k, h k * wq k ⟨a.val * 256 + d.val, by omega⟩) * K t ⟨a.val * 256 + d.val, by omega⟩) * Ideal.ofBits .f32 0x3D800000#32

/-- What the second norm of a row reads: the scaled hidden state and the projected attention to the memory. -/
def pre2 (h : Fin 1024 → EReal) (wq : Fin 1024 → Fin 1024 → EReal) (K V : Fin 256 → Fin 1024 → EReal) (wxo : Fin 1024 → Fin 1024 → EReal) (l : Fin 1024) : EReal :=
  Ideal.ofBits .f32 0x3F9837F0#32 * h l
    + ∑ k : Fin 1024, mean (score h wq K ⟨k.val / 256, by omega⟩) (fun t => V t k) * wxo k l

end Cert.Row

namespace Cert.MixRefIdeal.RefValue

open Cert.MixRefIdeal Cert.MixRefIdeal.Gen

/-- The reference's layer norm over the last axis. -/
def lnorm (z : FVec Ideal S8x8192x1024 .f32) (g b : FVec Ideal S1024 .f32) : FVec Ideal S8x8192x1024 .f32 :=
  have d : FVec Ideal S8x8192x1024 .f32 := subf z (broadcastInDim S8x8192x1024 ![0, 1, 2] bcast_S8x8192x1_S8x8192x1024_0_1_2 (Host.divf (broadcastInDim S8x8192x1 ![0, 1] bcast_S8x8192_S8x8192x1_0_1 (Host.reduceAdd z (constant S_ .f32 0x00000000#32) reducesTo_S8x8192x1024_S8x8192_d2 h_S_)) (broadcastInDim S8x8192x1 ![] bcast_S_S8x8192x1 (constant S_ .f32 0x44800000#32))))
  addf (mulf (mulf d (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf d d) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x3727C5AC#32))))))
      (broadcastInDim S8x8192x1024 ![0, 1, 2] bcast_S1x1x1024_S8x8192x1024_0_1_2 (broadcastInDim S1x1x1024 ![2] bcast_S1024_S1x1x1024_2 g)))
    (broadcastInDim S8x8192x1024 ![0, 1, 2] bcast_S1x1x1024_S8x8192x1024_0_1_2 (broadcastInDim S1x1x1024 ![2] bcast_S1024_S1x1x1024_2 b))

/-- What the reference's first norm reads. -/
def rpre1 (x : FVec Ideal S8x8192x1024 .f32) (ao : FVec Ideal S8x8192x512 .bf16) (so : FVec Ideal S8x8192x1024 .bf16) (gate : FVec Ideal S8x8192x2048 .bf16)
    (gi bi : FVec Ideal S1024 .f32) (woa : FVec Ideal S1x512x1024 .f32) (wo : FVec Ideal S1x1024x1024 .f32) : FVec Ideal S8x8192x1024 .f32 :=
  addf (mulf (broadcastInDim S8x8192x1024 ![] bcast_S_S8x8192x1024 (constant S_ .f32 0x3F9837F0#32)) (lnorm x gi bi))
    (Host.dotGeneral dot_S8x8192x1024_S1024x1024_S8x8192x1024_2_0_01_1_n_n none
      (addf (mulf (extf .f32 (extractStridedSlice S8x8192x1024 ![0, 0, 0] gate slices_S8x8192x2048_S8x8192x1024_0_0_0) bitsLt_bf16_f32) (extf .f32 so bitsLt_bf16_f32))
        (mulf (extf .f32 (extractStridedSlice S8x8192x1024 ![0, 0, 1024] gate slices_S8x8192x2048_S8x8192x1024_0_0_1024) bitsLt_bf16_f32)
          (Host.dotGeneral dot_S8x8192x512_S512x1024_S8x8192x1024_2_0_01_1_n_n none (extf .f32 ao bitsLt_bf16_f32) (shapeCast _ woa shapeCasts_S1x512x1024_S512x1024))))
      (shapeCast _ wo shapeCasts_S1x1024x1024_S1024x1024))

/-- The reference's scores of every batch, head, token and memory token. -/
def scores (h : FVec Ideal S8x8192x1024 .f32) (wq : FVec Ideal S1x1024x1024 .f32) (K : FVec Ideal S8x256x1024 .bf16) : FVec Ideal S8x4x8192x256 .f32 :=
  mulf (Host.dotGeneral dot_S8x8192x4x256_S8x256x4x256_S8x4x8192x256_3_3_1_1_02_02 none
      (shapeCast _ (Host.dotGeneral dot_S8x8192x1024_S1024x1024_S8x8192x1024_2_0_01_1_n_n none h (shapeCast _ wq shapeCasts_S1x1024x1024_S1024x1024) : FVec Ideal S8x8192x1024 .f32) shapeCasts_S8x8192x1024_S8x8192x4x256)
      (shapeCast _ (extf .f32 K bitsLt_bf16_f32) shapeCasts_S8x256x1024_S8x256x4x256))
    (broadcastInDim S8x4x8192x256 ![] bcast_S_S8x4x8192x256 (constant S_ .f32 0x3D800000#32))

/-- The maximum score of every row. -/
def top (S : FVec Ideal S8x4x8192x256 .f32) : FVec Ideal S8x4x8192 .f32 :=
  maximumf (broadcastInDim S8x4x8192 ![] bcast_S_S8x4x8192 (constant S_ .f32 0xFF800000#32)) (Host.reduce FloatOps.maximumf S (constant S_ .f32 0xFF800000#32) reducesTo_S8x4x8192x256_S8x4x8192_d3 h_S_)

/-- The exponentials of the scores less a number of every row. -/
def expo (S : FVec Ideal S8x4x8192x256 .f32) (M : FVec Ideal S8x4x8192 .f32) : FVec Ideal S8x4x8192x256 .f32 :=
  Host.exp (subf S (broadcastInDim S8x4x8192x256 ![0, 1, 2, 3] bcast_S8x4x8192x1_S8x4x8192x256_0_1_2_3 (broadcastInDim S8x4x8192x1 ![0, 1, 2] bcast_S8x4x8192_S8x4x8192x1_0_1_2 M)))

/-- What the reference's second norm reads. -/
def rpre2 (h : FVec Ideal S8x8192x1024 .f32) (P : FVec Ideal S8x4x8192x256 .f32) (V : FVec Ideal S8x256x1024 .bf16) (wxo : FVec Ideal S1x1024x1024 .f32) : FVec Ideal S8x8192x1024 .f32 :=
  addf (mulf (broadcastInDim S8x8192x1024 ![] bcast_S_S8x8192x1024 (constant S_ .f32 0x3F9837F0#32)) h)
    (Host.dotGeneral dot_S8x8192x1024_S1024x1024_S8x8192x1024_2_0_01_1_n_n none
      (shapeCast _ (transpose S8x8192x4x256 [0, 3, 1, 2] (Host.dotGeneral dot_S8x256x4x256_S8x4x8192x256_S8x4x256x8192_1_3_3_2_02_01 none
          (shapeCast _ (extf .f32 V bitsLt_bf16_f32) shapeCasts_S8x256x1024_S8x256x4x256)
          (Host.divf P (broadcastInDim S8x4x8192x256 ![0, 1, 2, 3] bcast_S8x4x8192x1_S8x4x8192x256_0_1_2_3 (broadcastInDim S8x4x8192x1 ![0, 1, 2] bcast_S8x4x8192_S8x4x8192x1_0_1_2 (Host.reduceAdd P (constant S_ .f32 0x00000000#32) reducesTo_S8x4x8192x256_S8x4x8192_d3 h_S_)))))
        transposes_S8x4x256x8192_S8x8192x4x256_0_3_1_2) shapeCasts_S8x8192x4x256_S8x8192x1024)
      (shapeCast _ wxo shapeCasts_S1x1024x1024_S1024x1024))

/-- The hidden state between the reference's two norms. -/
def hidden (x : FVec Ideal S8x8192x1024 .f32) (ao : FVec Ideal S8x8192x512 .bf16) (so : FVec Ideal S8x8192x1024 .bf16) (gate : FVec Ideal S8x8192x2048 .bf16)
    (gi bi : FVec Ideal S1024 .f32) (woa : FVec Ideal S1x512x1024 .f32) (wo : FVec Ideal S1x1024x1024 .f32) (g1 b1 : FVec Ideal S1x1024 .f32) : FVec Ideal S8x8192x1024 .f32 :=
  lnorm (rpre1 x ao so gate gi bi woa wo) (shapeCast _ g1 shapeCasts_S1x1024_S1024) (shapeCast _ b1 shapeCasts_S1x1024_S1024)

/-- The reference's result of the hidden state and the memory's keys and values. -/
def attend (h : FVec Ideal S8x8192x1024 .f32) (K V : FVec Ideal S8x256x1024 .bf16) (wq wxo : FVec Ideal S1x1024x1024 .f32) (g2 b2 : FVec Ideal S1x1024 .f32) : FVec Ideal S8x8192x1024 .f32 :=
  lnorm (rpre2 h (expo (scores h wq K) (top (scores h wq K))) V wxo) (shapeCast _ g2 shapeCasts_S1x1024_S1024) (shapeCast _ b2 shapeCasts_S1x1024_S1024)

theorem lnorm_at (z : FVec Ideal S8x8192x1024 .f32) (g b : FVec Ideal S1024 .f32) (n : Fin 8) (r : Fin 8192) (l : Fin 1024) :
    lnorm z g b (ix3 n r l) = norms (fun x => z (ix3 n r x)) (fun x => g (ix1 x)) (fun x => b (ix1 x)) l := by
  pointwise [lnorm, norms, Cert.MlpIdeal.RefValue.norm]

theorem rpre1_at (x : FVec Ideal S8x8192x1024 .f32) (ao : FVec Ideal S8x8192x512 .bf16) (so : FVec Ideal S8x8192x1024 .bf16) (gate : FVec Ideal S8x8192x2048 .bf16)
    (gi bi : FVec Ideal S1024 .f32) (woa : FVec Ideal S1x512x1024 .f32) (wo : FVec Ideal S1x1024x1024 .f32) (n : Fin 8) (r : Fin 8192) (l : Fin 1024) :
    rpre1 x ao so gate gi bi woa wo (ix3 n r l) = pre1 (fun k => x (ix3 n r k)) (fun k => so (ix3 n r k)) (fun k => gate (ix3 n r ⟨k.val, by omega⟩))
      (fun k => gate (ix3 n r ⟨1024 + k.val, by omega⟩)) (fun k => ao (ix3 n r k)) (fun k => gi (ix1 k)) (fun k => bi (ix1 k))
      (fun i j => woa (ix3 0 i j)) (fun i j => wo (ix3 0 i j)) l := by
  have e := lnorm_at x gi bi n r l
  unfold norms at e
  rw [pre1, ← e]
  unfold rpre1
  generalize lnorm x gi bi = y
  pointwise

theorem scores_at (h : FVec Ideal S8x8192x1024 .f32) (wq : FVec Ideal S1x1024x1024 .f32) (K : FVec Ideal S8x256x1024 .bf16) (n : Fin 8) (a : Fin 4) (r : Fin 8192) (t : Fin 256) :
    scores h wq K (ix4 n a r t) = score (fun k => h (ix3 n r k)) (fun i j => wq (ix3 0 i j)) (fun t k => K (ix3 n t k)) a t := by
  pointwise [scores, score]

theorem top_at (S : FVec Ideal S8x4x8192x256 .f32) (n : Fin 8) (a : Fin 4) (r : Fin 8192) :
    top S (ix3 n a r) = max ⊥ (Finset.univ.fold max ⊥ fun t : Fin 256 => S (ix4 n a r t)) := by
  unfold top
  exact Cert.AttnRefIdeal.RefValue.reduce_last S bcast_S_S8x4x8192 reducesTo_S8x4x8192x256_S8x4x8192_d3 h_S_ n a r

theorem expo_at (S : FVec Ideal S8x4x8192x256 .f32) (n : Fin 8) (a : Fin 4) (r : Fin 8192) (t : Fin 256) :
    expo S (top S) (ix4 n a r t) = ex (fun t : Fin 256 => S (ix4 n a r t)) t := by
  have e : expo S (top S) (ix4 n a r t) = Ideal.exp (S (ix4 n a r t) - top S (ix3 n a r)) := by
    generalize top S = M
    pointwise [expo]
  rw [e, top_at, max_eq_right bot_le]; rfl

theorem rpre2_at (h : FVec Ideal S8x8192x1024 .f32) (P : FVec Ideal S8x4x8192x256 .f32) (V : FVec Ideal S8x256x1024 .bf16) (wxo : FVec Ideal S1x1024x1024 .f32)
    (n : Fin 8) (r : Fin 8192) (l : Fin 1024) :
    rpre2 h P V wxo (ix3 n r l) = Ideal.ofBits .f32 0x3F9837F0#32 * h (ix3 n r l)
      + ∑ k : Fin 1024, (∑ t : Fin 256, V (ix3 n t k) * Ideal.div (P (ix4 n ⟨k.val / 256, by omega⟩ r t)) (∑ u : Fin 256, P (ix4 n ⟨k.val / 256, by omega⟩ r u))) * wxo (ix3 0 k l) := by
  pointwise [rpre2]

/-- The reference's result at one row and lane, from the hidden state's row. -/
theorem attend_at (h : FVec Ideal S8x8192x1024 .f32) (K V : FVec Ideal S8x256x1024 .bf16) (wq wxo : FVec Ideal S1x1024x1024 .f32) (g2 b2 : FVec Ideal S1x1024 .f32)
    (n : Fin 8) (r : Fin 8192) (l : Fin 1024) :
    attend h K V wq wxo g2 b2 (ix3 n r l) = norms (pre2 (fun k => h (ix3 n r k)) (fun i j => wq (ix3 0 i j)) (fun t k => K (ix3 n t k)) (fun t k => V (ix3 n t k)) (fun i j => wxo (ix3 0 i j)))
      (fun k => g2 (ix2 0 k)) (fun k => b2 (ix2 0 k)) l := by
  have e : ∀ x, rpre2 h (expo (scores h wq K) (top (scores h wq K))) V wxo (ix3 n r x)
      = pre2 (fun k => h (ix3 n r k)) (fun i j => wq (ix3 0 i j)) (fun t k => K (ix3 n t k)) (fun t k => V (ix3 n t k)) (fun i j => wxo (ix3 0 i j)) x := fun x => by
    rw [rpre2_at]
    simp only [expo_at, scores_at]
    rfl
  have eg : ∀ g : FVec Ideal S1x1024 .f32, ∀ k : Fin 1024, (shapeCast S1024 g shapeCasts_S1x1024_S1024 : FVec Ideal S1024 .f32) (ix1 k) = g (ix2 0 k) := fun g k => by pointwise
  unfold attend
  rw [lnorm_at]
  simp only [e, eg]

/-- The hidden state at one row and lane. -/
theorem hidden_at (x : FVec Ideal S8x8192x1024 .f32) (ao : FVec Ideal S8x8192x512 .bf16) (so : FVec Ideal S8x8192x1024 .bf16) (gate : FVec Ideal S8x8192x2048 .bf16)
    (gi bi : FVec Ideal S1024 .f32) (woa : FVec Ideal S1x512x1024 .f32) (wo : FVec Ideal S1x1024x1024 .f32) (g1 b1 : FVec Ideal S1x1024 .f32) (n : Fin 8) (r : Fin 8192) (l : Fin 1024) :
    hidden x ao so gate gi bi woa wo g1 b1 (ix3 n r l) = norms (pre1 (fun k => x (ix3 n r k)) (fun k => so (ix3 n r k)) (fun k => gate (ix3 n r ⟨k.val, by omega⟩))
      (fun k => gate (ix3 n r ⟨1024 + k.val, by omega⟩)) (fun k => ao (ix3 n r k)) (fun k => gi (ix1 k)) (fun k => bi (ix1 k))
      (fun i j => woa (ix3 0 i j)) (fun i j => wo (ix3 0 i j))) (fun k => g1 (ix2 0 k)) (fun k => b1 (ix2 0 k)) l := by
  have eg : ∀ g : FVec Ideal S1x1024 .f32, ∀ k : Fin 1024, (shapeCast S1024 g shapeCasts_S1x1024_S1024 : FVec Ideal S1024 .f32) (ix1 k) = g (ix2 0 k) := fun g k => by pointwise
  unfold hidden
  rw [lnorm_at]
  simp only [rpre1_at, eg]

/-- The reference's result of its arguments. -/
def REF (x : FVec Ideal S8x8192x1024 .f32) (ao : FVec Ideal S8x8192x512 .bf16) (so : FVec Ideal S8x8192x1024 .bf16) (gate : FVec Ideal S8x8192x2048 .bf16)
    (K V : FVec Ideal S8x256x1024 .bf16) (gi bi : FVec Ideal S1024 .f32) (woa : FVec Ideal S1x512x1024 .f32) (wo : FVec Ideal S1x1024x1024 .f32) (g1 b1 : FVec Ideal S1x1024 .f32)
    (wq wxo : FVec Ideal S1x1024x1024 .f32) (g2 b2 : FVec Ideal S1x1024 .f32) : FVec Ideal S8x8192x1024 .f32 :=
  attend (hidden x ao so gate gi bi woa wo g1 b1) K V wq wxo g2 b2

end Cert.MixRefIdeal.RefValue
end
-- ==== Proof.MixBlock.lean ====
module

public import proofs.«01_k».proof.Proof.Gen.MixIdeal.Value
public import proofs.«01_k».proof.Proof.AttnBlock
public import proofs.«01_k».proof.Proof.MixRef
public import Idealize.ShloMosaic.Lib.Pipeline.ValueKit

@[expose] public section

set_option maxRecDepth 16384

noncomputable section

open Idealize.ShloMosaic Idealize.ShloMosaic.TcCoe Idealize.SL.Sem
open Cert.Row
open Cert.MlpIdeal.RefValue (knorm knorm_at)

namespace Cert.MixIdeal.RefValue

open Cert.MixIdeal Cert.MixIdeal.Gen

/-- What the kernel's first norm reads. -/
def kpre1 (v25 v30 : FVec Ideal S512x1024 .f32) (v32 : FVec Ideal S512x2048 .bf16) (v34 : FVec Ideal S512x1024 .f32) (v35 : Vec Ideal S1x512x1024 .bf16) (v44 : Vec Ideal S1024x1024 .bf16) :
    FVec Ideal S512x1024 .f32 :=
  have v37 : FVec Ideal S512x1024 .f32 := extf .f32 (shapeCast S512x1024 v35 shapeCasts_S1x512x1024_S512x1024 : FVec Ideal S512x1024 .bf16) bitsLt_bf16_f32
  have v40 : FVec Ideal S512x1024 .f32 := extf .f32 (extractStridedSlice S512x1024 ![0, 1024] v32 slices_S512x2048_o0_1024_S512x1024) bitsLt_bf16_f32
  have v43 : FVec Ideal S512x1024 .bf16 := truncf .bf16 (addf (mulf v34 v37) (mulf v40 v30)) bitsLt_bf16_f32
  addf (mulf (broadcast S512x1024 (Scalar.ofBits .f32 0x3F9837F0#32)) v25)
    (matmul dot_S512x1024_S1024x1024_S512x1024_1_0_0_1_n_n none v43 (shapeCast S1024x1024 v44 shapeCasts_S1024x1024_S1024x1024 : FVec Ideal S1024x1024 .bf16) (constant S512x1024 .f32 0x00000000#32))

/-- One head's scores, from its columns of the scaled queries and of the memory's keys. -/
def kscore (q : FVec Ideal S512x256 .bf16) (K : Vec Ideal S1x256x256 .bf16) : FVec Ideal S512x256 .f32 :=
  matmul dot_S512x256_S256x256_S512x256_1_1_0_0_n_n none q (shapeCast S256x256 K shapeCasts_S1x256x256_S256x256 : FVec Ideal S256x256 .bf16) (constant S512x256 .f32 0x00000000#32)

/-- One head's exponentials. -/
def kexp (s : FVec Ideal S512x256 .f32) : FVec Ideal S512x256 .f32 :=
  exp (subf s (broadcastTo S512x256 (shapeCast S512x1 (multiReduction .maximumf [1] S512 s 0xFF800000#32 reduces_S512x256_S512 (.inl rfl) rfl : FVec Ideal S512 .f32) shapeCasts_S512_S512x1) broadcasts_S512x1_S512x256))

/-- One head's part of the projected attention. -/
def khead (s : FVec Ideal S512x256 .f32) (V : Vec Ideal S1x256x256 .bf16) (W : Vec Ideal S256x1024 .bf16) : FVec Ideal S512x1024 .f32 :=
  have o : FVec Ideal S512x256 .f32 := divf
    (matmul dot_S512x256_S256x256_S512x256_1_0_0_1_n_n none (truncf .bf16 (kexp s) bitsLt_bf16_f32) (shapeCast S256x256 V shapeCasts_S1x256x256_S256x256 : FVec Ideal S256x256 .bf16) (constant S512x256 .f32 0x00000000#32))
    (broadcastTo S512x256 (shapeCast S512x1 (multiReduction .add [1] S512 (kexp s) 0x00000000#32 reduces_S512x256_S512 (.inl rfl) rfl : FVec Ideal S512 .f32) shapeCasts_S512_S512x1) broadcasts_S512x1_S512x256)
  matmul dot_S512x256_S256x1024_S512x1024_1_0_0_1_n_n none (truncf .bf16 o bitsLt_bf16_f32) (shapeCast S256x1024 W shapeCasts_S256x1024_S256x1024 : FVec Ideal S256x1024 .bf16) (constant S512x1024 .f32 0x00000000#32)

/-- The printed pieces of the body are the stages above. -/
theorem pay2_eq (v0 : Vec Ideal S1x512x1024 .f32) (v2 v4 : Vec Ideal S1x1024 .f32) :
    k0_pay2 v0 v2 v4 = knorm (shapeCast S512x1024 v0 shapeCasts_S1x512x1024_S512x1024) v2 v4 := rfl
theorem pay6_eq (v25 v30 : FVec Ideal S512x1024 .f32) (v32 : FVec Ideal S512x2048 .bf16) (v34 : FVec Ideal S512x1024 .f32) (v35 : Vec Ideal S1x512x1024 .bf16) (v44 : Vec Ideal S1024x1024 .bf16)
    (v50 v52 : Vec Ideal S1x1024 .f32) : k0_pay6 v25 v30 v32 v34 v35 v44 v50 v52 = knorm (kpre1 v25 v30 v32 v34 v35 v44) v50 v52 := rfl
theorem pay9_eq (v77 : FVec Ideal S512x1024 .f32) (K V : Vec Ideal S1x256x256 .bf16) (W : Vec Ideal S256x1024 .bf16) :
    k0_pay9 v77 K V W = addf (broadcast S512x1024 (Scalar.ofBits .f32 0x00000000#32))
      (khead (kscore (extractStridedSlice S512x256 ![0, 0] (k0_pay8 v77) slices_S512x1024_o0_0_S512x256) K) V W) := rfl
theorem pay12_eq (v77 : FVec Ideal S512x1024 .f32) (a : FVec Ideal S512x1024 .f32) (K V : Vec Ideal S1x256x256 .bf16) (W : Vec Ideal S256x1024 .bf16)
    (K' V' : Vec Ideal S1x256x256 .bf16) (W' : Vec Ideal S256x1024 .bf16) :
    k0_pay12 (k0_pay8 v77) a (k0_pay10 v77 K) (k0_pay11 v77 K) V W K' V' W'
      = addf (addf a (khead (kscore (extractStridedSlice S512x256 ![0, 256] (k0_pay8 v77) slices_S512x1024_o0_256_S512x256) K) V W))
        (khead (kscore (extractStridedSlice S512x256 ![0, 512] (k0_pay8 v77) slices_S512x1024_o0_512_S512x256) K') V' W') := rfl
theorem pay15_eq (v80 : FVec Ideal S512x1024 .bf16) (h a : FVec Ideal S512x1024 .f32) (K V : Vec Ideal S1x256x256 .bf16) (W : Vec Ideal S256x1024 .bf16) (g b : Vec Ideal S1x1024 .f32) :
    k0_pay1 (k0_pay14 b) (k0_pay15 h a (k0_pay13 v80 K) V W) (k0_pay16 g)
      = shapeCast S1x512x1024 (knorm (addf (mulf (broadcast S512x1024 (Scalar.ofBits .f32 0x3F9837F0#32)) h)
          (addf a (khead (kscore (extractStridedSlice S512x256 ![0, 768] v80 slices_S512x1024_o0_768_S512x256) K) V W))) g b) shapeCasts_S512x1024_S1x512x1024 := rfl

section Body

variable (x0 : Vec Ideal S1x512x1024 .f32) (x1 : Vec Ideal S1x512x512 .bf16) (x2 : Vec Ideal S1x512x1024 .bf16) (x3 : Vec Ideal S1x512x2048 .bf16)
  (x4 x5 : Vec Ideal S1x256x1024 .bf16) (x6 x7 : Vec Ideal S1x1024 .f32) (x8 : Vec Ideal S512x1024 .bf16) (x9 : Vec Ideal S1024x1024 .bf16) (x10 x11 : Vec Ideal S1x1024 .f32)
  (x12 x13 : Vec Ideal S1024x1024 .bf16) (x14 x15 : Vec Ideal S1x1024 .f32)

/-- The block's hidden state between the two norms. -/
def khid : FVec Ideal S512x1024 .f32 :=
  knorm (kpre1 (knorm (shapeCast S512x1024 x0 shapeCasts_S1x512x1024_S512x1024) x6 x7) (k0_pay3 x1 x8) (k0_pay4 x3) (k0_pay5 x3) x2 x9) x10 x11

/-- The block's scaled queries of its hidden state. -/
def kq (h : FVec Ideal S512x1024 .f32) : FVec Ideal S512x1024 .bf16 :=
  k0_pay8 (matmul dot_S512x1024_S1024x1024_S512x1024_1_0_0_1_n_n none (truncf .bf16 h bitsLt_bf16_f32) (shapeCast S1024x1024 x12 shapeCasts_S1024x1024_S1024x1024 : FVec Ideal S1024x1024 .bf16) (constant S512x1024 .f32 0x00000000#32))

/-- What the kernel's second norm reads. -/
def kpre2 (h : FVec Ideal S512x1024 .f32) : FVec Ideal S512x1024 .f32 :=
  addf (mulf (broadcast S512x1024 (Scalar.ofBits .f32 0x3F9837F0#32)) h)
    (addf (addf (addf (addf (broadcast S512x1024 (Scalar.ofBits .f32 0x00000000#32))
      (khead (kscore (extractStridedSlice S512x256 ![0, 0] (kq x12 h) slices_S512x1024_o0_0_S512x256) (View.ld x4 r0_6)) (View.ld x5 r0_6) (View.ld x13 r0_7)))
      (khead (kscore (extractStridedSlice S512x256 ![0, 256] (kq x12 h) slices_S512x1024_o0_256_S512x256) (View.ld x4 r0_8)) (View.ld x5 r0_8) (View.ld x13 r0_9)))
      (khead (kscore (extractStridedSlice S512x256 ![0, 512] (kq x12 h) slices_S512x1024_o0_512_S512x256) (View.ld x4 r0_10)) (View.ld x5 r0_10) (View.ld x13 r0_11)))
      (khead (kscore (extractStridedSlice S512x256 ![0, 768] (kq x12 h) slices_S512x1024_o0_768_S512x256) (View.ld x4 r0_12)) (View.ld x5 r0_12) (View.ld x13 r0_13)))

/-- The block the body leaves: the second norm of what it reads. -/
theorem out_eq : out0_16 x0 x1 x2 x3 x4 x5 x6 x7 x8 x9 x10 x11 x12 x13 x14 x15
    = shapeCast S1x512x1024 (knorm (kpre2 x4 x5 x12 x13 (khid x0 x1 x2 x3 x6 x7 x8 x9 x10 x11)) x14 x15) shapeCasts_S512x1024_S1x512x1024 := by
  have e0 : View.ld x0 r0_0 = x0 := by frame_out
  have e1 : View.ld x1 r0_2 = x1 := by frame_out
  have e2 : View.ld x2 r0_0 = x2 := by frame_out
  have e3 : View.ld x3 r0_4 = x3 := by frame_out
  have e6 : View.ld x6 r0_1 = x6 := by frame_out
  have e7 : View.ld x7 r0_1 = x7 := by frame_out
  have e8 : View.ld x8 r0_3 = x8 := by frame_out
  have e9 : View.ld x9 r0_5 = x9 := by frame_out
  have e10 : View.ld x10 r0_1 = x10 := by frame_out
  have e11 : View.ld x11 r0_1 = x11 := by frame_out
  have e12 : View.ld x12 r0_5 = x12 := by frame_out
  have e14 : View.ld x14 r0_1 = x14 := by frame_out
  have e15 : View.ld x15 r0_1 = x15 := by frame_out
  unfold out0_16 k0_pay22 k0_pay21 k0_pay17 k0_pay18 k0_pay19 k0_pay20
  rw [e0, e1, e2, e3, e6, e7, e8, e9, e10, e11, e12, e14, e15, pay9_eq, pay12_eq, pay15_eq, pay6_eq, pay2_eq]
  frame_out
  unfold k0_pay7
  rw [pay6_eq]
  rfl

end Body

end Cert.MixIdeal.RefValue
end
-- ==== Proof.MixValue.lean ====
module

public import proofs.«01_k».proof.Defs
public import proofs.«01_k».proof.Proof.AttnValue
public import proofs.«01_k».proof.Proof.MixBlock
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row
open Cert.MlpIdeal.RefValue (knorm knorm_at)

namespace Cert.MixIdeal.RefValue

open Cert.MixIdeal Cert.MixIdeal.Gen

/-- The word of the maximum's start. -/
theorem negInf : Ideal.ofBits .f32 0xFF800000#32 = ⊥ := by simp [Ideal.ofBits, Ideal.ieee]

theorem kscore_at (q : FVec Ideal S512x256 .bf16) (K : Vec Ideal S1x256x256 .bf16) (r : Fin 512) (t : Fin 256) :
    kscore q K (ix2 r t) = ∑ d : Fin 256, q (ix2 r d) * K (ix3 0 t d) := by
  pointwise [kscore]

theorem kexp_at (s : FVec Ideal S512x256 .f32) (r : Fin 512) (t : Fin 256) : kexp s (ix2 r t) = ex (fun t : Fin 256 => s (ix2 r t)) t := by
  pointwise [kexp, ex]
  rw [negInf]

theorem khead_at (s : FVec Ideal S512x256 .f32) (V : Vec Ideal S1x256x256 .bf16) (W : Vec Ideal S256x1024 .bf16) (r : Fin 512) (l : Fin 1024) :
    khead s V W (ix2 r l) = ∑ d : Fin 256, Ideal.div (∑ t : Fin 256, ex (fun t : Fin 256 => s (ix2 r t)) t * V (ix3 0 t d)) (∑ u : Fin 256, ex (fun t : Fin 256 => s (ix2 r t)) u) * W (ix2 d l) := by
  simp only [← kexp_at]
  unfold khead
  generalize kexp s = e
  pointwise

theorem kq_at (x12 : Vec Ideal S1024x1024 .bf16) (h : FVec Ideal S512x1024 .f32) (r : Fin 512) (j : Fin 1024) :
    kq x12 h (ix2 r j) = (∑ k : Fin 1024, h (ix2 r k) * x12 (ix2 k j)) * Ideal.ofBits .f32 0x3D800000#32 := by
  pointwise [kq, k0_pay8]

theorem kpre1_at (v25 : FVec Ideal S512x1024 .f32) (x1 : Vec Ideal S1x512x512 .bf16) (x2 : Vec Ideal S1x512x1024 .bf16) (x3 : Vec Ideal S1x512x2048 .bf16) (x8 : Vec Ideal S512x1024 .bf16) (x9 : Vec Ideal S1024x1024 .bf16)
    (r : Fin 512) (l : Fin 1024) :
    kpre1 v25 (k0_pay3 x1 x8) (k0_pay4 x3) (k0_pay5 x3) x2 x9 (ix2 r l) = Ideal.ofBits .f32 0x3F9837F0#32 * v25 (ix2 r l)
      + ∑ k : Fin 1024, (x3 (ix3 0 r ⟨k.val, by omega⟩) * x2 (ix3 0 r k) + x3 (ix3 0 r ⟨1024 + k.val, by omega⟩) * ∑ j : Fin 512, x1 (ix3 0 r j) * x8 (ix2 j k)) * x9 (ix2 k l) := by
  pointwise [kpre1, k0_pay3, k0_pay4, k0_pay5]

/-- The block's hidden state at a row and lane. -/
theorem khid_at (x0 : Vec Ideal S1x512x1024 .f32) (x1 : Vec Ideal S1x512x512 .bf16) (x2 : Vec Ideal S1x512x1024 .bf16) (x3 : Vec Ideal S1x512x2048 .bf16)
    (x6 x7 : Vec Ideal S1x1024 .f32) (x8 : Vec Ideal S512x1024 .bf16) (x9 : Vec Ideal S1024x1024 .bf16) (x10 x11 : Vec Ideal S1x1024 .f32) (r : Fin 512) (l : Fin 1024) :
    khid x0 x1 x2 x3 x6 x7 x8 x9 x10 x11 (ix2 r l) = norms (pre1 (fun k => x0 (ix3 0 r k)) (fun k => x2 (ix3 0 r k)) (fun k => x3 (ix3 0 r ⟨k.val, by omega⟩))
      (fun k => x3 (ix3 0 r ⟨1024 + k.val, by omega⟩)) (fun k => x1 (ix3 0 r k)) (fun k => x6 (ix2 0 k)) (fun k => x7 (ix2 0 k))
      (fun i j => x8 (ix2 i j)) (fun i j => x9 (ix2 i j))) (fun k => x10 (ix2 0 k)) (fun k => x11 (ix2 0 k)) l := by
  have e : ∀ k : Fin 1024, (shapeCast S512x1024 x0 shapeCasts_S1x512x1024_S512x1024 : FVec Ideal S512x1024 .f32) (ix2 r k) = x0 (ix3 0 r k) := fun k => by pointwise
  unfold khid
  rw [knorm_at]
  simp only [kpre1_at, knorm_at, e]
  rfl

/-- One head's part of the projected attention is its lanes' share of the reference's. -/
theorem head (hrow : Fin 1024 → EReal) (wq : Fin 1024 → Fin 1024 → EReal) (K V : Fin 256 → Fin 1024 → EReal) (wxo : Fin 1024 → Fin 1024 → EReal) (a : Fin 4)
    (hs : ∀ t, Real' (score hrow wq K a t)) (q : FVec Ideal S512x256 .bf16) (k v : Vec Ideal S1x256x256 .bf16) (w : Vec Ideal S256x1024 .bf16) (r : Fin 512) (l : Fin 1024)
    (hq : ∀ d : Fin 256, q (ix2 r d) = (∑ k, hrow k * wq k ⟨a.val * 256 + d.val, by omega⟩) * Ideal.ofBits .f32 0x3D800000#32)
    (hk : ∀ t d : Fin 256, k (ix3 0 t d) = K t ⟨a.val * 256 + d.val, by omega⟩) (hv : ∀ t d : Fin 256, v (ix3 0 t d) = V t ⟨a.val * 256 + d.val, by omega⟩)
    (hw : ∀ d : Fin 256, w (ix2 d l) = wxo ⟨a.val * 256 + d.val, by omega⟩ l) :
    khead (kscore q k) v w (ix2 r l) = ∑ d : Fin 256, mean (score hrow wq K a) (fun t => V t ⟨a.val * 256 + d.val, by omega⟩) * wxo ⟨a.val * 256 + d.val, by omega⟩ l := by
  have e : (fun t : Fin 256 => kscore q k (ix2 r t)) = score hrow wq K a := by
    funext t
    rw [kscore_at]
    simp only [hq, hk]
    unfold score
    rw [bits16, sum_mul_scale _ _ (by norm_num)]
  rw [khead_at, e]
  refine Finset.sum_congr rfl fun d _ => ?_
  rw [hw, ← mean_eq _ _ hs]
  simp only [hv]

/-- What the kernel's second norm reads, at a row and lane. -/
theorem kpre2_at (x4 x5 : Vec Ideal S1x256x1024 .bf16) (x12 x13 : Vec Ideal S1024x1024 .bf16) (h : FVec Ideal S512x1024 .f32) (r : Fin 512) (l : Fin 1024)
    (hs : ∀ a t, Real' (score (fun k => h (ix2 r k)) (fun i j => x12 (ix2 i j)) (fun t k => x4 (ix3 0 t k)) a t)) :
    kpre2 x4 x5 x12 x13 h (ix2 r l) = pre2 (fun k => h (ix2 r k)) (fun i j => x12 (ix2 i j)) (fun t k => x4 (ix3 0 t k)) (fun t k => x5 (ix3 0 t k)) (fun i j => x13 (ix2 i j)) l := by
  have z : Ideal.ofBits .f32 0x00000000#32 = 0 := by simp [Ideal.ofBits, Ideal.ieee]
  unfold kpre2 pre2
  rw [Fin.sum_univ_tiles 4 256 rfl, Fin.sum_univ_four]
  refine congrArg₂ (· + ·) rfl (congrArg₂ (· + ·) (congrArg₂ (· + ·) (congrArg₂ (· + ·) ((congrArg (· + _) z).trans ((zero_add _).trans ?_)) ?_) ?_) ?_)
  · refine (head _ _ (fun t k => x4 (ix3 0 t k)) (fun t k => x5 (ix3 0 t k)) (fun i j => x13 (ix2 i j)) 0 (hs 0) _ _ _ _ r l (fun d => ?_) (fun t d => ?_) (fun t d => ?_) fun d => ?_).trans ?_
    · refine Eq.trans ?_ (kq_at x12 h r _)
      generalize kq x12 h = y
      pointwise
    · exact View.ld_unit_apply_of _ _ _ _ _ _ fun a => by fin_cases a <;> simp
    · exact View.ld_unit_apply_of _ _ _ _ _ _ fun a => by fin_cases a <;> simp
    · exact View.ld_unit_apply_of _ _ _ _ _ _ fun a => by fin_cases a <;> simp
    · refine Finset.sum_congr rfl fun d _ => ?_
      have e : (⟨((0 : Fin 4).val * 256 + d.val) / 256, by have := d.isLt; simp <;> omega⟩ : Fin 4) = 0 := Fin.ext (by have := d.isLt; simp <;> omega)
      exact congrArg (fun a => mean (score _ _ _ a) _ * _) e.symm
  · refine (head _ _ (fun t k => x4 (ix3 0 t k)) (fun t k => x5 (ix3 0 t k)) (fun i j => x13 (ix2 i j)) 1 (hs 1) _ _ _ _ r l (fun d => ?_) (fun t d => ?_) (fun t d => ?_) fun d => ?_).trans ?_
    · refine Eq.trans ?_ (kq_at x12 h r _)
      generalize kq x12 h = y
      pointwise
    · exact View.ld_unit_apply_of _ _ _ _ _ _ fun a => by fin_cases a <;> simp
    · exact View.ld_unit_apply_of _ _ _ _ _ _ fun a => by fin_cases a <;> simp
    · exact View.ld_unit_apply_of _ _ _ _ _ _ fun a => by fin_cases a <;> simp
    · refine Finset.sum_congr rfl fun d _ => ?_
      have e : (⟨((1 : Fin 4).val * 256 + d.val) / 256, by have := d.isLt; simp <;> omega⟩ : Fin 4) = 1 := Fin.ext (by have := d.isLt; simp <;> omega)
      exact congrArg (fun a => mean (score _ _ _ a) _ * _) e.symm
  · refine (head _ _ (fun t k => x4 (ix3 0 t k)) (fun t k => x5 (ix3 0 t k)) (fun i j => x13 (ix2 i j)) 2 (hs 2) _ _ _ _ r l (fun d => ?_) (fun t d => ?_) (fun t d => ?_) fun d => ?_).trans ?_
    · refine Eq.trans ?_ (kq_at x12 h r _)
      generalize kq x12 h = y
      pointwise
    · exact View.ld_unit_apply_of _ _ _ _ _ _ fun a => by fin_cases a <;> simp
    · exact View.ld_unit_apply_of _ _ _ _ _ _ fun a => by fin_cases a <;> simp
    · exact View.ld_unit_apply_of _ _ _ _ _ _ fun a => by fin_cases a <;> simp
    · refine Finset.sum_congr rfl fun d _ => ?_
      have e : (⟨((2 : Fin 4).val * 256 + d.val) / 256, by have := d.isLt; simp <;> omega⟩ : Fin 4) = 2 := Fin.ext (by have := d.isLt; simp <;> omega)
      exact congrArg (fun a => mean (score _ _ _ a) _ * _) e.symm
  · refine (head _ _ (fun t k => x4 (ix3 0 t k)) (fun t k => x5 (ix3 0 t k)) (fun i j => x13 (ix2 i j)) 3 (hs 3) _ _ _ _ r l (fun d => ?_) (fun t d => ?_) (fun t d => ?_) fun d => ?_).trans ?_
    · refine Eq.trans ?_ (kq_at x12 h r _)
      generalize kq x12 h = y
      pointwise
    · exact View.ld_unit_apply_of _ _ _ _ _ _ fun a => by fin_cases a <;> simp
    · exact View.ld_unit_apply_of _ _ _ _ _ _ fun a => by fin_cases a <;> simp
    · exact View.ld_unit_apply_of _ _ _ _ _ _ fun a => by fin_cases a <;> simp
    · refine Finset.sum_congr rfl fun d _ => ?_
      have e : (⟨((3 : Fin 4).val * 256 + d.val) / 256, by have := d.isLt; simp <;> omega⟩ : Fin 4) = 3 := Fin.ext (by have := d.isLt; simp <;> omega)
      exact congrArg (fun a => mean (score _ _ _ a) _ * _) e.symm

/-- The scores of real rows against real keys are real. -/
theorem score_real (x so gs ga : Fin 1024 → EReal) (ao : Fin 512 → EReal) (gi bi : Fin 1024 → EReal) (woa : Fin 512 → Fin 1024 → EReal) (wo wq : Fin 1024 → Fin 1024 → EReal) (g1 b1 : Fin 1024 → EReal)
    (K : Fin 256 → Fin 1024 → EReal) (hx : ∀ k, Real' (x k)) (hso : ∀ k, Real' (so k)) (hgs : ∀ k, Real' (gs k)) (hga : ∀ k, Real' (ga k)) (hao : ∀ k, Real' (ao k)) (hgi : ∀ k, Real' (gi k))
    (hbi : ∀ k, Real' (bi k)) (hwoa : ∀ i j, Real' (woa i j)) (hwo : ∀ i j, Real' (wo i j)) (hwq : ∀ i j, Real' (wq i j)) (hg1 : ∀ k, Real' (g1 k)) (hb1 : ∀ k, Real' (b1 k)) (hK : ∀ t k, Real' (K t k))
    (a : Fin 4) (t : Fin 256) : Real' (score (norms (pre1 x so gs ga ao gi bi woa wo) g1 b1) wq K a t) := by
  have h1 : ∀ l, Real' (pre1 x so gs ga ao gi bi woa wo l) := fun l =>
    (bitsAlpha.mul (norm_real l hx (hgi l) (hbi l))).add (Real'.sum fun k =>
      ((((hgs k).mul (hso k)).add ((hga k).mul (Real'.sum fun j => (hao j).mul (hwoa j k)))).mul (hwo k l)))
  have h2 : ∀ l, Real' (norms (pre1 x so gs ga ao gi bi woa wo) g1 b1 l) := fun l => norm_real l h1 (hg1 l) (hb1 l)
  unfold score
  exact (Real'.sum fun d => (Real'.sum fun k => (h2 k).mul (hwq k _)).mul (hK t _)).mul (bits16 ▸ ⟨_, rfl⟩)

variable (m : (ℓ : Loc nD τ sig) → Buf (Elt Ideal) ℓ)

/-- Every window's block index: the batch and the block of 512 tokens for what has both, the batch for the memory's keys and
values, and whole weights and norm rows. -/
theorem idx : ∀ t : Fin cfg0.N, win0_0.index t = ![t.val / 16, t.val % 16, 0] ∧ win0_1.index t = ![t.val / 16, t.val % 16, 0] ∧ win0_2.index t = ![t.val / 16, t.val % 16, 0]
    ∧ win0_3.index t = ![t.val / 16, t.val % 16, 0] ∧ win0_4.index t = ![t.val / 16, 0, 0] ∧ win0_5.index t = ![t.val / 16, 0, 0]
    ∧ win0_6.index t = ![0, 0] ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![t.val / 16, t.val % 16, 0] :=
  (by decide +kernel : ∀ t : Fin grid0.N, _)

/-- Every element of the arrays the scores come from is a real number. -/
structure Finite (c : Dev nD) : Prop where
  a0 : ∀ j : S8x8192x1024.Idx, Real' (m ((c : Thread nD τ).loc main_arg0) j)
  a1 : ∀ j : S8x8192x512.Idx, Real' (m ((c : Thread nD τ).loc main_arg1) j)
  a2 : ∀ j : S8x8192x1024.Idx, Real' (m ((c : Thread nD τ).loc main_arg2) j)
  a3 : ∀ j : S8x8192x2048.Idx, Real' (m ((c : Thread nD τ).loc main_arg3) j)
  a4 : ∀ j : S8x256x1024.Idx, Real' (m ((c : Thread nD τ).loc main_arg4) j)
  a6 : ∀ j : S1024.Idx, Real' (m ((c : Thread nD τ).loc main_arg6) j)
  a7 : ∀ j : S1024.Idx, Real' (m ((c : Thread nD τ).loc main_arg7) j)
  a8 : ∀ j : S1x512x1024.Idx, Real' (m ((c : Thread nD τ).loc main_arg8) j)
  a9 : ∀ j : S1x1024x1024.Idx, Real' (m ((c : Thread nD τ).loc main_arg9) j)
  a10 : ∀ j : S1x1024.Idx, Real' (m ((c : Thread nD τ).loc main_arg10) j)
  a11 : ∀ j : S1x1024.Idx, Real' (m ((c : Thread nD τ).loc main_arg11) j)
  a12 : ∀ j : S1x1024x1024.Idx, Real' (m ((c : Thread nD τ).loc main_arg12) j)

/-- The precondition says so. -/
theorem finite_args [Cert.Pre_finite_mix.Facts] (h : Pre_MixIdeal_finite_mix m) (c : Dev nD) : Finite m c := by
  have h0 := congrFun (h c) ix0
  have : Subsingleton Cert.Pre_finite_mix.S_.Idx := ⟨fun a b => funext fun i => i.elim0⟩
  have inf : Ideal.ofBits .f32 0x7F800000#32 = ⊤ := by simp [Ideal.ofBits, Ideal.ieee]
  have h12 := IntOp.andi_eq_one.1 h0
  have h11 := IntOp.andi_eq_one.1 h12.1
  have h10 := IntOp.andi_eq_one.1 h11.1
  have h9 := IntOp.andi_eq_one.1 h10.1
  have h8 := IntOp.andi_eq_one.1 h9.1
  have h7 := IntOp.andi_eq_one.1 h8.1
  have h6 := IntOp.andi_eq_one.1 h7.1
  have h4 := IntOp.andi_eq_one.1 h6.1
  have h3 := IntOp.andi_eq_one.1 h4.1
  have h2 := IntOp.andi_eq_one.1 h3.1
  have h1 := IntOp.andi_eq_one.1 h2.1
  exact
    { a0 := fun j => Cert.AttnIdeal.RefValue.real_of_all _ _ _ _ _ (fun j => congrArg (Ideal.cmp .olt _) inf) _ h1.1 j
      a1 := fun j => Cert.AttnIdeal.RefValue.real_of_all _ _ _ _ _ (fun j => congrArg (Ideal.cmp .olt _) inf) _ h1.2 j
      a2 := fun j => Cert.AttnIdeal.RefValue.real_of_all _ _ _ _ _ (fun j => congrArg (Ideal.cmp .olt _) inf) _ h2.2 j
      a3 := fun j => Cert.AttnIdeal.RefValue.real_of_all _ _ _ _ _ (fun j => congrArg (Ideal.cmp .olt _) inf) _ h3.2 j
      a4 := fun j => Cert.AttnIdeal.RefValue.real_of_all _ _ _ _ _ (fun j => congrArg (Ideal.cmp .olt _) inf) _ h4.2 j
      a6 := fun j => Cert.AttnIdeal.RefValue.real_of_all _ _ _ _ _ (fun j => congrArg (Ideal.cmp .olt _) inf) _ h6.2 j
      a7 := fun j => Cert.AttnIdeal.RefValue.real_of_all _ _ _ _ _ (fun j => congrArg (Ideal.cmp .olt _) inf) _ h7.2 j
      a8 := fun j => Cert.AttnIdeal.RefValue.real_of_all _ _ _ _ _ (fun j => congrArg (Ideal.cmp .olt _) inf) _ h8.2 j
      a9 := fun j => Cert.AttnIdeal.RefValue.real_of_all _ _ _ _ _ (fun j => congrArg (Ideal.cmp .olt _) inf) _ h9.2 j
      a10 := fun j => Cert.AttnIdeal.RefValue.real_of_all _ _ _ _ _ (fun j => congrArg (Ideal.cmp .olt _) inf) _ h10.2 j
      a11 := fun j => Cert.AttnIdeal.RefValue.real_of_all _ _ _ _ _ (fun j => congrArg (Ideal.cmp .olt _) inf) _ h11.2 j
      a12 := fun j => Cert.AttnIdeal.RefValue.real_of_all _ _ _ _ _ (fun j => congrArg (Ideal.cmp .olt _) inf) _ h12.2 j }

section Point

variable (X : FVec Ideal Cert.MixRefIdeal.S8x8192x1024 .f32) (AO : FVec Ideal Cert.MixRefIdeal.S8x8192x512 .bf16) (SO : FVec Ideal Cert.MixRefIdeal.S8x8192x1024 .bf16) (G : FVec Ideal Cert.MixRefIdeal.S8x8192x2048 .bf16)
  (K V : FVec Ideal Cert.MixRefIdeal.S8x256x1024 .bf16) (gi bi : FVec Ideal Cert.MixRefIdeal.S1024 .f32) (woa : FVec Ideal Cert.MixRefIdeal.S1x512x1024 .f32) (wo : FVec Ideal Cert.MixRefIdeal.S1x1024x1024 .f32)
  (g1 b1 : FVec Ideal Cert.MixRefIdeal.S1x1024 .f32) (wq wxo : FVec Ideal Cert.MixRefIdeal.S1x1024x1024 .f32) (g2 b2 : FVec Ideal Cert.MixRefIdeal.S1x1024 .f32)
  (x0 : Vec Ideal S1x512x1024 .f32) (x1 : Vec Ideal S1x512x512 .bf16) (x2 : Vec Ideal S1x512x1024 .bf16) (x3 : Vec Ideal S1x512x2048 .bf16)
  (x4 x5 : Vec Ideal S1x256x1024 .bf16) (x6 x7 : Vec Ideal S1x1024 .f32) (x8 : Vec Ideal S512x1024 .bf16) (x9 : Vec Ideal S1024x1024 .bf16) (x10 x11 : Vec Ideal S1x1024 .f32)
  (x12 x13 : Vec Ideal S1024x1024 .bf16) (x14 x15 : Vec Ideal S1x1024 .f32)

/-- One point: what the body leaves at row `r` of its block is the reference's row `R` of batch `n`. -/
theorem point (n : Fin 8) (r : Fin 512) (R : Fin 8192) (l : Fin 1024)
    (h0 : ∀ k : Fin 1024, x0 (ix3 0 r k) = X (ix3 n R k)) (h1 : ∀ k : Fin 512, x1 (ix3 0 r k) = AO (ix3 n R k)) (h2 : ∀ k : Fin 1024, x2 (ix3 0 r k) = SO (ix3 n R k))
    (h3 : ∀ k : Fin 2048, x3 (ix3 0 r k) = G (ix3 n R k)) (h4 : ∀ (t : Fin 256) (k : Fin 1024), x4 (ix3 0 t k) = K (ix3 n t k)) (h5 : ∀ (t : Fin 256) (k : Fin 1024), x5 (ix3 0 t k) = V (ix3 n t k))
    (h6 : ∀ k : Fin 1024, x6 (ix2 0 k) = gi (ix1 k)) (h7 : ∀ k : Fin 1024, x7 (ix2 0 k) = bi (ix1 k)) (h8 : ∀ (i : Fin 512) (j : Fin 1024), x8 (ix2 i j) = woa (ix3 0 i j))
    (h9 : ∀ i j : Fin 1024, x9 (ix2 i j) = wo (ix3 0 i j)) (h10 : ∀ k : Fin 1024, x10 (ix2 0 k) = g1 (ix2 0 k)) (h11 : ∀ k : Fin 1024, x11 (ix2 0 k) = b1 (ix2 0 k))
    (h12 : ∀ i j : Fin 1024, x12 (ix2 i j) = wq (ix3 0 i j)) (h13 : ∀ i j : Fin 1024, x13 (ix2 i j) = wxo (ix3 0 i j)) (h14 : ∀ k : Fin 1024, x14 (ix2 0 k) = g2 (ix2 0 k)) (h15 : ∀ k : Fin 1024, x15 (ix2 0 k) = b2 (ix2 0 k))
    (f0 : ∀ j, Real' (X j)) (f1 : ∀ j, Real' (AO j)) (f2 : ∀ j, Real' (SO j)) (f3 : ∀ j, Real' (G j)) (f4 : ∀ j, Real' (K j)) (f6 : ∀ j, Real' (gi j)) (f7 : ∀ j, Real' (bi j))
    (f8 : ∀ j, Real' (woa j)) (f9 : ∀ j, Real' (wo j)) (f10 : ∀ j, Real' (g1 j)) (f11 : ∀ j, Real' (b1 j)) (f12 : ∀ j, Real' (wq j)) :
    out0_16 x0 x1 x2 x3 x4 x5 x6 x7 x8 x9 x10 x11 x12 x13 x14 x15 (ix3 0 r l) = Cert.MixRefIdeal.RefValue.REF X AO SO G K V gi bi woa wo g1 b1 wq wxo g2 b2 (ix3 n R l) := by
  have e : ∀ z : FVec Ideal S512x1024 .f32, shapeCast S1x512x1024 z shapeCasts_S512x1024_S1x512x1024 (ix3 0 r l) = z (ix2 r l) := fun z => by pointwise
  have hh : ∀ k : Fin 1024, khid x0 x1 x2 x3 x6 x7 x8 x9 x10 x11 (ix2 r k) = Cert.MixRefIdeal.RefValue.hidden X AO SO G gi bi woa wo g1 b1 (ix3 n R k) := fun k => by
    rw [khid_at, Cert.MixRefIdeal.RefValue.hidden_at]
    simp only [h0, h1, h2, h3, h6, h7, h8, h9, h10, h11]
  rw [out_eq, e, knorm_at, Cert.MixRefIdeal.RefValue.REF, Cert.MixRefIdeal.RefValue.attend_at, h14, h15]
  unfold norms
  refine congrArg (fun z => Cert.MlpIdeal.RefValue.norm z _ _ l) (funext fun k => ?_)
  rw [kpre2_at]
  · simp only [hh, h4, h5, h12, h13]
  · intro a t
    simp only [hh, h4, h12, Cert.MixRefIdeal.RefValue.hidden_at]
    exact score_real _ _ _ _ _ _ _ _ _ _ _ _ _ (fun _ => f0 _) (fun _ => f2 _) (fun _ => f3 _) (fun _ => f3 _) (fun _ => f1 _) (fun _ => f6 _) (fun _ => f7 _)
      (fun _ _ => f8 _) (fun _ _ => f9 _) (fun _ _ => f12 _) (fun _ => f10 _) (fun _ => f11 _) (fun _ _ => f4 _) a t

end Point

set_option maxHeartbeats 4000000 in
/-- The result array after the run is the reference's term of the arguments. -/
theorem final (c : Dev nD) (hf : Finite m c) : (dats m 0 c).arrAt 16 (cfgs 0).N
    = Cert.MixRefIdeal.RefValue.REF (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (m ((c : Thread nD τ).loc main_arg15)) := by
  refine (dats m 0 c).arrAt_eq_of_covers 16 _ (by decide +kernel) fun t _ y => ?_
  blk_simp
  rw [after0_16]
  have hN : t.val < 128 := t.isLt
  have hz : (y 0).val < 1 := (y 0).isLt
  have hr : (y 1).val < 512 := (y 1).isLt
  have hl : (y 2).val < 1024 := (y 2).isLt
  have hy : y = (ix3 0 ⟨(y 1).val, hr⟩ ⟨(y 2).val, hl⟩ : S1x512x1024.Idx) := by blk_ext []
  have hB : t.val / 16 < 8 := by omega
  have hR : 512 * (t.val % 16) + (y 1).val < 8192 := by omega
  have he : (win0_16.blk t).view.emb y = (ix3 ⟨t.val / 16, hB⟩ ⟨512 * (t.val % 16) + (y 1).val, hR⟩ ⟨(y 2).val, hl⟩ : S8x8192x1024.Idx) := by blk_ext [idx t]
  rw [he]
  refine (congrArg _ hy).trans ?_
  refine point _ _ _ _ _ _ _ _ _ _ _ _ _ _ _ _ _ _ _ _ _ _ _ _ _ _ _ _ _ _ _ _ _ _ _ _ (fun k => ?_) (fun k => ?_) (fun k => ?_) (fun k => ?_) (fun t' k => ?_) (fun t' k => ?_) (fun k => ?_) (fun k => ?_)
    (fun i j => ?_) (fun i j => ?_) (fun k => ?_) (fun k => ?_) (fun i j => ?_) (fun i j => ?_) (fun k => ?_) (fun k => ?_) hf.a0 hf.a1 hf.a2 hf.a3 hf.a4 hf.a6 hf.a7 hf.a8 hf.a9 hf.a10 hf.a11 hf.a12
  all_goals blk_simp [iblk, idx t]; entry_read; pointwise; blk_ext [idx t]

end Cert.MixIdeal.RefValue
end
-- ==== Proof.MixClaim.lean ====
module

public import proofs.«01_k».proof.Defs
public import proofs.«01_k».proof.Proof.MixValue
public import proofs.«01_k».proof.Proof.Gen.Pre_finite_mix
public import proofs.«01_k».proof.Proof.Gen.MixIdeal
public import proofs.«01_k».proof.Proof.Gen.MixRefIdeal
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

set_option maxHeartbeats 4000000 in
/-- Of finite arguments the kernel's result is the reference's, over the extended reals. -/
theorem algebraic_mix : Cert.algebraic_MixIdeal_MixRefIdeal_pre_finite_mix := by
  pair_intro
  · run_from Cert.MixIdeal.Gen.run_main m g
    exact hc.1 16
  · run_from Cert.MixRefIdeal.Value.run m' g'
    rw [Cert.MixIdeal.RefValue.final m c (Cert.MixIdeal.RefValue.finite_args m hpre c)]
    obtain ⟨h0, h1, h2, h3, h4, h5, h6, h7, h8, h9, h10, h11, h12, h13, h14, h15⟩ := hagree c
    simp only [← h0, ← h1, ← h2, ← h3, ← h4, ← h5, ← h6, ← h7, ← h8, ← h9, ← h10, ← h11, ← h12, ← h13, ← h14, ← h15]
    rfl

end Cert.Proof

end
-- ==== Proof.InpRef.lean ====
module

public import proofs.«01_k».proof.Proof.Gen.InpRefIdeal.Run
public import proofs.«01_k».proof.Proof.MixRef
public import Idealize.ShloMosaic.Lib.Pointwise

@[expose] public section

set_option maxRecDepth 16384

noncomputable section

open Idealize.ShloMosaic Idealize.ShloMosaic.TcCoe Idealize.SL.Sem
open Cert.Row

namespace Cert.Row

/-- A row's RMS norm over 256 lanes. -/
def rms (z g : Fin 256 → EReal) (l : Fin 256) : EReal :=
  z l * Ideal.rsqrt (Ideal.div (∑ k, z k * z k) (Ideal.ofBits .f32 0x43800000#32) + Ideal.ofBits .f32 0x358637BD#32) * g l

/-- A row's product with a matrix of 256 rows. -/
def prod256 {n : ℕ} (z : Fin 256 → EReal) (w : Fin 256 → Fin n → EReal) (j : Fin n) : EReal := ∑ i, z i * w i j

/-- One head's queries, 128 lanes: 64 as they are, 32 rotated by the position's angles, all scaled, and 32 zeros. -/
def rotq (t : Fin 96 → EReal) (co si : Fin 16 → EReal) (d : Fin 128) : EReal :=
  if h : d.val < 64 then t ⟨d.val, by omega⟩ * Ideal.ofBits .f32 0x3DD105EC#32
  else if h : d.val < 80 then (t ⟨d.val, by omega⟩ * co ⟨d.val - 64, by omega⟩ - t ⟨d.val + 16, by omega⟩ * si ⟨d.val - 64, by omega⟩) * Ideal.ofBits .f32 0x3DD105EC#32
  else if h : d.val < 96 then (t ⟨d.val - 16, by omega⟩ * si ⟨d.val - 80, by omega⟩ + t ⟨d.val, by omega⟩ * co ⟨d.val - 80, by omega⟩) * Ideal.ofBits .f32 0x3DD105EC#32
  else Ideal.ofBits .f32 0x00000000#32

/-- One head's keys, 128 lanes: 64 of the head's own, 32 rotated that all heads share, and 32 zeros. -/
def rotk (t : Fin 64 → EReal) (s : Fin 32 → EReal) (co si : Fin 16 → EReal) (d : Fin 128) : EReal :=
  if h : d.val < 64 then t ⟨d.val, by omega⟩
  else if h : d.val < 80 then s ⟨d.val - 64, by omega⟩ * co ⟨d.val - 64, by omega⟩ - s ⟨d.val - 48, by omega⟩ * si ⟨d.val - 64, by omega⟩
  else if h : d.val < 96 then s ⟨d.val - 80, by omega⟩ * si ⟨d.val - 80, by omega⟩ + s ⟨d.val - 64, by omega⟩ * co ⟨d.val - 80, by omega⟩
  else Ideal.ofBits .f32 0x00000000#32

end Cert.Row

namespace Cert.InpRefIdeal.RefValue

open Cert.InpRefIdeal Cert.InpRefIdeal.Gen
open Cert.MixRefIdeal.RefValue (lnorm lnorm_at)

/-- The combined projection of the normed input. -/
def zed (x : FVec Ideal S8x8192x1024 .f32) (gi bi : FVec Ideal S1024 .f32) (win : FVec Ideal S1x1024x2848 .f32) : FVec Ideal S8x8192x2848 .f32 :=
  Host.dotGeneral dot_S8x8192x1024_S1024x2848_S8x8192x2848_2_0_01_1_n_n none (lnorm x gi bi) (shapeCast _ win shapeCasts_S1x1024x2848_S1024x2848)

/-- The reference's RMS norm over the last axis. -/
def rnorm (z : FVec Ideal S8x8192x256 .f32) (g : FVec Ideal S1x256 .f32) : FVec Ideal S8x8192x256 .f32 :=
  mulf (mulf z (broadcastInDim S8x8192x256 ![0, 1, 2] bcast_S8x8192x1_S8x8192x256_0_1_2 (Host.rsqrt (addf (Host.divf (broadcastInDim S8x8192x1 ![0, 1] bcast_S8x8192_S8x8192x1_0_1 (Host.reduceAdd (mulf z z) (constant S_ .f32 0x00000000#32) reducesTo_S8x8192x256_S8x8192_d2 h_S_)) (broadcastInDim S8x8192x1 ![] bcast_S_S8x8192x1 (constant S_ .f32 0x43800000#32))) (broadcastInDim S8x8192x1 ![] bcast_S_S8x8192x1 (constant S_ .f32 0x358637BD#32))))))
    (broadcastInDim S8x8192x256 ![0, 1, 2] bcast_S1x1x256_S8x8192x256_0_1_2 (broadcastInDim S1x1x256 ![2] bcast_S256_S1x1x256_2 (shapeCast _ g shapeCasts_S1x256_S256)))

/-- The queries' heads before the rotation. -/
def heads (Z : FVec Ideal S8x8192x2848 .f32) (g : FVec Ideal S1x256 .f32) (w : FVec Ideal S1x256x768 .f32) : FVec Ideal S8x8192x8x96 .f32 :=
  shapeCast _ (Host.dotGeneral dot_S8x8192x256_S256x768_S8x8192x768_2_0_01_1_n_n none (rnorm (extractStridedSlice S8x8192x256 ![0, 0, 256] Z slices_S8x8192x2848_S8x8192x256_0_0_256) g) (shapeCast _ w shapeCasts_S1x256x768_S256x768) : FVec Ideal S8x8192x768 .f32) shapeCasts_S8x8192x768_S8x8192x8x96

/-- The keys' and values' heads before the rotation. -/
def kvheads (Z : FVec Ideal S8x8192x2848 .f32) (g : FVec Ideal S1x256 .f32) (w : FVec Ideal S1x256x1024 .f32) : FVec Ideal S8x8192x8x128 .f32 :=
  shapeCast _ (Host.dotGeneral dot_S8x8192x256_S256x1024_S8x8192x1024_2_0_01_1_n_n none (rnorm (extractStridedSlice S8x8192x256 ![0, 0, 512] Z slices_S8x8192x2848_S8x8192x256_0_0_512) g) (shapeCast _ w shapeCasts_S1x256x1024_S256x1024) : FVec Ideal S8x8192x1024 .f32) shapeCasts_S8x8192x1024_S8x8192x8x128

/-- The five results, of the combined projection and what else each reads. -/
def RU (Z : FVec Ideal S8x8192x2848 .f32) : FVec Ideal S65536x256 .f32 :=
  shapeCast _ (extractStridedSlice S8x8192x256 ![0, 0, 0] Z slices_S8x8192x2848_S8x8192x256_0_0_0) shapeCasts_S8x8192x256_S65536x256

/-- The gates. -/
def RG (Z : FVec Ideal S8x8192x2848 .f32) : FVec Ideal S65536x2048 .bf16 :=
  truncf .bf16 (shapeCast _ (Host.divf (broadcastInDim S8x8192x2048 ![] bcast_S_S8x8192x2048 (constant S_ .f32 0x3F800000#32)) (addf (broadcastInDim S8x8192x2048 ![] bcast_S_S8x8192x2048 (constant S_ .f32 0x3F800000#32)) (Host.exp (Host.negf (extractStridedSlice S8x8192x2048 ![0, 0, 800] Z slices_S8x8192x2848_S8x8192x2048_0_0_800))))) shapeCasts_S8x8192x2048_S65536x2048) bitsLt_bf16_f32

/-- The values. -/
def RV (Y : FVec Ideal S8x8192x8x128 .f32) : FVec Ideal S65536x512 .bf16 :=
  truncf .bf16 (shapeCast _ (extractStridedSlice S8x8192x8x64 ![0, 0, 0, 64] Y slices_S8x8192x8x128_S8x8192x8x64_0_0_0_64) shapeCasts_S8x8192x8x64_S65536x512) bitsLt_bf16_f32

/-- Every head's queries, rotated, scaled and padded. -/
def rotQ (T : FVec Ideal S8x8192x8x96 .f32) (co si : FVec Ideal S8x8192x16 .f32) : FVec Ideal S8x8192x8x128 .f32 :=
  have t : FVec Ideal S8x8192x8x32 .f32 := extractStridedSlice S8x8192x8x32 ![0, 0, 0, 64] T slices_S8x8192x8x96_S8x8192x8x32_0_0_0_64
  have x1 : FVec Ideal S8x8192x8x16 .f32 := extractStridedSlice S8x8192x8x16 ![0, 0, 0, 0] t slices_S8x8192x8x32_S8x8192x8x16_0_0_0_0
  have x2 : FVec Ideal S8x8192x8x16 .f32 := extractStridedSlice S8x8192x8x16 ![0, 0, 0, 16] t slices_S8x8192x8x32_S8x8192x8x16_0_0_0_16
  have c : FVec Ideal S8x8192x8x16 .f32 := broadcastInDim S8x8192x8x16 ![0, 1, 2, 3] bcast_S8x8192x1x16_S8x8192x8x16_0_1_2_3 (broadcastInDim S8x8192x1x16 ![0, 1, 3] bcast_S8x8192x16_S8x8192x1x16_0_1_3 co)
  have s : FVec Ideal S8x8192x8x16 .f32 := broadcastInDim S8x8192x8x16 ![0, 1, 2, 3] bcast_S8x8192x1x16_S8x8192x8x16_0_1_2_3 (broadcastInDim S8x8192x1x16 ![0, 1, 3] bcast_S8x8192x16_S8x8192x1x16_0_1_3 si)
  concatenate S8x8192x8x128 3 [⟨S8x8192x8x96, mulf (concatenate S8x8192x8x96 3 [⟨S8x8192x8x64, extractStridedSlice S8x8192x8x64 ![0, 0, 0, 0] T slices_S8x8192x8x96_S8x8192x8x64_0_0_0_0⟩,
      ⟨S8x8192x8x32, concatenate S8x8192x8x32 3 [⟨S8x8192x8x16, subf (mulf x1 c) (mulf x2 s)⟩, ⟨S8x8192x8x16, addf (mulf x1 s) (mulf x2 c)⟩] concatenates_S8x8192x8x16_S8x8192x8x16_S8x8192x8x32_d3⟩] concatenates_S8x8192x8x64_S8x8192x8x32_S8x8192x8x96_d3)
        (broadcastInDim S8x8192x8x96 ![] bcast_S_S8x8192x8x96 (constant S_ .f32 0x3DD105EC#32))⟩,
    ⟨S8x8192x8x32, broadcastInDim S8x8192x8x32 ![] bcast_S_S8x8192x8x32 (constant S_ .f32 0x00000000#32)⟩] concatenates_S8x8192x8x96_S8x8192x8x32_S8x8192x8x128_d3

/-- Every head's keys, padded, with the rotated lanes all heads share. -/
def rotK (Y : FVec Ideal S8x8192x8x128 .f32) (R : FVec Ideal S8x8192x32 .f32) (co si : FVec Ideal S8x8192x16 .f32) : FVec Ideal S8x8192x8x128 .f32 :=
  have t : FVec Ideal S8x8192x1x32 .f32 := broadcastInDim S8x8192x1x32 ![0, 1, 3] bcast_S8x8192x32_S8x8192x1x32_0_1_3 R
  have x1 : FVec Ideal S8x8192x1x16 .f32 := extractStridedSlice S8x8192x1x16 ![0, 0, 0, 0] t slices_S8x8192x1x32_S8x8192x1x16_0_0_0_0
  have x2 : FVec Ideal S8x8192x1x16 .f32 := extractStridedSlice S8x8192x1x16 ![0, 0, 0, 16] t slices_S8x8192x1x32_S8x8192x1x16_0_0_0_16
  have c : FVec Ideal S8x8192x1x16 .f32 := broadcastInDim S8x8192x1x16 ![0, 1, 3] bcast_S8x8192x16_S8x8192x1x16_0_1_3 co
  have s : FVec Ideal S8x8192x1x16 .f32 := broadcastInDim S8x8192x1x16 ![0, 1, 3] bcast_S8x8192x16_S8x8192x1x16_0_1_3 si
  concatenate S8x8192x8x128 3 [⟨S8x8192x8x64, extractStridedSlice S8x8192x8x64 ![0, 0, 0, 0] Y slices_S8x8192x8x128_S8x8192x8x64_0_0_0_0⟩,
    ⟨S8x8192x8x32, broadcastInDim S8x8192x8x32 ![0, 1, 2, 3] bcast_S8x8192x1x32_S8x8192x8x32_0_1_2_3 (concatenate S8x8192x1x32 3 [⟨S8x8192x1x16, subf (mulf x1 c) (mulf x2 s)⟩, ⟨S8x8192x1x16, addf (mulf x1 s) (mulf x2 c)⟩] concatenates_S8x8192x1x16_S8x8192x1x16_S8x8192x1x32_d3)⟩,
    ⟨S8x8192x8x32, broadcastInDim S8x8192x8x32 ![] bcast_S_S8x8192x8x32 (constant S_ .f32 0x00000000#32)⟩] concatenates_S8x8192x8x64_S8x8192x8x32_S8x8192x8x32_S8x8192x8x128_d3

/-- The queries. -/
def RQ (T : FVec Ideal S8x8192x8x96 .f32) (co si : FVec Ideal S8x8192x16 .f32) : FVec Ideal S65536x1024 .bf16 :=
  truncf .bf16 (shapeCast _ (rotQ T co si) shapeCasts_S8x8192x8x128_S65536x1024) bitsLt_bf16_f32

/-- The shared lanes, before their rotation. -/
def RR (Z : FVec Ideal S8x8192x2848 .f32) : FVec Ideal S8x8192x32 .f32 := extractStridedSlice S8x8192x32 ![0, 0, 768] Z slices_S8x8192x2848_S8x8192x32_0_0_768

/-- The keys. -/
def RK (Z : FVec Ideal S8x8192x2848 .f32) (Y : FVec Ideal S8x8192x8x128 .f32) (co si : FVec Ideal S8x8192x16 .f32) : FVec Ideal S65536x1024 .bf16 :=
  truncf .bf16 (shapeCast _ (rotK Y (RR Z) co si) shapeCasts_S8x8192x8x128_S65536x1024) bitsLt_bf16_f32

theorem zed_at (x : FVec Ideal S8x8192x1024 .f32) (gi bi : FVec Ideal S1024 .f32) (win : FVec Ideal S1x1024x2848 .f32) (n : Fin 8) (r : Fin 8192) (j : Fin 2848) :
    zed x gi bi win (ix3 n r j) = ∑ k, norms (fun k => x (ix3 n r k)) (fun k => gi (ix1 k)) (fun k => bi (ix1 k)) k * win (ix3 0 k j) := by
  simp only [← lnorm_at]
  unfold zed
  generalize lnorm x gi bi = y
  pointwise

theorem rnorm_at (z : FVec Ideal S8x8192x256 .f32) (g : FVec Ideal S1x256 .f32) (n : Fin 8) (r : Fin 8192) (l : Fin 256) :
    rnorm z g (ix3 n r l) = rms (fun k => z (ix3 n r k)) (fun k => g (ix2 0 k)) l := by
  pointwise [rnorm, rms]

theorem heads_at (Z : FVec Ideal S8x8192x2848 .f32) (g : FVec Ideal S1x256 .f32) (w : FVec Ideal S1x256x768 .f32) (n : Fin 8) (r : Fin 8192) (a : Fin 8) (d : Fin 96) :
    heads Z g w (ix4 n r a d) = prod256 (rms (fun k => Z (ix3 n r ⟨256 + k.val, by omega⟩)) (fun k => g (ix2 0 k))) (fun i j => w (ix3 0 i j)) ⟨a.val * 96 + d.val, by omega⟩ := by
  have e : ∀ l, rnorm (extractStridedSlice S8x8192x256 ![0, 0, 256] Z slices_S8x8192x2848_S8x8192x256_0_0_256) g (ix3 n r l)
      = rms (fun k => Z (ix3 n r ⟨256 + k.val, by omega⟩)) (fun k => g (ix2 0 k)) l := fun l => by
    rw [rnorm_at]; refine congrArg (fun z => rms z _ l) (funext fun k => ?_); pointwise
  unfold prod256
  simp only [← e]
  unfold heads
  generalize rnorm _ g = y
  pointwise

theorem kvheads_at (Z : FVec Ideal S8x8192x2848 .f32) (g : FVec Ideal S1x256 .f32) (w : FVec Ideal S1x256x1024 .f32) (n : Fin 8) (r : Fin 8192) (a : Fin 8) (d : Fin 128) :
    kvheads Z g w (ix4 n r a d) = prod256 (rms (fun k => Z (ix3 n r ⟨512 + k.val, by omega⟩)) (fun k => g (ix2 0 k))) (fun i j => w (ix3 0 i j)) ⟨a.val * 128 + d.val, by omega⟩ := by
  have e : ∀ l, rnorm (extractStridedSlice S8x8192x256 ![0, 0, 512] Z slices_S8x8192x2848_S8x8192x256_0_0_512) g (ix3 n r l)
      = rms (fun k => Z (ix3 n r ⟨512 + k.val, by omega⟩)) (fun k => g (ix2 0 k)) l := fun l => by
    rw [rnorm_at]; refine congrArg (fun z => rms z _ l) (funext fun k => ?_); pointwise
  unfold prod256
  simp only [← e]
  unfold kvheads
  generalize rnorm _ g = y
  pointwise

theorem RU_at (Z : FVec Ideal S8x8192x2848 .f32) (R : Fin 65536) (l : Fin 256) : RU Z (ix2 R l) = Z (ix3 ⟨R.val / 8192, by omega⟩ ⟨R.val % 8192, by omega⟩ ⟨l.val, by omega⟩) := by
  pointwise [RU]

theorem RG_at (Z : FVec Ideal S8x8192x2848 .f32) (R : Fin 65536) (l : Fin 2048) :
    RG Z (ix2 R l) = Ideal.logistic (Z (ix3 ⟨R.val / 8192, by omega⟩ ⟨R.val % 8192, by omega⟩ ⟨800 + l.val, by omega⟩)) := by
  pointwise [RG]
  rfl

theorem RV_at (Y : FVec Ideal S8x8192x8x128 .f32) (R : Fin 65536) (l : Fin 512) :
    RV Y (ix2 R l) = Y (ix4 ⟨R.val / 8192, by omega⟩ ⟨R.val % 8192, by omega⟩ ⟨l.val / 64, by omega⟩ ⟨64 + l.val % 64, by omega⟩) := by
  pointwise [RV]

theorem rotQ_at (T : FVec Ideal S8x8192x8x96 .f32) (co si : FVec Ideal S8x8192x16 .f32) (n : Fin 8) (r : Fin 8192) (a : Fin 8) (d : Fin 128) :
    rotQ T co si (ix4 n r a d) = rotq (fun j => T (ix4 n r a j)) (fun j => co (ix3 n r j)) (fun j => si (ix3 n r j)) d := by
  pointwise [rotQ, rotq]
  by_cases h1 : d.val < 64
  · simp only [h1, show d.val < 96 by omega, dite_true]
  by_cases h2 : d.val < 80
  · simp only [h1, h2, show d.val < 96 by omega, show d.val - 64 < 16 by omega, dite_true, dite_false, show 64 + (d.val - 64) = d.val by omega, show 64 + (16 + (d.val - 64)) = d.val + 16 by omega]
  by_cases h3 : d.val < 96
  · simp only [h1, h2, h3, show ¬ d.val - 64 < 16 by omega, dite_true, dite_false, show d.val - 64 - 16 = d.val - 80 by omega, show 64 + (d.val - 80) = d.val - 16 by omega, show 64 + (16 + (d.val - 80)) = d.val by omega]
  · simp only [h1, h2, h3, dite_false]

theorem rotK_at (Y : FVec Ideal S8x8192x8x128 .f32) (R : FVec Ideal S8x8192x32 .f32) (co si : FVec Ideal S8x8192x16 .f32) (n : Fin 8) (r : Fin 8192) (a : Fin 8) (d : Fin 128) :
    rotK Y R co si (ix4 n r a d) = rotk (fun j => Y (ix4 n r a ⟨j.val, by omega⟩)) (fun j => R (ix3 n r j)) (fun j => co (ix3 n r j)) (fun j => si (ix3 n r j)) d := by
  pointwise [rotK, rotk]
  by_cases h1 : d.val < 64
  · simp only [h1, dite_true]
  by_cases h2 : d.val < 80
  · simp only [h1, h2, show d.val - 64 < 32 by omega, show d.val - 64 < 16 by omega, dite_true, dite_false, show 16 + (d.val - 64) = d.val - 48 by omega]
  by_cases h3 : d.val < 96
  · simp only [h1, h2, h3, show d.val - 64 < 32 by omega, show ¬ d.val - 64 < 16 by omega, dite_true, dite_false, show d.val - 64 - 16 = d.val - 80 by omega, show 16 + (d.val - 80) = d.val - 64 by omega]
  · simp only [h1, h2, h3, show ¬ d.val - 64 < 32 by omega, dite_false]

theorem RQ_at (T : FVec Ideal S8x8192x8x96 .f32) (co si : FVec Ideal S8x8192x16 .f32) (R : Fin 65536) (l : Fin 1024) :
    RQ T co si (ix2 R l) = rotQ T co si (ix4 ⟨R.val / 8192, by omega⟩ ⟨R.val % 8192, by omega⟩ ⟨l.val / 128, by omega⟩ ⟨l.val % 128, by omega⟩) := by
  unfold RQ
  generalize rotQ T co si = y
  pointwise

theorem RR_at (Z : FVec Ideal S8x8192x2848 .f32) (n : Fin 8) (r : Fin 8192) (j : Fin 32) : RR Z (ix3 n r j) = Z (ix3 n r ⟨768 + j.val, by omega⟩) := by
  pointwise [RR]

theorem RK_at (Z : FVec Ideal S8x8192x2848 .f32) (Y : FVec Ideal S8x8192x8x128 .f32) (co si : FVec Ideal S8x8192x16 .f32) (R : Fin 65536) (l : Fin 1024) :
    RK Z Y co si (ix2 R l) = rotK Y (RR Z) co si (ix4 ⟨R.val / 8192, by omega⟩ ⟨R.val % 8192, by omega⟩ ⟨l.val / 128, by omega⟩ ⟨l.val % 128, by omega⟩) := by
  unfold RK
  generalize rotK _ _ co si = y
  pointwise

end Cert.InpRefIdeal.RefValue
end
-- ==== Proof.InpRow.lean ====
module

public import proofs.«01_k».proof.Proof.InpRef

@[expose] public section

noncomputable section

open Idealize.ShloMosaic

namespace Cert.Row

/-- A row of the cosines' table, 128 lanes: 64 ones, the position's cosines twice, and 32 zeros. -/
def cosl (co : Fin 16 → EReal) (d : Fin 128) : EReal :=
  if h : d.val < 64 then 1 else if h : d.val < 80 then co ⟨d.val - 64, by omega⟩ else if h : d.val < 96 then co ⟨d.val - 80, by omega⟩ else 0

/-- A row of the sines' table, 128 lanes: 64 zeros, the position's sines twice, and 32 zeros. -/
def sinl (si : Fin 16 → EReal) (d : Fin 128) : EReal :=
  if h : d.val < 64 then 0 else if h : d.val < 80 then si ⟨d.val - 64, by omega⟩ else if h : d.val < 96 then si ⟨d.val - 80, by omega⟩ else 0

/-- A head's columns of a weight row, padded by zeros. -/
def padq (w : Fin 96 → EReal) (d : Fin 128) : EReal := if h : d.val < 96 then w ⟨d.val, h⟩ else 0

/-- The rotated lanes' columns of a weight row, half of them negated, the two halves swapped. -/
def rotw (w : Fin 96 → EReal) (d : Fin 128) : EReal :=
  if h : d.val < 64 then 0 else if h : d.val < 80 then -w ⟨d.val + 16, by omega⟩ else if h : d.val < 96 then w ⟨d.val - 16, by omega⟩ else 0

/-- A head's own columns of a key weight row, padded by zeros. -/
def padk (w : Fin 64 → EReal) (d : Fin 128) : EReal := if h : d.val < 64 then w ⟨d.val, h⟩ else 0

/-- The shared rotated lanes' columns of a weight row, between zeros. -/
def padr (w : Fin 32 → EReal) (d : Fin 128) : EReal :=
  if h : d.val < 64 then 0 else if h : d.val < 96 then w ⟨d.val - 64, by omega⟩ else 0

/-- The shared rotated lanes' columns of a weight row, half of them negated, the two halves swapped, between zeros. -/
def rotr (w : Fin 32 → EReal) (d : Fin 128) : EReal :=
  if h : d.val < 64 then 0 else if h : d.val < 80 then -w ⟨d.val - 48, by omega⟩ else if h : d.val < 96 then w ⟨d.val - 80, by omega⟩ else 0

theorem bitsZero : Ideal.ofBits .f32 0x00000000#32 = 0 := by simp [Ideal.ofBits, Ideal.ieee]

/-- A sign moves out of a sum of products of real numbers. -/
theorem sum_mul_neg {n : ℕ} {f g : Fin n → EReal} (hf : ∀ k, Real' (f k)) (hg : ∀ k, Real' (g k)) : ∑ k, f k * -g k = -∑ k, f k * g k := by
  choose a ha using hf
  choose b hb using hg
  simp only [ha, hb, ← EReal.coe_neg, ← EReal.coe_mul, Cert.Flash.coe_sum, mul_neg, Finset.sum_neg_distrib]

theorem sum_zero {n : ℕ} (f : Fin n → EReal) : ∑ k, f k * 0 = 0 := by simp

/-- Rotating the weights' columns, as the kernel does, and rotating the queries, as the reference does, give the same. -/
theorem rotq_eq (z : Fin 256 → EReal) (w : Fin 256 → Fin 96 → EReal) (co si : Fin 16 → EReal) (hz : ∀ i, Real' (z i)) (hw : ∀ i j, Real' (w i j)) (d : Fin 128) :
    ((∑ i, z i * padq (w i) d) * cosl co d + (∑ i, z i * rotw (w i) d) * sinl si d) * Ideal.ofBits .f32 0x3DD105EC#32
      = rotq (fun j => ∑ i, z i * w i j) co si d := by
  unfold padq cosl rotw sinl rotq
  by_cases h1 : d.val < 64
  · simp only [h1, show d.val < 96 by omega, dite_true, mul_one, mul_zero, add_zero]
  by_cases h2 : d.val < 80
  · simp only [h1, h2, show d.val < 96 by omega, dite_true, dite_false]
    rw [sum_mul_neg hz (fun i => hw i _), EReal.neg_mul, ← sub_eq_add_neg]
  by_cases h3 : d.val < 96
  · simp only [h1, h2, h3, dite_true, dite_false]
    rw [add_comm]
  · simp only [h1, h2, h3, dite_false, sum_zero, Finset.sum_const_zero, mul_zero, add_zero, zero_mul, bitsZero]

/-- The same of the keys: a head's own lanes are its own, the rotated lanes are the shared ones. -/
theorem rotk_eq (z : Fin 256 → EReal) (w : Fin 256 → Fin 64 → EReal) (h : Fin 1024 → EReal) (v : Fin 1024 → Fin 32 → EReal) (co si : Fin 16 → EReal)
    (hh : ∀ k, Real' (h k)) (hv : ∀ k j, Real' (v k j)) (d : Fin 128) :
    (∑ i, z i * padk (w i) d) + ((∑ k, h k * padr (v k) d) * cosl co d + (∑ k, h k * rotr (v k) d) * sinl si d)
      = rotk (fun j => ∑ i, z i * w i j) (fun j => ∑ k, h k * v k j) co si d := by
  unfold padk cosl padr rotr sinl rotk
  by_cases h1 : d.val < 64
  · simp only [h1, dite_true, sum_zero, Finset.sum_const_zero, mul_one, mul_zero, add_zero]
  by_cases h2 : d.val < 80
  · simp only [h1, h2, show d.val < 96 by omega, dite_true, dite_false, sum_zero, Finset.sum_const_zero, zero_add]
    rw [sum_mul_neg hh (fun k => hv k _), EReal.neg_mul, ← sub_eq_add_neg]
  by_cases h3 : d.val < 96
  · simp only [h1, h2, h3, dite_true, dite_false, sum_zero, Finset.sum_const_zero, zero_add]
    rw [add_comm]
  · simp only [h1, h2, h3, dite_false, sum_zero, Finset.sum_const_zero, mul_zero, add_zero, zero_mul, bitsZero]

/-- The RMS norm of a row of real numbers is real. -/
theorem rms_real {z g : Fin 256 → EReal} (hz : ∀ k, Real' (z k)) (hg : ∀ k, Real' (g k)) (l : Fin 256) : Real' (rms z g l) := by
  have b : Ideal.ofBits .f32 0x43800000#32 = ((256 : ℝ) : EReal) := by
    simp [Ideal.ofBits, Ideal.ieee, ← EReal.coe_mul]; norm_num
  have e : ∃ e : ℝ, 0 < e ∧ Ideal.ofBits .f32 0x358637BD#32 = (e : EReal) := by
    refine ⟨8796093 * 2 ^ (-43 : ℤ), by positivity, ?_⟩
    simp [Ideal.ofBits, Ideal.ieee]
  obtain ⟨e, he, he'⟩ := e
  choose f hf using hz
  unfold rms
  simp only [hf, he']
  refine ((Real'.coe _).mul ?_).mul (hg l)
  rw [b]
  exact rsqrt_mean f (by norm_num) he

end Cert.Row
end
-- ==== Proof.InpBlock.lean ====
module

public import proofs.«01_k».proof.Proof.Gen.InpIdeal.Value
public import proofs.«01_k».proof.Proof.InpRow
public import Idealize.ShloMosaic.Lib.Pipeline.ValueKit

@[expose] public section

set_option maxRecDepth 16384

noncomputable section

open Idealize.ShloMosaic Idealize.ShloMosaic.TcCoe Idealize.SL.Sem
open Cert.Row
open Cert.MlpIdeal.RefValue (knorm knorm_at)

namespace Cert.InpIdeal.RefValue

open Cert.InpIdeal Cert.InpIdeal.Gen

theorem pay3_at (v0 : Vec Ideal S512x1024 .f32) (v2 v4 : Vec Ideal S1x1024 .f32) (r : Fin 512) (l : Fin 1024) :
    k0_pay3 v0 v2 v4 (ix2 r l) = norms (fun k => v0 (ix2 r k)) (fun k => v2 (ix2 0 k)) (fun k => v4 (ix2 0 k)) l := by
  pointwise [k0_pay3, norms, Cert.MlpIdeal.RefValue.norm]

theorem pay9_at (h : FVec Ideal S512x1024 .bf16) (w : Vec Ideal S1024x256 .bf16) (g : Vec Ideal S1x256 .f32) (r : Fin 512) (l : Fin 256) :
    k0_pay9 h w g (ix2 r l) = rms (fun j => ∑ k : Fin 1024, h (ix2 r k) * w (ix2 k j)) (fun k => g (ix2 0 k)) l := by
  pointwise [k0_pay9, rms]

theorem pay12_at (h : FVec Ideal S512x1024 .bf16) (w : Vec Ideal S1024x256 .bf16) (g : Vec Ideal S1x256 .f32) (r : Fin 512) (l : Fin 256) :
    k0_pay12 h w g (ix2 r l) = rms (fun j => ∑ k : Fin 1024, h (ix2 r k) * w (ix2 k j)) (fun k => g (ix2 0 k)) l := by
  pointwise [k0_pay12, rms]

theorem pay10_at (h : FVec Ideal S512x1024 .bf16) (w : Vec Ideal S1024x256 .bf16) (g : Vec Ideal S1x256 .f32) (v : Vec Ideal S256x1024 .bf16) (r : Fin 512) (l : Fin 1024) :
    k0_pay10 h w g v (ix2 r l) = prod256 (rms (fun j => ∑ k : Fin 1024, h (ix2 r k) * w (ix2 k j)) (fun k => g (ix2 0 k))) (fun i j => v (ix2 i j)) l := by
  unfold prod256
  simp only [← pay9_at]
  unfold k0_pay10
  generalize k0_pay9 h w g = y
  pointwise

theorem pay11_at (h : FVec Ideal S512x1024 .bf16) (w : Vec Ideal S1024x256 .bf16) (g : Vec Ideal S1x256 .f32) (v : Vec Ideal S256x1024 .bf16) (r : Fin 512) (l : Fin 1024) :
    k0_pay11 h w g v (ix2 r l) = prod256 (rms (fun j => ∑ k : Fin 1024, h (ix2 r k) * w (ix2 k j)) (fun k => g (ix2 0 k))) (fun i j => v (ix2 i j)) l := by
  unfold prod256
  simp only [← pay9_at]
  unfold k0_pay11
  generalize k0_pay9 h w g = y
  pointwise

theorem pay13_at (h : FVec Ideal S512x1024 .bf16) (w : Vec Ideal S1024x256 .bf16) (g : Vec Ideal S1x256 .f32) (v : Vec Ideal S256x1024 .bf16) (r : Fin 512) (l : Fin 1024) :
    k0_pay13 h w g v (ix2 r l) = prod256 (rms (fun j => ∑ k : Fin 1024, h (ix2 r k) * w (ix2 k j)) (fun k => g (ix2 0 k))) (fun i j => v (ix2 i j)) l := by
  unfold prod256
  simp only [← pay12_at]
  unfold k0_pay13
  generalize k0_pay12 h w g = y
  pointwise

theorem pay14_at (h : FVec Ideal S512x1024 .bf16) (w : Vec Ideal S1024x256 .bf16) (g : Vec Ideal S1x256 .f32) (v : Vec Ideal S256x512 .bf16) (r : Fin 512) (l : Fin 512) :
    k0_pay14 h w g v (ix2 r l) = prod256 (rms (fun j => ∑ k : Fin 1024, h (ix2 r k) * w (ix2 k j)) (fun k => g (ix2 0 k))) (fun i j => v (ix2 i j)) l := by
  unfold prod256
  simp only [← pay12_at]
  unfold k0_pay14
  generalize k0_pay12 h w g = y
  pointwise

theorem pay7_at (h : FVec Ideal S512x1024 .bf16) (w : Vec Ideal S1024x2048 .bf16) (r : Fin 512) (l : Fin 2048) :
    k0_pay7 h w (ix2 r l) = Ideal.logistic (∑ k : Fin 1024, h (ix2 r k) * w (ix2 k l)) := by
  pointwise [k0_pay7]

theorem pay6_at (v0 : Vec Ideal S512x1024 .f32) (v2 v4 : Vec Ideal S1x1024 .f32) (w : Vec Ideal S1024x256 .bf16) (r : Fin 512) (l : Fin 256) :
    k0_pay6 v0 v2 v4 w (ix2 r l) = ∑ k : Fin 1024, norms (fun k => v0 (ix2 r k)) (fun k => v2 (ix2 0 k)) (fun k => v4 (ix2 0 k)) k * w (ix2 k l) := by
  simp only [← pay3_at]
  unfold k0_pay6
  generalize k0_pay3 v0 v2 v4 = y
  pointwise

theorem pay8_at (h : FVec Ideal S512x1024 .bf16) (c s : FVec Ideal S512x128 .f32) (w : Vec Ideal S1024x256 .bf16) (r : Fin 512) (d : Fin 128) :
    k0_pay8 h c s w (ix2 r d) = (∑ k : Fin 1024, h (ix2 r k) * w (ix2 k ⟨d.val, by omega⟩)) * c (ix2 r d)
      + (∑ k : Fin 1024, h (ix2 r k) * w (ix2 k ⟨128 + d.val, by omega⟩)) * s (ix2 r d) := by
  pointwise [k0_pay8]

section Body

variable (x0 : Vec Ideal S512x1024 .f32) (x1 x2 : Vec Ideal S512x128 .f32) (x3 x4 : Vec Ideal S1x1024 .f32) (x5 x6 x7 x8 : Vec Ideal S1024x256 .bf16) (x9 : Vec Ideal S1024x2048 .bf16)
  (x10 x11 : Vec Ideal S1x256 .f32) (x12 x13 x14 : Vec Ideal S256x1024 .bf16) (x15 : Vec Ideal S256x512 .bf16)

/-- The block of the S5 branch's input. -/
theorem out16_eq : out0_16 x0 x1 x2 x3 x4 x5 x6 x7 x8 x9 x10 x11 x12 x13 x14 x15 = k0_pay6 x0 x3 x4 x5 := by
  have e0 : View.ld x0 r0_0 = x0 := by frame_out
  have e3 : View.ld x3 r0_1 = x3 := by frame_out
  have e4 : View.ld x4 r0_1 = x4 := by frame_out
  have e5 : View.ld x5 r0_3 = x5 := by frame_out
  unfold out0_16
  rw [e0, e3, e4, e5]
  frame_out

/-- The block of the values. -/
theorem out19_eq : out0_19 x0 x1 x2 x3 x4 x5 x6 x7 x8 x9 x10 x11 x12 x13 x14 x15 = k0_pay14 (k0_pay3 x0 x3 x4) x7 x11 x15 := by
  have e0 : View.ld x0 r0_0 = x0 := by frame_out
  have e3 : View.ld x3 r0_1 = x3 := by frame_out
  have e4 : View.ld x4 r0_1 = x4 := by frame_out
  have e7 : View.ld x7 r0_3 = x7 := by frame_out
  have e11 : View.ld x11 r0_7 = x11 := by frame_out
  have e15 : View.ld x15 r0_9 = x15 := by frame_out
  unfold out0_19 k0_pay29
  rw [e0, e3, e4, e7, e11, e15]
  frame_out

/-- The block of the gates. -/
theorem out20_eq : out0_20 x0 x1 x2 x3 x4 x5 x6 x7 x8 x9 x10 x11 x12 x13 x14 x15 = k0_pay7 (k0_pay3 x0 x3 x4) x9 := by
  have e0 : View.ld x0 r0_0 = x0 := by frame_out
  have e3 : View.ld x3 r0_1 = x3 := by frame_out
  have e4 : View.ld x4 r0_1 = x4 := by frame_out
  have e9 : View.ld x9 r0_5 = x9 := by frame_out
  unfold out0_20 k0_pay29
  rw [e0, e3, e4, e9]
  frame_out

/-- The block of the queries, at a row and lane. -/
theorem out17_at (r : Fin 512) (l : Fin 1024) : out0_17 x0 x1 x2 x3 x4 x5 x6 x7 x8 x9 x10 x11 x12 x13 x14 x15 (ix2 r l)
    = (k0_pay10 (k0_pay3 x0 x3 x4) x6 x10 x12 (ix2 r l) * x1 (ix2 r ⟨l.val % 128, by omega⟩)
      + k0_pay11 (k0_pay3 x0 x3 x4) x6 x10 x13 (ix2 r l) * x2 (ix2 r ⟨l.val % 128, by omega⟩)) * Ideal.ofBits .f32 0x3DD105EC#32 := by
  have e0 : View.ld x0 r0_0 = x0 := by frame_out
  have e1 : View.ld x1 r0_2 = x1 := by frame_out
  have e2 : View.ld x2 r0_2 = x2 := by frame_out
  have e3 : View.ld x3 r0_1 = x3 := by frame_out
  have e4 : View.ld x4 r0_1 = x4 := by frame_out
  have e6 : View.ld x6 r0_3 = x6 := by frame_out
  have e10 : View.ld x10 r0_7 = x10 := by frame_out
  have e12 : View.ld x12 r0_8 = x12 := by frame_out
  have e13 : View.ld x13 r0_8 = x13 := by frame_out
  unfold out0_17 k0_pay34 k0_pay33 k0_pay31 k0_pay30 k0_pay29
  rw [e0, e1, e2, e3, e4, e6, e10, e12, e13]
  refine (Cert.InpIdeal.Value.canon17_eq x0 x3 x4 x6 x10 x12 x1 x13 x2 (ix2 r l)).trans ?_
  have hi : Cert.InpIdeal.Value.ix17_0 (ix2 r l) = ix2 r l := by blk_ext []
  have hj : Cert.InpIdeal.Value.ix17_1 (ix2 r l) = ix2 r ⟨l.val % 128, by omega⟩ := by blk_ext []
  rw [← hi, ← hj]
  rfl

/-- The block of the keys, at a row and lane. -/
theorem out18_at (r : Fin 512) (l : Fin 1024) : out0_18 x0 x1 x2 x3 x4 x5 x6 x7 x8 x9 x10 x11 x12 x13 x14 x15 (ix2 r l)
    = k0_pay13 (k0_pay3 x0 x3 x4) x7 x11 x14 (ix2 r l) + k0_pay8 (k0_pay3 x0 x3 x4) (k0_pay4 x1) (k0_pay5 x2) x8 (ix2 r ⟨l.val % 128, by omega⟩) := by
  have e0 : View.ld x0 r0_0 = x0 := by frame_out
  have e1 : View.ld x1 r0_2 = x1 := by frame_out
  have e2 : View.ld x2 r0_2 = x2 := by frame_out
  have e3 : View.ld x3 r0_1 = x3 := by frame_out
  have e4 : View.ld x4 r0_1 = x4 := by frame_out
  have e7 : View.ld x7 r0_3 = x7 := by frame_out
  have e8 : View.ld x8 r0_3 = x8 := by frame_out
  have e11 : View.ld x11 r0_7 = x11 := by frame_out
  have e14 : View.ld x14 r0_8 = x14 := by frame_out
  unfold out0_18 k0_pay35 k0_pay32 k0_pay31 k0_pay30 k0_pay29
  rw [e0, e1, e2, e3, e4, e7, e8, e11, e14]
  refine (Cert.InpIdeal.Value.canon18_eq x0 x3 x4 x7 x11 x14 x1 x2 x8 (ix2 r l)).trans ?_
  have hi : Cert.InpIdeal.Value.ix18_0 (ix2 r l) = ix2 r l := by blk_ext []
  have hj : Cert.InpIdeal.Value.ix18_1 (ix2 r l) = ix2 r ⟨l.val % 128, by omega⟩ := by blk_ext []
  rw [← hi, ← hj]
  rfl

end Body

end Cert.InpIdeal.RefValue
end
-- ==== Proof.InpHost.lean ====
module

public import proofs.«01_k».proof.Proof.InpBlock
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Cert.Row

namespace Cert.InpIdeal.RefValue

open Cert.InpIdeal Cert.InpIdeal.Gen

/-! What the host lays out for the kernel: the tables by lane, and the weights by head and lane. -/

def host1 : FVec Ideal S8x8192x64 .f32 := broadcastInDim S8x8192x64 ![] bcast_S_S8x8192x64 (constant S_ .f32 0x3F800000#32)
def host0 : FVec Ideal S8x8192x32 .f32 := broadcastInDim S8x8192x32 ![] bcast_S_S8x8192x32 (constant S_ .f32 0x00000000#32)

/-- The cosines' table by lane. -/
def cos3 (co : FVec Ideal S8x8192x16 .f32) : FVec Ideal S8x8192x128 .f32 :=
  concatenate S8x8192x128 2 [⟨S8x8192x64, host1⟩, ⟨S8x8192x16, co⟩, ⟨S8x8192x16, co⟩, ⟨S8x8192x32, host0⟩] concatenates_S8x8192x64_S8x8192x16_S8x8192x16_S8x8192x32_S8x8192x128_d2

/-- The sines' table by lane. -/
def sin3 (si : FVec Ideal S8x8192x16 .f32) : FVec Ideal S8x8192x128 .f32 :=
  concatenate S8x8192x128 2 [⟨S8x8192x64, mulf (broadcastInDim S8x8192x64 ![] bcast_S_S8x8192x64 (constant S_ .f32 0x00000000#32)) host1⟩, ⟨S8x8192x16, si⟩, ⟨S8x8192x16, si⟩, ⟨S8x8192x32, host0⟩]
    concatenates_S8x8192x64_S8x8192x16_S8x8192x16_S8x8192x32_S8x8192x128_d2

/-- The shared rotated lanes' weights. -/
def kr (w : FVec Ideal S1024x2848 .f32) : FVec Ideal S1024x32 .f32 := extractStridedSlice S1024x32 ![0, 768] w slices_S1024x2848_S1024x32_0_768

/-- The same with the halves swapped, one negated. -/
def krot (w : FVec Ideal S1024x32 .f32) : FVec Ideal S1024x32 .f32 :=
  concatenate S1024x32 1 [⟨S1024x16, (Host.negf (extractStridedSlice S1024x16 ![0, 16] w slices_S1024x32_S1024x16_0_16 : FVec Ideal S1024x16 .f32) : FVec Ideal S1024x16 .f32)⟩,
    ⟨S1024x16, extractStridedSlice S1024x16 ![0, 0] w slices_S1024x32_S1024x16_0_0⟩] concatenates_S1024x16_S1024x16_S1024x32_d1

/-- Both, each in 128 lanes. -/
def kr2 (w z : FVec Ideal S1024x32 .f32) : FVec Ideal S1024x256 .f32 :=
  concatenate S1024x256 1 [⟨S1024x64, (broadcastInDim S1024x64 ![] bcast_S_S1024x64 (constant S_ .f32 0x00000000#32) : FVec Ideal S1024x64 .f32)⟩, ⟨S1024x32, w⟩,
    ⟨S1024x32, (broadcastInDim S1024x32 ![] bcast_S_S1024x32 (constant S_ .f32 0x00000000#32) : FVec Ideal S1024x32 .f32)⟩,
    ⟨S1024x64, (broadcastInDim S1024x64 ![] bcast_S_S1024x64 (constant S_ .f32 0x00000000#32) : FVec Ideal S1024x64 .f32)⟩, ⟨S1024x32, z⟩,
    ⟨S1024x32, (broadcastInDim S1024x32 ![] bcast_S_S1024x32 (constant S_ .f32 0x00000000#32) : FVec Ideal S1024x32 .f32)⟩]
    concatenates_S1024x64_S1024x32_S1024x32_S1024x64_S1024x32_S1024x32_S1024x256_d1

/-- The queries' rotated lanes' weights, by head. -/
def qr (w : FVec Ideal S256x8x96 .f32) : FVec Ideal S256x8x32 .f32 := extractStridedSlice S256x8x32 ![0, 0, 64] w slices_S256x8x96_S256x8x32_0_0_64

def z3 : FVec Ideal S256x8x32 .f32 := broadcastInDim S256x8x32 ![] bcast_S_S256x8x32 (constant S_ .f32 0x00000000#32)

/-- The same with the halves swapped, one negated. -/
def qrot (w : FVec Ideal S256x8x32 .f32) : FVec Ideal S256x8x32 .f32 :=
  concatenate S256x8x32 2 [⟨S256x8x16, (Host.negf (extractStridedSlice S256x8x16 ![0, 0, 16] w slices_S256x8x32_S256x8x16_0_0_16 : FVec Ideal S256x8x16 .f32) : FVec Ideal S256x8x16 .f32)⟩,
    ⟨S256x8x16, extractStridedSlice S256x8x16 ![0, 0, 0] w slices_S256x8x32_S256x8x16_0_0_0⟩] concatenates_S256x8x16_S256x8x16_S256x8x32_d2

/-- A head's 128 lanes: 64, 32 and 32 zeros. -/
def slab (u : FVec Ideal S256x8x64 .f32) (v : FVec Ideal S256x8x32 .f32) : FVec Ideal S256x8x128 .f32 :=
  concatenate S256x8x128 2 [⟨S256x8x64, u⟩, ⟨S256x8x32, v⟩, ⟨S256x8x32, z3⟩] concatenates_S256x8x64_S256x8x32_S256x8x32_S256x8x128_d2

/-- The slabs side by side. -/
def flat (w : FVec Ideal S256x8x128 .f32) : FVec Ideal S256x1024 .bf16 := truncf .bf16 (shapeCast S256x1024 w shapeCasts_S256x8x128_S256x1024 : FVec Ideal S256x1024 .f32) bitsLt_bf16_f32

/-- The queries' weights by head. -/
def wq3 (w : FVec Ideal S1x256x768 .f32) : FVec Ideal S256x8x96 .f32 := shapeCast S256x8x96 (shapeCast S256x768 w shapeCasts_S1x256x768_S256x768 : FVec Ideal S256x768 .f32) shapeCasts_S256x768_S256x8x96

/-- The keys' and values' weights by head. -/
def wkv3 (w : FVec Ideal S1x256x1024 .f32) : FVec Ideal S256x8x128 .f32 := shapeCast S256x8x128 (shapeCast S256x1024 w shapeCasts_S1x256x1024_S256x1024 : FVec Ideal S256x1024 .f32) shapeCasts_S256x1024_S256x8x128

def win2 (w : FVec Ideal S1x1024x2848 .f32) : FVec Ideal S1024x2848 .f32 := shapeCast S1024x2848 w shapeCasts_S1x1024x2848_S1024x2848

variable (m : (ℓ : Loc nD τ sig) → Buf (Elt Ideal) ℓ)

set_option maxHeartbeats 4000000 in
theorem V_cos (c : Dev nD) : V m c main_v3 = shapeCast S65536x128 (cos3 (m ((c : Thread nD τ).loc main_arg1))) shapeCasts_S8x8192x128_S65536x128 := by
  after_reads_simp <;> (try dsimp only [Matrix.cons_val]) <;> (try after_reads_simp) <;> rfl

set_option maxHeartbeats 4000000 in
theorem V_sin (c : Dev nD) : V m c main_v7 = shapeCast S65536x128 (sin3 (m ((c : Thread nD τ).loc main_arg2))) shapeCasts_S8x8192x128_S65536x128 := by
  after_reads_simp <;> (try dsimp only [Matrix.cons_val]) <;> (try after_reads_simp) <;> rfl

set_option maxHeartbeats 4000000 in
theorem V_kr (c : Dev nD) : V m c main_v28 = truncf .bf16 (kr2 (kr (win2 (m ((c : Thread nD τ).loc main_arg5)))) (krot (kr (win2 (m ((c : Thread nD τ).loc main_arg5)))))) bitsLt_bf16_f32 := by
  after_reads_simp <;> (try dsimp only [Matrix.cons_val]) <;> (try after_reads_simp) <;> rfl

set_option maxHeartbeats 4000000 in
theorem V_q (c : Dev nD) : V m c main_v37 = flat (slab (extractStridedSlice S256x8x64 ![0, 0, 0] (wq3 (m ((c : Thread nD τ).loc main_arg7))) slices_S256x8x96_S256x8x64_0_0_0) (qr (wq3 (m ((c : Thread nD τ).loc main_arg7))))) := by
  after_reads_simp <;> (try dsimp only [Matrix.cons_val]) <;> (try after_reads_simp) <;> rfl

set_option maxHeartbeats 4000000 in
theorem V_qs (c : Dev nD) : V m c main_v46 = flat (slab (broadcastInDim S256x8x64 ![] bcast_S_S256x8x64 (constant S_ .f32 0x00000000#32)) (qrot (qr (wq3 (m ((c : Thread nD τ).loc main_arg7)))))) := by
  after_reads_simp <;> (try dsimp only [Matrix.cons_val]) <;> (try after_reads_simp) <;> rfl

set_option maxHeartbeats 4000000 in
theorem V_k (c : Dev nD) : V m c main_v53 = flat (slab (extractStridedSlice S256x8x64 ![0, 0, 0] (wkv3 (m ((c : Thread nD τ).loc main_arg9))) slices_S256x8x128_S256x8x64_0_0_0) (broadcastInDim S256x8x32 ![] bcast_S_S256x8x32 (constant S_ .f32 0x00000000#32))) := by
  after_reads_simp <;> (try dsimp only [Matrix.cons_val]) <;> (try after_reads_simp) <;> rfl

end Cert.InpIdeal.RefValue
end
-- ==== Proof.InpLanes.lean ====
module

public import proofs.«01_k».proof.Proof.InpHost
public import Idealize.ShloMosaic.Lib.Pipeline.ValueKit

@[expose] public section

set_option maxRecDepth 16384

noncomputable section

open Idealize.ShloMosaic Idealize.ShloMosaic.TcCoe Idealize.SL.Sem
open Cert.Row

namespace Cert.InpIdeal.RefValue

open Cert.InpIdeal Cert.InpIdeal.Gen

theorem cos3_at (co : FVec Ideal S8x8192x16 .f32) (n : Fin 8) (R : Fin 8192) (d : Fin 128) : cos3 co (ix3 n R d) = cosl (fun j => co (ix3 n R j)) d := by
  pointwise [cos3, host0, host1]
  unfold cosl
  by_cases h1 : d.val < 64
  · simp only [h1, dite_true]
  by_cases h2 : d.val < 80
  · simp only [h1, h2, show d.val - 64 < 16 by omega, dite_true, dite_false]
  by_cases h3 : d.val < 96
  · simp only [h1, h2, h3, show ¬ d.val - 64 < 16 by omega, show d.val - 64 - 16 < 16 by omega, show d.val - 64 - 16 = d.val - 80 by omega, show d.val - 80 < 16 by omega, dite_true, dite_false]
  · simp only [h1, h2, h3, show ¬ d.val - 64 < 16 by omega, show ¬ d.val - 64 - 16 < 16 by omega, dite_false]

theorem sin3_at (si : FVec Ideal S8x8192x16 .f32) (n : Fin 8) (R : Fin 8192) (d : Fin 128) : sin3 si (ix3 n R d) = sinl (fun j => si (ix3 n R j)) d := by
  pointwise [sin3, host0, host1]
  unfold sinl
  by_cases h1 : d.val < 64
  · simp only [h1, dite_true]
  by_cases h2 : d.val < 80
  · simp only [h1, h2, show d.val - 64 < 16 by omega, dite_true, dite_false]
  by_cases h3 : d.val < 96
  · simp only [h1, h2, h3, show ¬ d.val - 64 < 16 by omega, show d.val - 64 - 16 < 16 by omega, show d.val - 64 - 16 = d.val - 80 by omega, show d.val - 80 < 16 by omega, dite_true, dite_false]
  · simp only [h1, h2, h3, show ¬ d.val - 64 < 16 by omega, show ¬ d.val - 64 - 16 < 16 by omega, dite_false]

/-- The halves of 32 rotated lanes swapped, the second negated. -/
def swap (w : Fin 32 → EReal) (j : Fin 32) : EReal := if h : j.val < 16 then -w ⟨16 + j.val, by omega⟩ else w ⟨j.val - 16, by omega⟩

theorem krot_at (w : FVec Ideal S1024x32 .f32) (k : Fin 1024) (j : Fin 32) : krot w (ix2 k j) = swap (fun j => w (ix2 k j)) j := by
  pointwise [krot]
  rfl

theorem qrot_at (w : FVec Ideal S256x8x32 .f32) (k : Fin 256) (a : Fin 8) (j : Fin 32) : qrot w (ix3 k a j) = swap (fun j => w (ix3 k a j)) j := by
  pointwise [qrot]
  rfl

theorem kr2_at (w z : FVec Ideal S1024x32 .f32) (k : Fin 1024) (d : Fin 128) : kr2 w z (ix2 k ⟨d.val, by omega⟩) = padr (fun j => w (ix2 k j)) d := by
  pointwise [kr2]
  unfold padr
  by_cases h1 : d.val < 64
  · simp only [h1, dite_true]
  by_cases h3 : d.val < 96
  · simp only [h1, h3, show d.val - 64 < 32 by omega, dite_true, dite_false]
  · simp only [h1, h3, show ¬ d.val - 64 < 32 by omega, show d.val - 64 - 32 < 32 by omega, dite_true, dite_false]

theorem kr2_at' (w z : FVec Ideal S1024x32 .f32) (k : Fin 1024) (d : Fin 128) : kr2 w z (ix2 k ⟨128 + d.val, by omega⟩) = padr (fun j => z (ix2 k j)) d := by
  pointwise [kr2]
  unfold padr
  have g1 : ¬ 128 + d.val < 64 := by omega
  have g2 : ¬ 128 + d.val - 64 < 32 := by omega
  have g3 : ¬ 128 + d.val - 64 - 32 < 32 := by omega
  by_cases h1 : d.val < 64
  · simp only [g1, g2, g3, h1, show 128 + d.val - 64 - 32 - 32 < 64 by omega, dite_true, dite_false]
  have g4 : ¬ 128 + d.val - 64 - 32 - 32 < 64 := by omega
  by_cases h3 : d.val < 96
  · simp only [g1, g2, g3, g4, h1, h3, show 128 + d.val - 64 - 32 - 32 - 64 = d.val - 64 by omega, show d.val - 64 < 32 by omega, dite_true, dite_false]
  · simp only [g1, g2, g3, g4, h1, h3, show ¬ 128 + d.val - 64 - 32 - 32 - 64 < 32 by omega, dite_false]

theorem slab_at (u : FVec Ideal S256x8x64 .f32) (v : FVec Ideal S256x8x32 .f32) (i : Fin 256) (a : Fin 8) (d : Fin 128) :
    slab u v (ix3 i a d) = if h : d.val < 64 then u (ix3 i a ⟨d.val, h⟩) else if h : d.val < 96 then v (ix3 i a ⟨d.val - 64, by omega⟩) else 0 := by
  pointwise [slab, z3]
  by_cases h1 : d.val < 64
  · simp only [h1, dite_true]
  by_cases h3 : d.val < 96
  · simp only [h1, h3, show d.val - 64 < 32 by omega, dite_true, dite_false]
  · simp only [h1, h3, show ¬ d.val - 64 < 32 by omega, dite_false]

theorem flat_at (w : FVec Ideal S256x8x128 .f32) (i : Fin 256) (l : Fin 1024) : flat w (ix2 i l) = w (ix3 i ⟨l.val / 128, by omega⟩ ⟨l.val % 128, by omega⟩) := by
  pointwise [flat]

theorem wq3_at (w : FVec Ideal S1x256x768 .f32) (i : Fin 256) (a : Fin 8) (j : Fin 96) : wq3 w (ix3 i a j) = w (ix3 0 i ⟨a.val * 96 + j.val, by omega⟩) := by
  pointwise [wq3]

theorem wkv3_at (w : FVec Ideal S1x256x1024 .f32) (i : Fin 256) (a : Fin 8) (j : Fin 128) : wkv3 w (ix3 i a j) = w (ix3 0 i ⟨a.val * 128 + j.val, by omega⟩) := by
  pointwise [wkv3]

theorem kr_at (w : FVec Ideal S1x1024x2848 .f32) (k : Fin 1024) (j : Fin 32) : kr (win2 w) (ix2 k j) = w (ix3 0 k ⟨768 + j.val, by omega⟩) := by
  pointwise [kr, win2]

/-- Swapped between zeros. -/
theorem padr_swap (w : Fin 32 → EReal) (d : Fin 128) : padr (swap w) d = rotr w d := by
  unfold padr swap rotr
  by_cases h1 : d.val < 64
  · simp only [h1, dite_true]
  by_cases h2 : d.val < 80
  · simp only [h1, h2, show d.val < 96 by omega, show d.val - 64 < 16 by omega, show 16 + (d.val - 64) = d.val - 48 by omega, dite_true, dite_false]
  by_cases h3 : d.val < 96
  · simp only [h1, h2, h3, show ¬ d.val - 64 < 16 by omega, show d.val - 64 - 16 = d.val - 80 by omega, dite_true, dite_false]
  · simp only [h1, h2, h3, dite_false]

/-- The queries' weights, laid out by head and lane. -/
theorem q_at (w : FVec Ideal S1x256x768 .f32) (i : Fin 256) (l : Fin 1024) :
    flat (slab (extractStridedSlice S256x8x64 ![0, 0, 0] (wq3 w) slices_S256x8x96_S256x8x64_0_0_0) (qr (wq3 w))) (ix2 i l)
      = padq (fun j : Fin 96 => w (ix3 0 i ⟨l.val / 128 * 96 + j.val, by omega⟩)) ⟨l.val % 128, by omega⟩ := by
  have e : ∀ (a : Fin 8) (d : Fin 64), extractStridedSlice S256x8x64 ![0, 0, 0] (wq3 w) slices_S256x8x96_S256x8x64_0_0_0 (ix3 i a d) = wq3 w (ix3 i a ⟨d.val, by omega⟩) := fun a d => by
    generalize wq3 w = y; pointwise
  have e' : ∀ (a : Fin 8) (d : Fin 32), qr (wq3 w) (ix3 i a d) = wq3 w (ix3 i a ⟨64 + d.val, by omega⟩) := fun a d => by
    generalize wq3 w = y; pointwise [qr]
  rw [flat_at]
  generalize (⟨l.val % 128, by omega⟩ : Fin 128) = d
  rw [slab_at]
  simp only [e, e', wq3_at]
  unfold padq
  by_cases h1 : d.val < 64
  · simp only [h1, show d.val < 96 by omega, dite_true]
  by_cases h3 : d.val < 96
  · simp only [h1, h3, show 64 + (d.val - 64) = d.val by omega, dite_true, dite_false]
  · simp only [h1, h3, dite_false]

/-- The same with the rotated lanes swapped and the others zero. -/
theorem qs_at (w : FVec Ideal S1x256x768 .f32) (i : Fin 256) (l : Fin 1024) :
    flat (slab (broadcastInDim S256x8x64 ![] bcast_S_S256x8x64 (constant S_ .f32 0x00000000#32)) (qrot (qr (wq3 w)))) (ix2 i l)
      = rotw (fun j : Fin 96 => w (ix3 0 i ⟨l.val / 128 * 96 + j.val, by omega⟩)) ⟨l.val % 128, by omega⟩ := by
  have e : ∀ (a : Fin 8) (d : Fin 64), (broadcastInDim S256x8x64 ![] bcast_S_S256x8x64 (constant S_ .f32 0x00000000#32) : FVec Ideal S256x8x64 .f32) (ix3 i a d) = 0 := fun a d => by
    pointwise
  have e' : ∀ (a : Fin 8) (d : Fin 32), qr (wq3 w) (ix3 i a d) = wq3 w (ix3 i a ⟨64 + d.val, by omega⟩) := fun a d => by
    generalize wq3 w = y; pointwise [qr]
  rw [flat_at]
  generalize (⟨l.val % 128, by omega⟩ : Fin 128) = d
  rw [slab_at]
  simp only [e, qrot_at, e', wq3_at]
  unfold rotw swap
  by_cases h1 : d.val < 64
  · simp only [h1, dite_true]
  by_cases h2 : d.val < 80
  · simp only [h1, h2, show d.val < 96 by omega, show d.val - 64 < 16 by omega, show 64 + (16 + (d.val - 64)) = d.val + 16 by omega, dite_true, dite_false]
  by_cases h3 : d.val < 96
  · simp only [h1, h2, h3, show ¬ d.val - 64 < 16 by omega, show 64 + (d.val - 64 - 16) = d.val - 16 by omega, dite_true, dite_false]
  · simp only [h1, h2, h3, dite_false]

/-- The keys' own weights, laid out by head and lane. -/
theorem k_at (w : FVec Ideal S1x256x1024 .f32) (i : Fin 256) (l : Fin 1024) :
    flat (slab (extractStridedSlice S256x8x64 ![0, 0, 0] (wkv3 w) slices_S256x8x128_S256x8x64_0_0_0) (broadcastInDim S256x8x32 ![] bcast_S_S256x8x32 (constant S_ .f32 0x00000000#32))) (ix2 i l)
      = padk (fun j : Fin 64 => w (ix3 0 i ⟨l.val / 128 * 128 + j.val, by omega⟩)) ⟨l.val % 128, by omega⟩ := by
  have e : ∀ (a : Fin 8) (d : Fin 64), extractStridedSlice S256x8x64 ![0, 0, 0] (wkv3 w) slices_S256x8x128_S256x8x64_0_0_0 (ix3 i a d) = wkv3 w (ix3 i a ⟨d.val, by omega⟩) := fun a d => by
    generalize wkv3 w = y; pointwise
  have e' : ∀ (a : Fin 8) (d : Fin 32), (broadcastInDim S256x8x32 ![] bcast_S_S256x8x32 (constant S_ .f32 0x00000000#32) : FVec Ideal S256x8x32 .f32) (ix3 i a d) = 0 := fun a d => by
    pointwise
  rw [flat_at]
  generalize (⟨l.val % 128, by omega⟩ : Fin 128) = d
  rw [slab_at]
  simp only [e, e', wkv3_at]
  unfold padk
  by_cases h1 : d.val < 64
  · simp only [h1, dite_true]
  · simp only [h1, dite_false, dite_eq_ite, ite_self]

end Cert.InpIdeal.RefValue
end
-- ==== Proof.InpRead.lean ====
module

public import proofs.«01_k».proof.Defs
public import proofs.«01_k».proof.Proof.AttnValue
public import proofs.«01_k».proof.Proof.InpLanes
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Row

namespace Cert.InpIdeal.RefValue

open Cert.InpIdeal Cert.InpIdeal.Gen

variable (m : (ℓ : Loc nD τ sig) → Buf (Elt Ideal) ℓ)

/-- Every window's block index: the block of 512 rows for what has rows, and whole weights and norm rows. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] ∧ win0_14.index t = ![0, 0]
    ∧ win0_15.index t = ![0, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

/-- What the blocks hold at row `r`, of the arrays they are cut from and of weights laid out by the host, where row `r` is token `R` of batch `n`. -/
structure Reads (X : FVec Ideal Cert.InpRefIdeal.S8x8192x1024 .f32) (co si : FVec Ideal Cert.InpRefIdeal.S8x8192x16 .f32) (gi bi : FVec Ideal Cert.InpRefIdeal.S1024 .f32)
    (win : FVec Ideal Cert.InpRefIdeal.S1x1024x2848 .f32) (gq : FVec Ideal Cert.InpRefIdeal.S1x256 .f32) (wuq : FVec Ideal Cert.InpRefIdeal.S1x256x768 .f32)
    (gk : FVec Ideal Cert.InpRefIdeal.S1x256 .f32) (wukv : FVec Ideal Cert.InpRefIdeal.S1x256x1024 .f32)
    (x0 : Vec Ideal S512x1024 .f32) (x1 x2 : Vec Ideal S512x128 .f32) (x3 x4 : Vec Ideal S1x1024 .f32) (x5 x6 x7 x8 : Vec Ideal S1024x256 .bf16) (x9 : Vec Ideal S1024x2048 .bf16)
    (x10 x11 : Vec Ideal S1x256 .f32) (x12 x13 x14 : Vec Ideal S256x1024 .bf16) (x15 : Vec Ideal S256x512 .bf16) (n : Fin 8) (r : Fin 512) (R : Fin 8192) : Prop where
  h0 : ∀ k : Fin 1024, x0 (ix2 r k) = X (ix3 n R k)
  h1 : ∀ d : Fin 128, x1 (ix2 r d) = cosl (fun j => co (ix3 n R j)) d
  h2 : ∀ d : Fin 128, x2 (ix2 r d) = sinl (fun j => si (ix3 n R j)) d
  h3 : ∀ k : Fin 1024, x3 (ix2 0 k) = gi (ix1 k)
  h4 : ∀ k : Fin 1024, x4 (ix2 0 k) = bi (ix1 k)
  h5 : ∀ (k : Fin 1024) (j : Fin 256), x5 (ix2 k j) = win (ix3 0 k ⟨j.val, by omega⟩)
  h6 : ∀ (k : Fin 1024) (j : Fin 256), x6 (ix2 k j) = win (ix3 0 k ⟨256 + j.val, by omega⟩)
  h7 : ∀ (k : Fin 1024) (j : Fin 256), x7 (ix2 k j) = win (ix3 0 k ⟨512 + j.val, by omega⟩)
  h8 : ∀ (k : Fin 1024) (d : Fin 128), x8 (ix2 k ⟨d.val, by omega⟩) = padr (fun j : Fin 32 => win (ix3 0 k ⟨768 + j.val, by omega⟩)) d
  h8' : ∀ (k : Fin 1024) (d : Fin 128), x8 (ix2 k ⟨128 + d.val, by omega⟩) = rotr (fun j : Fin 32 => win (ix3 0 k ⟨768 + j.val, by omega⟩)) d
  h9 : ∀ (k : Fin 1024) (j : Fin 2048), x9 (ix2 k j) = win (ix3 0 k ⟨800 + j.val, by omega⟩)
  h10 : ∀ k : Fin 256, x10 (ix2 0 k) = gq (ix2 0 k)
  h11 : ∀ k : Fin 256, x11 (ix2 0 k) = gk (ix2 0 k)
  h12 : ∀ (i : Fin 256) (l : Fin 1024), x12 (ix2 i l) = padq (fun j : Fin 96 => wuq (ix3 0 i ⟨l.val / 128 * 96 + j.val, by omega⟩)) ⟨l.val % 128, by omega⟩
  h13 : ∀ (i : Fin 256) (l : Fin 1024), x13 (ix2 i l) = rotw (fun j : Fin 96 => wuq (ix3 0 i ⟨l.val / 128 * 96 + j.val, by omega⟩)) ⟨l.val % 128, by omega⟩
  h14 : ∀ (i : Fin 256) (l : Fin 1024), x14 (ix2 i l) = padk (fun j : Fin 64 => wukv (ix3 0 i ⟨l.val / 128 * 128 + j.val, by omega⟩)) ⟨l.val % 128, by omega⟩
  h15 : ∀ (i : Fin 256) (l : Fin 512), x15 (ix2 i l) = wukv (ix3 0 i ⟨l.val / 64 * 128 + (64 + l.val % 64), by omega⟩)

set_option maxHeartbeats 4000000 in
/-- The blocks of a point hold that. -/
theorem reads (c : Dev nD) (t : Fin cfg0.N) (r : Fin 512) (n : Fin 8) (R : Fin 8192) (hn : n.val = (512 * t.val + r.val) / 8192) (hR : R.val = (512 * t.val + r.val) % 8192) :
    Reads (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
      (iblk m c 12 t) (iblk m c 13 t) (iblk m c 14 t) (iblk m c 15 t) n r R := by
  have hN : t.val < 128 := t.isLt
  obtain ⟨n, hn'⟩ := n
  obtain ⟨R, hR'⟩ := R
  simp only at hn hR
  subst hn hR
  constructor
  · intro k
    blk_simp [iblk, idx t]; entry_read; pointwise; blk_ext [idx t]
  · intro d
    blk_simp [iblk, idx t]
    have e : (win0_1.blk t).view.emb (ix2 r d) = (ix2 ⟨512 * t.val + r.val, by omega⟩ d : S65536x128.Idx) := by blk_ext [idx t]
    rw [e, V_cos]
    refine Eq.trans ?_ (cos3_at _ _ _ d)
    generalize cos3 _ = y
    pointwise
  · intro d
    blk_simp [iblk, idx t]
    have e : (win0_2.blk t).view.emb (ix2 r d) = (ix2 ⟨512 * t.val + r.val, by omega⟩ d : S65536x128.Idx) := by blk_ext [idx t]
    rw [e, V_sin]
    refine Eq.trans ?_ (sin3_at _ _ _ d)
    generalize sin3 _ = y
    pointwise
  · intro k
    blk_simp [iblk, idx t]; entry_read; pointwise; blk_ext [idx t]
  · intro k
    blk_simp [iblk, idx t]; entry_read; pointwise; blk_ext [idx t]
  · intro k j
    blk_simp [iblk, idx t]; entry_read; pointwise; blk_ext [idx t]
  · intro k j
    blk_simp [iblk, idx t]; entry_read; pointwise; blk_ext [idx t]
  · intro k j
    blk_simp [iblk, idx t]; entry_read; pointwise; blk_ext [idx t]
  · intro k d
    blk_simp [iblk, idx t]
    have e : (win0_8.blk t).view.emb (ix2 k ⟨d.val, by omega⟩) = (ix2 k ⟨d.val, by omega⟩ : S1024x256.Idx) := by blk_ext [idx t]
    rw [e, V_kr]
    refine (kr2_at _ _ k d).trans ?_
    simp only [kr_at]
  · intro k d
    blk_simp [iblk, idx t]
    have e : (win0_8.blk t).view.emb (ix2 k ⟨128 + d.val, by omega⟩) = (ix2 k ⟨128 + d.val, by omega⟩ : S1024x256.Idx) := by blk_ext [idx t]
    rw [e, V_kr]
    refine (kr2_at' _ _ k d).trans ?_
    simp only [krot_at, kr_at]
    exact padr_swap _ d
  · intro k j
    blk_simp [iblk, idx t]; entry_read; pointwise; blk_ext [idx t]
  · intro k
    blk_simp [iblk, idx t]; entry_read; pointwise; blk_ext [idx t]
  · intro k
    blk_simp [iblk, idx t]; entry_read; pointwise; blk_ext [idx t]
  · intro i l
    blk_simp [iblk, idx t]
    have e : (win0_12.blk t).view.emb (ix2 i l) = (ix2 i l : S256x1024.Idx) := by blk_ext [idx t]
    rw [e, V_q]
    exact q_at _ i l
  · intro i l
    blk_simp [iblk, idx t]
    have e : (win0_13.blk t).view.emb (ix2 i l) = (ix2 i l : S256x1024.Idx) := by blk_ext [idx t]
    rw [e, V_qs]
    exact qs_at _ i l
  · intro i l
    blk_simp [iblk, idx t]
    have e : (win0_14.blk t).view.emb (ix2 i l) = (ix2 i l : S256x1024.Idx) := by blk_ext [idx t]
    rw [e, V_k]
    exact k_at _ i l
  · intro i l
    blk_simp [iblk, idx t]; entry_read; pointwise; blk_ext [idx t]

end Cert.InpIdeal.RefValue
end
-- ==== Proof.InpValue.lean ====
module

public import proofs.«01_k».proof.Proof.InpRead

@[expose] public section

set_option maxRecDepth 16384

noncomputable section

open Idealize.ShloMosaic Idealize.ShloMosaic.TcCoe Idealize.SL.Sem
open Idealize.ShloMosaic.Pipeline (Dat)
open Cert.Row
open Cert.InpRefIdeal.RefValue (zed zed_at heads heads_at kvheads kvheads_at rotQ rotQ_at rotK rotK_at RU RU_at RG RG_at RV RV_at RQ RQ_at RK RK_at RR RR_at)

namespace Cert.InpIdeal.RefValue

open Cert.InpIdeal Cert.InpIdeal.Gen

section Point

variable {X : FVec Ideal Cert.InpRefIdeal.S8x8192x1024 .f32} {co si : FVec Ideal Cert.InpRefIdeal.S8x8192x16 .f32} {gi bi : FVec Ideal Cert.InpRefIdeal.S1024 .f32}
  {win : FVec Ideal Cert.InpRefIdeal.S1x1024x2848 .f32} {gq : FVec Ideal Cert.InpRefIdeal.S1x256 .f32} {wuq : FVec Ideal Cert.InpRefIdeal.S1x256x768 .f32}
  {gk : FVec Ideal Cert.InpRefIdeal.S1x256 .f32} {wukv : FVec Ideal Cert.InpRefIdeal.S1x256x1024 .f32}
  {x0 : Vec Ideal S512x1024 .f32} {x1 x2 : Vec Ideal S512x128 .f32} {x3 x4 : Vec Ideal S1x1024 .f32} {x5 x6 x7 x8 : Vec Ideal S1024x256 .bf16} {x9 : Vec Ideal S1024x2048 .bf16}
  {x10 x11 : Vec Ideal S1x256 .f32} {x12 x13 x14 : Vec Ideal S256x1024 .bf16} {x15 : Vec Ideal S256x512 .bf16} {n : Fin 8} {r : Fin 512} {R : Fin 8192}
  (H : Reads X co si gi bi win gq wuq gk wukv x0 x1 x2 x3 x4 x5 x6 x7 x8 x9 x10 x11 x12 x13 x14 x15 n r R)

include H

/-- One point's S5 input. -/
theorem point16 (l : Fin 256) : out0_16 x0 x1 x2 x3 x4 x5 x6 x7 x8 x9 x10 x11 x12 x13 x14 x15 (ix2 r l) = (zed X gi bi win) (ix3 n R ⟨l.val, by omega⟩) := by
  rw [out16_eq, pay6_at, zed_at]
  simp only [H.h0, H.h3, H.h4, H.h5]

/-- One point's values. -/
theorem point19 (l : Fin 512) : out0_19 x0 x1 x2 x3 x4 x5 x6 x7 x8 x9 x10 x11 x12 x13 x14 x15 (ix2 r l) = kvheads (zed X gi bi win) gk wukv (ix4 n R ⟨l.val / 64, by omega⟩ ⟨64 + l.val % 64, by omega⟩) := by
  rw [out19_eq, pay14_at, kvheads_at]
  unfold prod256
  simp only [pay3_at, zed_at, H.h0, H.h3, H.h4, H.h7, H.h11, H.h15]

/-- One point's gates. -/
theorem point20 (l : Fin 2048) : out0_20 x0 x1 x2 x3 x4 x5 x6 x7 x8 x9 x10 x11 x12 x13 x14 x15 (ix2 r l) = Ideal.logistic ((zed X gi bi win) (ix3 n R ⟨800 + l.val, by omega⟩)) := by
  rw [out20_eq, pay7_at, zed_at]
  simp only [pay3_at, H.h0, H.h3, H.h4, H.h9]

set_option maxHeartbeats 4000000 in
/-- One point's queries. -/
theorem point17 (fX : ∀ j, Real' (X j)) (fgi : ∀ j, Real' (gi j)) (fbi : ∀ j, Real' (bi j)) (fwin : ∀ j, Real' (win j)) (fgq : ∀ j, Real' (gq j)) (fwuq : ∀ j, Real' (wuq j)) (l : Fin 1024) :
    out0_17 x0 x1 x2 x3 x4 x5 x6 x7 x8 x9 x10 x11 x12 x13 x14 x15 (ix2 r l) = rotQ (heads (zed X gi bi win) gq wuq) co si (ix4 n R ⟨l.val / 128, by omega⟩ ⟨l.val % 128, by omega⟩) := by
  rw [out17_at, pay10_at, pay11_at, rotQ_at]
  simp only [prod256, heads_at, pay3_at, zed_at, H.h0, H.h1, H.h2, H.h3, H.h4, H.h6, H.h10, H.h12, H.h13]
  refine rotq_eq _ (fun i j => wuq (ix3 0 i ⟨l.val / 128 * 96 + j.val, by omega⟩)) _ _ (fun i => ?_) (fun i j => fwuq _) ⟨l.val % 128, by omega⟩
  exact rms_real (fun j => Real'.sum fun k => (norm_real k (fun k => fX _) (fgi _) (fbi _)).mul (fwin _)) (fun k => fgq _) i

set_option maxHeartbeats 400000 in
/-- One point's keys. -/
theorem point18 (fX : ∀ j, Real' (X j)) (fgi : ∀ j, Real' (gi j)) (fbi : ∀ j, Real' (bi j)) (fwin : ∀ j, Real' (win j)) (l : Fin 1024) :
    out0_18 x0 x1 x2 x3 x4 x5 x6 x7 x8 x9 x10 x11 x12 x13 x14 x15 (ix2 r l) = rotK (kvheads (zed X gi bi win) gk wukv) (RR (zed X gi bi win)) co si
      (ix4 n R ⟨l.val / 128, by omega⟩ ⟨l.val % 128, by omega⟩) := by
  have e4 : ∀ d : Fin 128, k0_pay4 x1 (ix2 r d) = x1 (ix2 r d) := fun d => by pointwise [k0_pay4]
  have e5 : ∀ d : Fin 128, k0_pay5 x2 (ix2 r d) = x2 (ix2 r d) := fun d => by pointwise [k0_pay5]
  have e8 : ∀ d : Fin 128, k0_pay8 (k0_pay3 x0 x3 x4) (k0_pay4 x1) (k0_pay5 x2) x8 (ix2 r d)
      = (∑ k : Fin 1024, norms (fun k => X (ix3 n R k)) (fun k => gi (ix1 k)) (fun k => bi (ix1 k)) k * padr (fun j : Fin 32 => win (ix3 0 k ⟨768 + j.val, by omega⟩)) d) * cosl (fun j => co (ix3 n R j)) d
        + (∑ k : Fin 1024, norms (fun k => X (ix3 n R k)) (fun k => gi (ix1 k)) (fun k => bi (ix1 k)) k * rotr (fun j : Fin 32 => win (ix3 0 k ⟨768 + j.val, by omega⟩)) d) * sinl (fun j => si (ix3 n R j)) d := fun d => by
    rw [pay8_at]
    simp only [e4, e5, pay3_at, H.h0, H.h1, H.h2, H.h3, H.h4, H.h8, H.h8']
  rw [out18_at, pay13_at, e8, rotK_at]
  simp only [prod256, kvheads_at, RR_at, pay3_at, zed_at, H.h0, H.h3, H.h4, H.h7, H.h11, H.h14]
  exact rotk_eq _ (fun i j => wukv (ix3 0 i ⟨l.val / 128 * 128 + j.val, by omega⟩)) _ (fun k j => win (ix3 0 k ⟨768 + j.val, by omega⟩)) _ _
    (fun k => norm_real k (fun k => fX _) (fgi _) (fbi _)) (fun k j => fwin _) ⟨l.val % 128, by omega⟩

end Point

variable (m : (ℓ : Loc nD τ sig) → Buf (Elt Ideal) ℓ)

/-- Every element of the arrays that meet a negated weight is a real number. -/
structure Finite (c : Dev nD) : Prop where
  a0 : ∀ j : S8x8192x1024.Idx, Real' (m ((c : Thread nD τ).loc main_arg0) j)
  a3 : ∀ j : S1024.Idx, Real' (m ((c : Thread nD τ).loc main_arg3) j)
  a4 : ∀ j : S1024.Idx, Real' (m ((c : Thread nD τ).loc main_arg4) j)
  a5 : ∀ j : S1x1024x2848.Idx, Real' (m ((c : Thread nD τ).loc main_arg5) j)
  a6 : ∀ j : S1x256.Idx, Real' (m ((c : Thread nD τ).loc main_arg6) j)
  a7 : ∀ j : S1x256x768.Idx, Real' (m ((c : Thread nD τ).loc main_arg7) j)

/-- The precondition says so. -/
theorem finite_args [Cert.Pre_finite_proj.Facts] (h : Pre_InpIdeal_finite_proj m) (c : Dev nD) : Finite m c := by
  have h0 := congrFun (h c) ix0
  have : Subsingleton Cert.Pre_finite_proj.S_.Idx := ⟨fun a b => funext fun i => i.elim0⟩
  have inf : Ideal.ofBits .f32 0x7F800000#32 = ⊤ := by simp [Ideal.ofBits, Ideal.ieee]
  have h5 := IntOp.andi_eq_one.1 h0
  have h4 := IntOp.andi_eq_one.1 h5.1
  have h3 := IntOp.andi_eq_one.1 h4.1
  have h2 := IntOp.andi_eq_one.1 h3.1
  have h1 := IntOp.andi_eq_one.1 h2.1
  exact
    { a0 := fun j => Cert.AttnIdeal.RefValue.real_of_all _ _ _ _ _ (fun j => congrArg (Ideal.cmp .olt _) inf) _ h1.1 j
      a3 := fun j => Cert.AttnIdeal.RefValue.real_of_all _ _ _ _ _ (fun j => congrArg (Ideal.cmp .olt _) inf) _ h1.2 j
      a4 := fun j => Cert.AttnIdeal.RefValue.real_of_all _ _ _ _ _ (fun j => congrArg (Ideal.cmp .olt _) inf) _ h2.2 j
      a5 := fun j => Cert.AttnIdeal.RefValue.real_of_all _ _ _ _ _ (fun j => congrArg (Ideal.cmp .olt _) inf) _ h3.2 j
      a6 := fun j => Cert.AttnIdeal.RefValue.real_of_all _ _ _ _ _ (fun j => congrArg (Ideal.cmp .olt _) inf) _ h4.2 j
      a7 := fun j => Cert.AttnIdeal.RefValue.real_of_all _ _ _ _ _ (fun j => congrArg (Ideal.cmp .olt _) inf) _ h5.2 j }

set_option maxHeartbeats 4000000 in
/-- The array of the S5 branch's input after the run is the reference's term of the arguments. -/
theorem final16 (c : Dev nD) : (dats m 0 c).arrAt 16 (cfgs 0).N
    = RU (zed (m ((c : Thread nD τ).loc main_arg0)) (m ((c : Thread nD τ).loc main_arg3)) (m ((c : Thread nD τ).loc main_arg4)) (m ((c : Thread nD τ).loc main_arg5))) := by
  refine (dats m 0 c).arrAt_eq_of_covers 16 _ (by decide +kernel) fun t _ y => ?_
  blk_simp
  rw [after0_16]
  have hN : t.val < 128 := t.isLt
  have hr : (y 0).val < 512 := (y 0).isLt
  have hl : (y 1).val < 256 := (y 1).isLt
  have hy : y = (ix2 ⟨(y 0).val, hr⟩ ⟨(y 1).val, hl⟩ : S512x256.Idx) := by blk_ext []
  have hB : 512 * t.val + (y 0).val < 65536 := by omega
  have he : (win0_16.blk t).view.emb y = (ix2 ⟨512 * t.val + (y 0).val, hB⟩ ⟨(y 1).val, hl⟩ : S65536x256.Idx) := by blk_ext [idx t]
  rw [he, RU_at]
  refine (congrArg _ hy).trans ?_
  exact point16 (reads m c t ⟨(y 0).val, hr⟩ ⟨(512 * t.val + (y 0).val) / 8192, by omega⟩ ⟨(512 * t.val + (y 0).val) % 8192, by omega⟩ rfl rfl) ⟨(y 1).val, hl⟩

set_option maxHeartbeats 4000000 in
/-- The array of the queries after the run is the reference's term of the arguments. -/
theorem final17 (c : Dev nD) (hf : Finite m c) : (dats m 0 c).arrAt 17 (cfgs 0).N
    = RQ (heads (zed (m ((c : Thread nD τ).loc main_arg0)) (m ((c : Thread nD τ).loc main_arg3)) (m ((c : Thread nD τ).loc main_arg4)) (m ((c : Thread nD τ).loc main_arg5))) (m ((c : Thread nD τ).loc main_arg6)) (m ((c : Thread nD τ).loc main_arg7))) (m ((c : Thread nD τ).loc main_arg1)) (m ((c : Thread nD τ).loc main_arg2)) := by
  refine (dats m 0 c).arrAt_eq_of_covers 17 _ (by decide +kernel) fun t _ y => ?_
  blk_simp
  rw [after0_17]
  have hN : t.val < 128 := t.isLt
  have hr : (y 0).val < 512 := (y 0).isLt
  have hl : (y 1).val < 1024 := (y 1).isLt
  have hy : y = (ix2 ⟨(y 0).val, hr⟩ ⟨(y 1).val, hl⟩ : S512x1024.Idx) := by blk_ext []
  have hB : 512 * t.val + (y 0).val < 65536 := by omega
  have he : (win0_17.blk t).view.emb y = (ix2 ⟨512 * t.val + (y 0).val, hB⟩ ⟨(y 1).val, hl⟩ : S65536x1024.Idx) := by blk_ext [idx t]
  rw [he, RQ_at]
  refine (congrArg _ hy).trans ?_
  exact point17 (reads m c t ⟨(y 0).val, hr⟩ ⟨(512 * t.val + (y 0).val) / 8192, by omega⟩ ⟨(512 * t.val + (y 0).val) % 8192, by omega⟩ rfl rfl) hf.a0 hf.a3 hf.a4 hf.a5 hf.a6 hf.a7 ⟨(y 1).val, hl⟩

set_option maxHeartbeats 4000000 in
/-- The array of the keys after the run is the reference's term of the arguments. -/
theorem final18 (c : Dev nD) (hf : Finite m c) : (dats m 0 c).arrAt 18 (cfgs 0).N
    = RK (zed (m ((c : Thread nD τ).loc main_arg0)) (m ((c : Thread nD τ).loc main_arg3)) (m ((c : Thread nD τ).loc main_arg4)) (m ((c : Thread nD τ).loc main_arg5))) (kvheads (zed (m ((c : Thread nD τ).loc main_arg0)) (m ((c : Thread nD τ).loc main_arg3)) (m ((c : Thread nD τ).loc main_arg4)) (m ((c : Thread nD τ).loc main_arg5))) (m ((c : Thread nD τ).loc main_arg8)) (m ((c : Thread nD τ).loc main_arg9))) (m ((c : Thread nD τ).loc main_arg1)) (m ((c : Thread nD τ).loc main_arg2)) := by
  refine (dats m 0 c).arrAt_eq_of_covers 18 _ (by decide +kernel) fun t _ y => ?_
  blk_simp
  rw [after0_18]
  have hN : t.val < 128 := t.isLt
  have hr : (y 0).val < 512 := (y 0).isLt
  have hl : (y 1).val < 1024 := (y 1).isLt
  have hy : y = (ix2 ⟨(y 0).val, hr⟩ ⟨(y 1).val, hl⟩ : S512x1024.Idx) := by blk_ext []
  have hB : 512 * t.val + (y 0).val < 65536 := by omega
  have he : (win0_18.blk t).view.emb y = (ix2 ⟨512 * t.val + (y 0).val, hB⟩ ⟨(y 1).val, hl⟩ : S65536x1024.Idx) := by blk_ext [idx t]
  rw [he, RK_at]
  refine (congrArg _ hy).trans ?_
  exact point18 (reads m c t ⟨(y 0).val, hr⟩ ⟨(512 * t.val + (y 0).val) / 8192, by omega⟩ ⟨(512 * t.val + (y 0).val) % 8192, by omega⟩ rfl rfl) hf.a0 hf.a3 hf.a4 hf.a5 ⟨(y 1).val, hl⟩

set_option maxHeartbeats 4000000 in
/-- The array of the values after the run is the reference's term of the arguments. -/
theorem final19 (c : Dev nD) : (dats m 0 c).arrAt 19 (cfgs 0).N
    = RV (kvheads (zed (m ((c : Thread nD τ).loc main_arg0)) (m ((c : Thread nD τ).loc main_arg3)) (m ((c : Thread nD τ).loc main_arg4)) (m ((c : Thread nD τ).loc main_arg5))) (m ((c : Thread nD τ).loc main_arg8)) (m ((c : Thread nD τ).loc main_arg9))) := by
  refine (dats m 0 c).arrAt_eq_of_covers 19 _ (by decide +kernel) fun t _ y => ?_
  blk_simp
  rw [after0_19]
  have hN : t.val < 128 := t.isLt
  have hr : (y 0).val < 512 := (y 0).isLt
  have hl : (y 1).val < 512 := (y 1).isLt
  have hy : y = (ix2 ⟨(y 0).val, hr⟩ ⟨(y 1).val, hl⟩ : S512x512.Idx) := by blk_ext []
  have hB : 512 * t.val + (y 0).val < 65536 := by omega
  have he : (win0_19.blk t).view.emb y = (ix2 ⟨512 * t.val + (y 0).val, hB⟩ ⟨(y 1).val, hl⟩ : S65536x512.Idx) := by blk_ext [idx t]
  rw [he, RV_at]
  refine (congrArg _ hy).trans ?_
  exact point19 (reads m c t ⟨(y 0).val, hr⟩ ⟨(512 * t.val + (y 0).val) / 8192, by omega⟩ ⟨(512 * t.val + (y 0).val) % 8192, by omega⟩ rfl rfl) ⟨(y 1).val, hl⟩

set_option maxHeartbeats 4000000 in
/-- The array of the gates after the run is the reference's term of the arguments. -/
theorem final20 (c : Dev nD) : (dats m 0 c).arrAt 20 (cfgs 0).N
    = RG (zed (m ((c : Thread nD τ).loc main_arg0)) (m ((c : Thread nD τ).loc main_arg3)) (m ((c : Thread nD τ).loc main_arg4)) (m ((c : Thread nD τ).loc main_arg5))) := by
  refine (dats m 0 c).arrAt_eq_of_covers 20 _ (by decide +kernel) fun t _ y => ?_
  blk_simp
  rw [after0_20]
  have hN : t.val < 128 := t.isLt
  have hr : (y 0).val < 512 := (y 0).isLt
  have hl : (y 1).val < 2048 := (y 1).isLt
  have hy : y = (ix2 ⟨(y 0).val, hr⟩ ⟨(y 1).val, hl⟩ : S512x2048.Idx) := by blk_ext []
  have hB : 512 * t.val + (y 0).val < 65536 := by omega
  have he : (win0_20.blk t).view.emb y = (ix2 ⟨512 * t.val + (y 0).val, hB⟩ ⟨(y 1).val, hl⟩ : S65536x2048.Idx) := by blk_ext [idx t]
  rw [he, RG_at]
  refine (congrArg _ hy).trans ?_
  exact point20 (reads m c t ⟨(y 0).val, hr⟩ ⟨(512 * t.val + (y 0).val) / 8192, by omega⟩ ⟨(512 * t.val + (y 0).val) % 8192, by omega⟩ rfl rfl) ⟨(y 1).val, hl⟩

end Cert.InpIdeal.RefValue
end
-- ==== Proof.InpClaim.lean ====
module

public import proofs.«01_k».proof.Defs
public import proofs.«01_k».proof.Proof.InpValue
public import proofs.«01_k».proof.Proof.Gen.Pre_finite_proj
public import proofs.«01_k».proof.Proof.Gen.InpIdeal
public import proofs.«01_k».proof.Proof.Gen.InpRefIdeal
public import proofs.«01_k».proof.Proof.Gen.InpRefIdeal.Run
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

open Cert.InpRefIdeal.RefValue (zed heads kvheads RQ RK RV)

/-- The reference's queries, by its own stages. -/
theorem inp_q (m : (ℓ : Loc Cert.InpRefIdeal.nD Cert.InpRefIdeal.τ Cert.InpRefIdeal.sig) → Buf (Elt Ideal) ℓ) (c : Dev Cert.InpRefIdeal.nD) :
    Cert.InpRefIdeal.Value.res_main_v101 m c = RQ (heads (zed (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))) (m ((c.tc : Thread Cert.InpRefIdeal.nD Cert.InpRefIdeal.τ).loc Cert.InpRefIdeal.main_arg6)) (m ((c.tc : Thread Cert.InpRefIdeal.nD Cert.InpRefIdeal.τ).loc Cert.InpRefIdeal.main_arg7))) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) := by
  unfold Cert.InpRefIdeal.Value.res_main_v101
  rfl

/-- The reference's keys, by its own stages. -/
theorem inp_k (m : (ℓ : Loc Cert.InpRefIdeal.nD Cert.InpRefIdeal.τ Cert.InpRefIdeal.sig) → Buf (Elt Ideal) ℓ) (c : Dev Cert.InpRefIdeal.nD) :
    Cert.InpRefIdeal.Value.res_main_v103 m c = RK (zed (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))) (kvheads (zed (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))) (m ((c.tc : Thread Cert.InpRefIdeal.nD Cert.InpRefIdeal.τ).loc Cert.InpRefIdeal.main_arg8)) (m ((c.tc : Thread Cert.InpRefIdeal.nD Cert.InpRefIdeal.τ).loc Cert.InpRefIdeal.main_arg9))) (m ((c.tc : Thread Cert.InpRefIdeal.nD Cert.InpRefIdeal.τ).loc Cert.InpRefIdeal.main_arg1)) (m ((c.tc : Thread Cert.InpRefIdeal.nD Cert.InpRefIdeal.τ).loc Cert.InpRefIdeal.main_arg2)) := by
  unfold Cert.InpRefIdeal.Value.res_main_v103
  rfl

/-- The reference's values, by its own stages. -/
theorem inp_v (m : (ℓ : Loc Cert.InpRefIdeal.nD Cert.InpRefIdeal.τ Cert.InpRefIdeal.sig) → Buf (Elt Ideal) ℓ) (c : Dev Cert.InpRefIdeal.nD) :
    Cert.InpRefIdeal.Value.res_main_v105 m c = RV (kvheads (zed (m ((c.tc : Thread Cert.InpRefIdeal.nD Cert.InpRefIdeal.τ).loc Cert.InpRefIdeal.main_arg0)) (m ((c.tc : Thread Cert.InpRefIdeal.nD Cert.InpRefIdeal.τ).loc Cert.InpRefIdeal.main_arg3)) (m ((c.tc : Thread Cert.InpRefIdeal.nD Cert.InpRefIdeal.τ).loc Cert.InpRefIdeal.main_arg4)) (m ((c.tc : Thread Cert.InpRefIdeal.nD Cert.InpRefIdeal.τ).loc Cert.InpRefIdeal.main_arg5))) (m ((c.tc : Thread Cert.InpRefIdeal.nD Cert.InpRefIdeal.τ).loc Cert.InpRefIdeal.main_arg8)) (m ((c.tc : Thread Cert.InpRefIdeal.nD Cert.InpRefIdeal.τ).loc Cert.InpRefIdeal.main_arg9))) := by
  unfold Cert.InpRefIdeal.Value.res_main_v105
  rfl

set_option maxHeartbeats 8000000 in
/-- Of finite arguments the kernel's five results are the reference's, over the extended reals. -/
theorem algebraic_inp : Cert.algebraic_InpIdeal_InpRefIdeal_pre_finite_proj := by
  pair_intro
  · run_from Cert.InpIdeal.Gen.run_main m g
    · exact hc.1 16
    · exact hc.1 17
    · exact hc.1 18
    · exact hc.1 19
    · exact hc.1 20
  · run_from Cert.InpRefIdeal.Value.run m' g'
    · rw [Cert.InpIdeal.RefValue.final16 m c]
      rfl
    · rw [Cert.InpIdeal.RefValue.final17 m c (Cert.InpIdeal.RefValue.finite_args m hpre c), inp_q]
      obtain ⟨h0, h1, h2, h3, h4, h5, h6, h7, h8, h9⟩ := hagree c
      simp only [← h0, ← h1, ← h2, ← h3, ← h4, ← h5, ← h6, ← h7, ← h8, ← h9]
      try rfl
    · rw [Cert.InpIdeal.RefValue.final18 m c (Cert.InpIdeal.RefValue.finite_args m hpre c), inp_k]
      obtain ⟨h0, h1, h2, h3, h4, h5, h6, h7, h8, h9⟩ := hagree c
      simp only [← h0, ← h1, ← h2, ← h3, ← h4, ← h5, ← h6, ← h7, ← h8, ← h9]
      try rfl
    · rw [Cert.InpIdeal.RefValue.final19 m c, inp_v]
      obtain ⟨h0, h1, h2, h3, h4, h5, h6, h7, h8, h9⟩ := hagree c
      simp only [← h0, ← h1, ← h2, ← h3, ← h4, ← h5, ← h6, ← h7, ← h8, ← h9]
      try rfl
    · rw [Cert.InpIdeal.RefValue.final20 m c]
      rfl

end Cert.Proof

end
-- ==== Proof.RopeValue.lean ====
module

public import proofs.«01_k».proof.Proof.Gen.RopeIdeal.Frame
public import proofs.«01_k».proof.Proof.Gen.RopeRefIdeal.Run
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.RopeRefIdeal.RefValue

open Cert.RopeRefIdeal Cert.RopeRefIdeal.Gen

/-- The sixteen inverse frequencies: ten thousand to the power of minus `2 j / 32`. -/
def inv : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- The angles: a position times an inverse frequency. -/
def ang (w : FVec Ideal S16 .f32) (P : IVec S8x8192 32) : FVec Ideal S8x8192x16 .f32 :=
  mulf (broadcastInDim S8x8192x16 ![0, 1, 2] bcast_S8x8192x1_S8x8192x16_0_1_2 (broadcastInDim S8x8192x1 ![0, 1] bcast_S8x8192_S8x8192x1_0_1 (sitofp .f32 P : FVec Ideal S8x8192 .f32)))
    (broadcastInDim S8x8192x16 ![0, 1, 2] bcast_S1x1x16_S8x8192x16_0_1_2 (broadcastInDim S1x1x16 ![2] bcast_S16_S1x1x16_2 w))

/-- The cosines of the angles, eight positions in a row. -/
def RC (w : FVec Ideal S16 .f32) (P : IVec S8x8192 32) : FVec Ideal S8192x128 .f32 := shapeCast _ (Host.cos (ang w P)) shapeCasts_S8x8192x16_S8192x128

/-- The sines of the angles, eight positions in a row. -/
def RS (w : FVec Ideal S16 .f32) (P : IVec S8x8192 32) : FVec Ideal S8192x128 .f32 := shapeCast _ (Host.sin (ang w P)) shapeCasts_S8x8192x16_S8192x128

/-- The position at row `R` and lane `l` of the packed table. -/
def at8 (P : IVec S8x8192 32) (R : Fin 8192) (l : Fin 128) : BitVec 32 :=
  P (ix2 ⟨(R.val * 8 + l.val / 16) / 8192, by omega⟩ ⟨(R.val * 8 + l.val / 16) % 8192, by omega⟩)

/-- The same position, by its batch and its place in it. -/
theorem at8_eq (P : IVec S8x8192 32) (R : Fin 8192) (l : Fin 128) :
    at8 P R l = P (ix2 ⟨R.val / 1024, by omega⟩ ⟨R.val % 1024 * 8 + l.val / 16, by omega⟩) := by
  unfold at8
  congr 2 <;> exact Fin.ext (by dsimp only; omega)

/-- The reference's cosine at row `R` and lane `l`. -/
theorem RC_at (w : FVec Ideal S16 .f32) (P : IVec S8x8192 32) (R : Fin 8192) (l : Fin 128) :
    RC w P (ix2 R l) = Ideal.cos (FloatOps.sitofp (F := Ideal) .f32 (at8 P R l) * w (ix1 ⟨l.val % 16, by omega⟩)) := by
  rw [at8_eq]
  pointwise [RC, ang]

/-- The reference's sine at row `R` and lane `l`. -/
theorem RS_at (w : FVec Ideal S16 .f32) (P : IVec S8x8192 32) (R : Fin 8192) (l : Fin 128) :
    RS w P (ix2 R l) = Ideal.sin (FloatOps.sitofp (F := Ideal) .f32 (at8 P R l) * w (ix1 ⟨l.val % 16, by omega⟩)) := by
  rw [at8_eq]
  pointwise [RS, ang]

end Cert.RopeRefIdeal.RefValue

namespace Cert.RopeIdeal.RefValue

open Cert.RopeIdeal Cert.RopeIdeal.Gen
open Cert.RopeRefIdeal.RefValue (inv at8 RC RS RC_at RS_at)

variable (m : (ℓ : Loc nD τ sig) → Buf (Elt Ideal) ℓ)

/-- Every window's block index: 1024 rows of positions and of the tables, the row of frequencies whole. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The host's repeated positions. -/
def pos (P : IVec S8x8192 32) : IVec S8192x128 32 :=
  shapeCast S8192x128 (shapeCast S1048576 (broadcastInDim S65536x16 ![0] bcast_S65536_S65536x16_0 (shapeCast S65536 P shapeCasts_S8x8192_S65536)) shapeCasts_S65536x16_S1048576) shapeCasts_S1048576_S8192x128

/-- The host's repeated row of frequencies. -/
def invs (w : FVec Ideal S16 .f32) : FVec Ideal S1x128 .f32 :=
  shapeCast S1x128 (shapeCast S128 (broadcastInDim S8x16 ![0, 1] bcast_S1x16_S8x16_0_1 (shapeCast S1x16 w shapeCasts_S16_S1x16)) shapeCasts_S8x16_S128) shapeCasts_S128_S1x128

/-- The array of positions the call takes. -/
theorem V_pos (c : Dev nD) : V m c main_v17 = pos (m ((c : Thread nD τ).loc main_arg0)) := by
  after_reads_simp <;> (try dsimp only [Matrix.cons_val]) <;> (try after_reads_simp) <;> rfl

/-- The row of frequencies the call takes. -/
theorem V_inv (c : Dev nD) : V m c main_v13 = invs inv := by
  after_reads_simp <;> (try dsimp only [Matrix.cons_val]) <;> (try after_reads_simp) <;> rfl

/-- The repeated positions at row `R` and lane `l`. -/
theorem pos_at (P : IVec S8x8192 32) (R : Fin 8192) (l : Fin 128) : pos P (ix2 R l) = at8 P R l := by
  pointwise [pos, at8]

/-- The repeated frequencies at lane `l`. -/
theorem invs_at (w : FVec Ideal S16 .f32) (l : Fin 128) : invs w (ix2 0 l) = w (ix1 ⟨l.val % 16, by omega⟩) := by
  pointwise [invs]

/-- The cosines' block at one point. -/
theorem point2 (P : IVec S8x8192 32) (w : FVec Ideal S16 .f32) (x0 : Vec Ideal S1024x128 .i32) (x1 : Vec Ideal S1x128 .f32) (r : Fin 1024) (l : Fin 128) (R : Fin 8192)
    (h0 : x0 (ix2 r l) = at8 P R l) (h1 : x1 (ix2 0 l) = w (ix1 ⟨l.val % 16, by omega⟩)) :
    out0_2 x0 x1 (ix2 r l) = RC w P (ix2 R l) := by
  rw [RC_at]
  frame_out
  pointwise [k0_pay1, k0_pay2]
  rw [h0, h1]

/-- The cosines' array after the run is the reference's term of the positions. -/
theorem final2 (c : Dev nD) : (dats m 0 c).arrAt 2 (cfgs 0).N = RC inv (m ((c : Thread nD τ).loc main_arg0)) := by
  refine (dats m 0 c).arrAt_eq_of_covers 2 _ (by decide +kernel) fun t _ y => ?_
  blk_simp
  rw [after0_2]
  have hN : t.val < 8 := t.isLt
  have hr : (y 0).val < 1024 := (y 0).isLt
  have hl : (y 1).val < 128 := (y 1).isLt
  have hy : y = (ix2 ⟨(y 0).val, hr⟩ ⟨(y 1).val, hl⟩ : S1024x128.Idx) := by blk_ext []
  have he : (win0_2.blk t).view.emb y = (ix2 ⟨t.val * 1024 + (y 0).val, by omega⟩ ⟨(y 1).val, hl⟩ : S8192x128.Idx) := by blk_ext [idx t]
  rw [he]
  refine (congrArg _ hy).trans ?_
  refine point2 _ _ _ _ _ _ _ ?_ ?_
  · blk_simp [iblk, idx t]
    refine (congrFun (V_pos m c) _).trans ((congrArg _ ?_).trans (pos_at _ _ _))
    blk_ext [idx t]
  · blk_simp [iblk, idx t]
    refine (congrFun (V_inv m c) _).trans ((congrArg _ ?_).trans (invs_at _ _))
    blk_ext [idx t]

/-- The sines' block at one point. -/
theorem point3 (P : IVec S8x8192 32) (w : FVec Ideal S16 .f32) (x0 : Vec Ideal S1024x128 .i32) (x1 : Vec Ideal S1x128 .f32) (r : Fin 1024) (l : Fin 128) (R : Fin 8192)
    (h0 : x0 (ix2 r l) = at8 P R l) (h1 : x1 (ix2 0 l) = w (ix1 ⟨l.val % 16, by omega⟩)) :
    out0_3 x0 x1 (ix2 r l) = RS w P (ix2 R l) := by
  rw [RS_at]
  frame_out
  pointwise [k0_pay1, k0_pay3]
  rw [h0, h1]

/-- The sines' array after the run is the reference's term of the positions. -/
theorem final3 (c : Dev nD) : (dats m 0 c).arrAt 3 (cfgs 0).N = RS inv (m ((c : Thread nD τ).loc main_arg0)) := by
  refine (dats m 0 c).arrAt_eq_of_covers 3 _ (by decide +kernel) fun t _ y => ?_
  blk_simp
  rw [after0_3]
  have hN : t.val < 8 := t.isLt
  have hr : (y 0).val < 1024 := (y 0).isLt
  have hl : (y 1).val < 128 := (y 1).isLt
  have hy : y = (ix2 ⟨(y 0).val, hr⟩ ⟨(y 1).val, hl⟩ : S1024x128.Idx) := by blk_ext []
  have he : (win0_3.blk t).view.emb y = (ix2 ⟨t.val * 1024 + (y 0).val, by omega⟩ ⟨(y 1).val, hl⟩ : S8192x128.Idx) := by blk_ext [idx t]
  rw [he]
  refine (congrArg _ hy).trans ?_
  refine point3 _ _ _ _ _ _ _ ?_ ?_
  · blk_simp [iblk, idx t]
    refine (congrFun (V_pos m c) _).trans ((congrArg _ ?_).trans (pos_at _ _ _))
    blk_ext [idx t]
  · blk_simp [iblk, idx t]
    refine (congrFun (V_inv m c) _).trans ((congrArg _ ?_).trans (invs_at _ _))
    blk_ext [idx t]

end Cert.RopeIdeal.RefValue
end
-- ==== Proof.lean ====
/- The claims of this directory, each proved in a theorem of its own and put together in `claim`. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Mkv
public import proofs.«01_k».proof.Proof.Gen.Mkv.Skeleton
public import proofs.«01_k».proof.Proof.Gen.Mkv.Launch
public import proofs.«01_k».proof.Proof.Gen.Mkv.Points
public import proofs.«01_k».proof.Proof.Gen.Mkv.Frame
public import proofs.«01_k».proof.Proof.Gen.MkvIdeal
public import proofs.«01_k».proof.Proof.Gen.MkvIdeal.Skeleton
public import proofs.«01_k».proof.Proof.Gen.MkvIdeal.Launch
public import proofs.«01_k».proof.Proof.Gen.MkvIdeal.Points
public import proofs.«01_k».proof.Proof.Gen.MkvIdeal.Frame
public import proofs.«01_k».proof.Proof.Gen.MkvRefIdeal
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.Pre_finite_arguments
public import proofs.«01_k».proof.Proof.Gen.Pre_finite_mix
public import proofs.«01_k».proof.Proof.Gen.Pre_finite_proj
public import proofs.«01_k».proof.Proof.Gen.AttnIdeal.Value
public import proofs.«01_k».proof.Proof.Gen.AttnRefIdeal.Run
public import proofs.«01_k».proof.Proof.Gen.MlpIdeal.Value
public import proofs.«01_k».proof.Proof.Gen.MlpRefIdeal.Run
public import proofs.«01_k».proof.Proof.Gen.MixIdeal.Value
public import proofs.«01_k».proof.Proof.Gen.MixRefIdeal.Run
public import proofs.«01_k».proof.Proof.Gen.MkvIdeal.Value
public import proofs.«01_k».proof.Proof.Gen.MkvRefIdeal.Run
public import proofs.«01_k».proof.Proof.Gen.InpIdeal.Value
public import proofs.«01_k».proof.Proof.Gen.InpRefIdeal.Run
public import proofs.«01_k».proof.Proof.Gen.RopeRefIdeal.Run
public import proofs.«01_k».proof.Proof.MlpValue
public import proofs.«01_k».proof.Proof.MkvValue
public import proofs.«01_k».proof.Proof.MixClaim
public import proofs.«01_k».proof.Proof.InpClaim
public import proofs.«01_k».proof.Proof.RopeValue
public import proofs.«01_k».proof.Proof.AttnValue
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-! ## The frames: each program ends, faults nowhere, keeps its arguments and leaves every semaphore at zero -/

theorem frame_attn : Cert.quiescent_Attn := fun m ρ _ => Cert.Attn.Gen.frame m ρ
theorem frame_attnIdeal : Cert.quiescent_AttnIdeal := fun m ρ _ => Cert.AttnIdeal.Gen.frame m ρ
theorem frame_attnIdeal_pre : Cert.quiescent_AttnIdeal_pre_finite_arguments := fun m ρ _ => Cert.AttnIdeal.Gen.frame m ρ
theorem frame_attnRefIdeal : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
theorem frame_attnRefIdeal_pre : Cert.quiescent_AttnRefIdeal_pre_finite_arguments := fun m ρ _ => frame_attnRefIdeal m ρ trivial
theorem frame_mlp : Cert.quiescent_Mlp := fun m ρ _ => Cert.Mlp.Gen.frame m ρ
theorem frame_mlpIdeal : Cert.quiescent_MlpIdeal := fun m ρ _ => Cert.MlpIdeal.Gen.frame m ρ
theorem frame_mlpRefIdeal : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)
theorem frame_mix : Cert.quiescent_Mix := fun m ρ _ => Cert.Mix.Gen.frame m ρ
theorem frame_mixIdeal : Cert.quiescent_MixIdeal := fun m ρ _ => Cert.MixIdeal.Gen.frame m ρ
theorem frame_mixIdeal_pre : Cert.quiescent_MixIdeal_pre_finite_mix := fun m ρ _ => Cert.MixIdeal.Gen.frame m ρ
theorem frame_mixRefIdeal : Cert.quiescent_MixRefIdeal := fun m ρ _ =>
  (θ_run Cert.MixRefIdeal.defs _ _).mono (fun r h => ⟨fun c => (h c).2,
      Idealize.ShloMosaic.sem_eq_zero_of_no_sems (by decide) r.2⟩)
    (Cert.MixRefIdeal.Value.run (F := Ideal) m ρ)
theorem frame_mixRefIdeal_pre : Cert.quiescent_MixRefIdeal_pre_finite_mix := fun m ρ _ => frame_mixRefIdeal m ρ trivial
theorem frame_mkv : Cert.quiescent_Mkv := fun m ρ _ => Cert.Mkv.Gen.frame m ρ
theorem frame_mkvIdeal : Cert.quiescent_MkvIdeal := fun m ρ _ => Cert.MkvIdeal.Gen.frame m ρ
theorem frame_mkvRefIdeal : Cert.quiescent_MkvRefIdeal := fun m ρ _ =>
  (θ_run Cert.MkvRefIdeal.defs _ _).mono (fun r h => ⟨fun c => (h c).2.2,
      Idealize.ShloMosaic.sem_eq_zero_of_no_sems (by decide) r.2⟩)
    (Cert.MkvRefIdeal.Value.run (F := Ideal) m ρ)
theorem frame_inp : Cert.quiescent_Inp := fun m ρ _ => Cert.Inp.Gen.frame m ρ
theorem frame_inpIdeal : Cert.quiescent_InpIdeal := fun m ρ _ => Cert.InpIdeal.Gen.frame m ρ
theorem frame_inpIdeal_pre : Cert.quiescent_InpIdeal_pre_finite_proj := fun m ρ _ => Cert.InpIdeal.Gen.frame m ρ
theorem frame_inpRefIdeal : Cert.quiescent_InpRefIdeal := fun m ρ _ =>
  (θ_run Cert.InpRefIdeal.defs _ _).mono (fun r h => ⟨fun c => (h c).2.2.2.2.2,
      Idealize.ShloMosaic.sem_eq_zero_of_no_sems (by decide) r.2⟩)
    (Cert.InpRefIdeal.Value.run (F := Ideal) m ρ)
theorem frame_inpRefIdeal_pre : Cert.quiescent_InpRefIdeal_pre_finite_proj := fun m ρ _ => frame_inpRefIdeal m ρ trivial
theorem frame_rope : Cert.quiescent_Rope := fun m ρ _ => Cert.Rope.Gen.frame m ρ
theorem frame_ropeIdeal : Cert.quiescent_RopeIdeal := fun m ρ _ => Cert.RopeIdeal.Gen.frame m ρ
theorem frame_ropeRefIdeal : Cert.quiescent_RopeRefIdeal := fun m ρ _ =>
  (θ_run Cert.RopeRefIdeal.defs _ _).mono (fun r h => ⟨fun c => (h c).2.2,
      Idealize.ShloMosaic.sem_eq_zero_of_no_sems (by decide) r.2⟩)
    (Cert.RopeRefIdeal.Value.run (F := Ideal) m ρ)

/-! ## The idealizations keep the programs' meaning -/

/-- The attention's mask literal of `-1e30` is the constant named "mask", whose ideal value is minus infinity. -/
theorem preserves_attn : Cert.preserves_Attn_AttnIdeal :=
  IdealRules.named_const.statement Cert.AttnIdeal.κ "mask" .f32 0xF149F2CA#32 ⊥ rfl
theorem preserves_mlp : Cert.preserves_Mlp_MlpIdeal := trivial
theorem preserves_mix : Cert.preserves_Mix_MixIdeal := trivial
theorem preserves_mkv : Cert.preserves_Mkv_MkvIdeal := trivial
theorem preserves_inp : Cert.preserves_Inp_InpIdeal := trivial
theorem preserves_rope : Cert.preserves_Rope_RopeIdeal := trivial

/-! ## The values -/

/-- The feed-forward call's result array is the reference's, at the ideal instance, for every argument. -/
theorem algebraic_mlp : Cert.algebraic_MlpIdeal_MlpRefIdeal := by
  pair_intro
  · run_from Cert.MlpIdeal.Gen.run_main m g
  · run_from Cert.MlpRefIdeal.Value.run m' g'
    rw [Cert.MlpIdeal.RefValue.final m c]
    obtain ⟨h0, h1, h2, h3, h4⟩ := hagree c
    refine (Cert.MlpIdeal.RefValue.ref_eq m' c).trans ?_
    rw [h0, h1, h2, h3, h4]

/-- The attention call's result array is the reference's, at the ideal instance, for finite queries and keys. -/
theorem algebraic_attn : Cert.algebraic_AttnIdeal_AttnRefIdeal_pre_finite_arguments := by
  pair_intro
  · run_from Cert.AttnIdeal.Gen.run_main m g
  · run_from Cert.AttnRefIdeal.Value.run m' g'
    obtain ⟨hq, hk⟩ := Cert.AttnIdeal.RefValue.real_args m hpre c
    rw [Cert.AttnIdeal.RefValue.final m c hq hk]
    obtain ⟨h0, h1, h2⟩ := hagree c
    refine (Cert.AttnRefIdeal.RefValue.ref_eq m' c).trans ?_
    rw [h0, h1, h2]

/-- The memory's keys and values are the reference's, at the ideal instance, for every argument. -/
theorem algebraic_mkv : Cert.algebraic_MkvIdeal_MkvRefIdeal := by
  pair_intro
  · run_from Cert.MkvIdeal.Gen.run_main m g
  · run_from Cert.MkvRefIdeal.Value.run m' g'
    · exact (Cert.MkvIdeal.RefValue.final3 m c).symm
    · exact (Cert.MkvIdeal.RefValue.final4 m c).symm

/-- The rope tables' cosines and sines are the reference's, at the ideal instance, for every array of positions. -/
theorem algebraic_rope : Cert.algebraic_RopeIdeal_RopeRefIdeal := by
  pair_intro
  · run_from Cert.RopeIdeal.Gen.run_main m g
  · run_from Cert.RopeRefIdeal.Value.run m' g'
    · exact (Cert.RopeIdeal.RefValue.final2 m c).symm
    · exact (Cert.RopeIdeal.RefValue.final3 m c).symm

/-- Every claim of this directory. -/
theorem claim : Cert.Claim := ⟨Cert.Attn.Gen.facts, Cert.AttnIdeal.Gen.facts, Cert.AttnRefIdeal.Gen.facts, Cert.Mlp.Gen.facts, Cert.MlpIdeal.Gen.facts, Cert.MlpRefIdeal.Gen.facts, Cert.Mix.Gen.facts, Cert.MixIdeal.Gen.facts, Cert.MixRefIdeal.Gen.facts, Cert.Mkv.Gen.facts, Cert.MkvIdeal.Gen.facts, Cert.MkvRefIdeal.Gen.facts, Cert.Inp.Gen.facts, Cert.InpIdeal.Gen.facts, Cert.InpRefIdeal.Gen.facts, Cert.Rope.Gen.facts, Cert.RopeIdeal.Gen.facts, Cert.RopeRefIdeal.Gen.facts, Cert.Pre_finite_arguments.Gen.facts, Cert.Pre_finite_mix.Gen.facts, Cert.Pre_finite_proj.Gen.facts,
  frame_attn, frame_attnIdeal, frame_attnIdeal_pre, frame_attnRefIdeal, frame_attnRefIdeal_pre, frame_mlp, frame_mlpIdeal, frame_mlpRefIdeal, frame_mix, frame_mixIdeal, frame_mixIdeal_pre, frame_mixRefIdeal, frame_mixRefIdeal_pre, frame_mkv, frame_mkvIdeal, frame_mkvRefIdeal, frame_inp, frame_inpIdeal, frame_inpIdeal_pre, frame_inpRefIdeal, frame_inpRefIdeal_pre, frame_rope, frame_ropeIdeal, frame_ropeRefIdeal,
  preserves_attn, algebraic_attn, preserves_mlp, algebraic_mlp, preserves_mix, algebraic_mix, preserves_mkv, algebraic_mkv, preserves_inp, algebraic_inp, preserves_rope, algebraic_rope⟩

end Cert.Proof

end
